-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_len" .f32 0x3CA3D70A#32 ((50⁻¹ : ℝ) : EReal)

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S4096x50 : Shape := ⟨2, ![4096, 50]⟩
abbrev S1000000x300 : Shape := ⟨2, ![1000000, 300]⟩
abbrev S300x128 : Shape := ⟨2, ![300, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S4096x50 : S_.BroadcastsInDim S4096x50 (![] : Fin 0 → Fin S4096x50.rank)

variable [Facts]

def fn {F : FTy → Type} [FloatOps F] (main_arg0 : IVec S4096x50 32) (main_arg1 : FVec F S1000000x300 .f32) (main_arg2 : FVec F S300x128 .f32) (main_arg3 : FVec F S128 .f32) (main_arg4 : FVec F S128x64 .f32) (main_arg5 : FVec F S64 .f32) (main_arg6 : FVec F S64x16 .f32) (main_arg7 : FVec F S16 .f32) (main_arg8 : FVec F S16x1 .f32) (main_arg9 : FVec F S1 .f32) : IVec S4096x50 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 1000000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  main_v4
-- ==== Kernel.lean ====
abbrev S4096x50 : Shape := ⟨2, ![4096, 50]⟩
abbrev S1000000x300 : Shape := ⟨2, ![1000000, 300]⟩
abbrev S300x128 : Shape := ⟨2, ![300, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1000000x128 : Shape := ⟨2, ![1000000, 128]⟩
abbrev S4000x128 : Shape := ⟨2, ![4000, 128]⟩
abbrev S4000x44 : Shape := ⟨2, ![4000, 44]⟩
abbrev S4000x84 : Shape := ⟨2, ![4000, 84]⟩
abbrev S4096x304 : Shape := ⟨2, ![4096, 304]⟩
abbrev S128x50 : Shape := ⟨2, ![128, 50]⟩
abbrev S50x128 : Shape := ⟨2, ![50, 128]⟩
abbrev S4x304 : Shape := ⟨2, ![4, 304]⟩
abbrev S_ : Shape := ⟨0, ![]⟩
abbrev S1x50 : Shape := ⟨2, ![1, 50]⟩
abbrev S50 : Shape := ⟨1, ![50]⟩
abbrev S1x16 : Shape := ⟨2, ![1, 16]⟩
abbrev S304x128 : Shape := ⟨2, ![304, 128]⟩
abbrev S1x128 : Shape := ⟨2, ![1, 128]⟩
abbrev S1x64 : Shape := ⟨2, ![1, 64]⟩
abbrev S1x1 : Shape := ⟨2, ![1, 1]⟩
abbrev S4096x1 : Shape := ⟨2, ![4096, 1]⟩
abbrev S4096x128 : Shape := ⟨2, ![4096, 128]⟩
abbrev S4096x64 : Shape := ⟨2, ![4096, 64]⟩
abbrev S4096x16 : Shape := ⟨2, ![4096, 16]⟩

abbrev nBuf : Table → Nat
  | .hbm => 20
  | .local .tc .vmem => 14
  | .local .scVector .vmem => 14
  | _ => 0

abbrev bufTy : (tb : Table) → Fin (nBuf tb) → BufTy
  | .hbm, ⟨0, _⟩ => ⟨S4096x50, .i32⟩
  | .hbm, ⟨1, _⟩ => ⟨S1000000x300, .f32⟩
  | .hbm, ⟨2, _⟩ => ⟨S300x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S1000000x128, .f32⟩
  | .hbm, ⟨11, _⟩ => ⟨S4096x304, .f32⟩
  | .hbm, ⟨12, _⟩ => ⟨S_, .i32⟩
  | .hbm, ⟨13, _⟩ => ⟨S_, .f32⟩
  | .hbm, ⟨14, _⟩ => ⟨S304x128, .f32⟩
  | .hbm, ⟨15, _⟩ => ⟨S1x128, .f32⟩
  | .hbm, ⟨16, _⟩ => ⟨S1x64, .f32⟩
  | .hbm, ⟨17, _⟩ => ⟨S1x16, .f32⟩
  | .hbm, ⟨18, _⟩ => ⟨S1x1, .f32⟩
  | .hbm, ⟨19, _⟩ => ⟨S4096x1, .f32⟩
  | .local .tc .vmem, ⟨0, _⟩ => ⟨S4000x128, .f32⟩
  | .local .tc .vmem, ⟨1, _⟩ => ⟨S4000x128, .f32⟩
  | .local .tc .vmem, ⟨2, _⟩ => ⟨S4000x128, .f32⟩
  | .local .tc .vmem, ⟨3, _⟩ => ⟨S4000x128, .f32⟩
  | .local .tc .vmem, ⟨4, _⟩ => ⟨S4096x304, .f32⟩
  | .local .tc .vmem, ⟨5, _⟩ => ⟨S304x128, .f32⟩
  | .local .tc .vmem, ⟨6, _⟩ => ⟨S1x128, .f32⟩
  | .local .tc .vmem, ⟨7, _⟩ => ⟨S128x64, .f32⟩
  | .local .tc .vmem, ⟨8, _⟩ => ⟨S1x64, .f32⟩
  | .local .tc .vmem, ⟨9, _⟩ => ⟨S64x16, .f32⟩
  | .local .tc .vmem, ⟨10, _⟩ => ⟨S1x16, .f32⟩
  | .local .tc .vmem, ⟨11, _⟩ => ⟨S16x1, .f32⟩
  | .local .tc .vmem, ⟨12, _⟩ => ⟨S1x1, .f32⟩
  | .local .tc .vmem, ⟨13, _⟩ => ⟨S4096x1, .f32⟩
  | .local .scVector .vmem, ⟨0, _⟩ => ⟨S128x50, .i32⟩
  | .local .scVector .vmem, ⟨1, _⟩ => ⟨S50x128, .f32⟩
  | .local .scVector .vmem, ⟨2, _⟩ => ⟨S50x128, .f32⟩
  | .local .scVector .vmem, ⟨3, _⟩ => ⟨S50x128, .f32⟩
  | .local .scVector .vmem, ⟨4, _⟩ => ⟨S50x128, .f32⟩
  | .local .scVector .vmem, ⟨5, _⟩ => ⟨S50x128, .f32⟩
  | .local .scVector .vmem, ⟨6, _⟩ => ⟨S50x128, .f32⟩
  | .local .scVector .vmem, ⟨7, _⟩ => ⟨S50x128, .f32⟩
  | .local .scVector .vmem, ⟨8, _⟩ => ⟨S50x128, .f32⟩
  | .local .scVector .vmem, ⟨9, _⟩ => ⟨S50x128, .f32⟩
  | .local .scVector .vmem, ⟨10, _⟩ => ⟨S50x128, .f32⟩
  | .local .scVector .vmem, ⟨11, _⟩ => ⟨S50x128, .f32⟩
  | .local .scVector .vmem, ⟨12, _⟩ => ⟨S50x128, .f32⟩
  | .local .scVector .vmem, ⟨13, _⟩ => ⟨S4x304, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_arg0_scv : Ref sig .scVector := ⟨.hbm, 0, rfl⟩
abbrev main_arg1_scv : Ref sig .scVector := ⟨.hbm, 1, rfl⟩
abbrev main_v0_scv : Ref sig .scVector := ⟨.hbm, 10, rfl⟩
abbrev main_v1_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc2_stg8_0 : Ref sig .tc := ⟨.vmem, 12, rfl⟩
abbrev cc2_stg9_0 : Ref sig .tc := ⟨.vmem, 13, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc1_scratch13 : Ref sig .scVector := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_38_r0 : BitVec 32 := 0#32
  ![v2.toNat, 0]
@[reducible] def k1_t1_loop : Scf.Loop 32 :=
  let c0_i32_35 : BitVec 32 := 0#32
  let c32_i32 : BitVec 32 := 32#32
  let v30 : BitVec 32 := Scalar.addi c0_i32_35 c32_i32
  let c1_i32_36 : BitVec 32 := 1#32
  ⟨c0_i32_35, v30, c1_i32_36⟩
def k1_cond1 (k1_t1 : Fin k1_t1_loop.trips) : BitVec 1 :=
  let c0_i32_35 : BitVec 32 := 0#32
  let c1_i32_36 : BitVec 32 := 1#32
  let arg24 : BitVec 32 := Scf.iv c0_i32_35 c1_i32_36 k1_t1
  let c4_i32 : BitVec 32 := 4#32
  let v31 : BitVec 32 := Scalar.muli arg24 c4_i32
  let c0_i32_38 : BitVec 32 := 0#32
  let v32 : BitVec 32 := Scalar.addi v31 c0_i32_38
  let c3_i32 : BitVec 32 := 3#32
  let v33 : BitVec 32 := Scalar.addi v32 c3_i32
  let c128_i32_39 : BitVec 32 := 128#32
  let v34 : BitVec 1 := Scalar.cmpi .slt v33 c128_i32_39
  let v35 : BitVec 32 := Scalar.extui v34
  let c0_i32_40 : BitVec 32 := 0#32
  let v36 : BitVec 1 := Scalar.cmpi .ne v35 c0_i32_40
  v36

def k1_off2 (k1_t1 : Fin k1_t1_loop.trips) : Fin 2 → Nat :=
  let c0_i32_35 : BitVec 32 := 0#32
  let c1_i32_36 : BitVec 32 := 1#32
  let arg24 : BitVec 32 := Scf.iv c0_i32_35 c1_i32_36 k1_t1
  let c4_i32 : BitVec 32 := 4#32
  let v31 : BitVec 32 := Scalar.muli arg24 c4_i32
  let c0_i32_38 : BitVec 32 := 0#32
  let v32 : BitVec 32 := Scalar.addi v31 c0_i32_38
  let c3_i32 : BitVec 32 := 3#32
  let v33 : BitVec 32 := Scalar.addi v32 c3_i32
  let c0_i32_392 : BitVec 32 := 0#32
  ![v33.toNat, 0]
def k1_off3 (k1_t1 : Fin k1_t1_loop.trips) (c0_i32_38 : BitVec 32) : Fin 2 → Nat :=
  let c0_i32_35 : BitVec 32 := 0#32
  let c1_i32_36 : BitVec 32 := 1#32
  let arg24 : BitVec 32 := Scf.iv c0_i32_35 c1_i32_36 k1_t1
  let c4_i32 : BitVec 32 := 4#32
  let v31 : BitVec 32 := Scalar.muli arg24 c4_i32
  let v32 : BitVec 32 := Scalar.addi v31 c0_i32_38
  let c0_i32_41 : BitVec 32 := 0#32
  ![v32.toNat, 0]
@[reducible] def k1_t2_loop : Scf.Loop 32 :=
  let c0_i32_68 : BitVec 32 := 0#32
  let c50_i32 : BitVec 32 := 50#32
  let v65 : BitVec 32 := Scalar.addi c0_i32_68 c50_i32
  let c1_i32_69 : BitVec 32 := 1#32
  ⟨c0_i32_68, v65, c1_i32_69⟩
def k1_off4 (k1_t2 : Fin k1_t2_loop.trips) : Fin 2 → Nat :=
  let c0_i32_68 : BitVec 32 := 0#32
  let c1_i32_69 : BitVec 32 := 1#32
  let arg25 : BitVec 32 := Scf.iv c0_i32_68 c1_i32_69 k1_t2
  let v633 : Index := Scalar.indexCast arg25
  let c0_392 : Index := 0#32
  ![v633.toNat, 0]
def k1_off5 (k1_t2 : Fin k1_t2_loop.trips) : Fin 2 → Nat :=
  let c0_i32_68 : BitVec 32 := 0#32
  let c1_i32_69 : BitVec 32 := 1#32
  let arg25 : BitVec 32 := Scf.iv c0_i32_68 c1_i32_69 k1_t2
  let v637 : Index := Scalar.indexCast arg25
  let c16_393 : Index := 16#32
  ![v637.toNat, 16]
def k1_off6 (k1_t2 : Fin k1_t2_loop.trips) : Fin 2 → Nat :=
  let c0_i32_68 : BitVec 32 := 0#32
  let c1_i32_69 : BitVec 32 := 1#32
  let arg25 : BitVec 32 := Scf.iv c0_i32_68 c1_i32_69 k1_t2
  let v641 : Index := Scalar.indexCast arg25
  let c32_394 : Index := 32#32
  ![v641.toNat, 32]
def k1_off7 (k1_t2 : Fin k1_t2_loop.trips) : Fin 2 → Nat :=
  let c0_i32_68 : BitVec 32 := 0#32
  let c1_i32_69 : BitVec 32 := 1#32
  let arg25 : BitVec 32 := Scf.iv c0_i32_68 c1_i32_69 k1_t2
  let v645 : Index := Scalar.indexCast arg25
  let c48_395 : Index := 48#32
  ![v645.toNat, 48]
def k1_off8 (k1_t2 : Fin k1_t2_loop.trips) : Fin 2 → Nat :=
  let c0_i32_68 : BitVec 32 := 0#32
  let c1_i32_69 : BitVec 32 := 1#32
  let arg25 : BitVec 32 := Scf.iv c0_i32_68 c1_i32_69 k1_t2
  let v649 : Index := Scalar.indexCast arg25
  let c64_396 : Index := 64#32
  ![v649.toNat, 64]
def k1_off9 (k1_t2 : Fin k1_t2_loop.trips) : Fin 2 → Nat :=
  let c0_i32_68 : BitVec 32 := 0#32
  let c1_i32_69 : BitVec 32 := 1#32
  let arg25 : BitVec 32 := Scf.iv c0_i32_68 c1_i32_69 k1_t2
  let v653 : Index := Scalar.indexCast arg25
  let c80_397 : Index := 80#32
  ![v653.toNat, 80]
def k1_off10 (k1_t2 : Fin k1_t2_loop.trips) : Fin 2 → Nat :=
  let c0_i32_68 : BitVec 32 := 0#32
  let c1_i32_69 : BitVec 32 := 1#32
  let arg25 : BitVec 32 := Scf.iv c0_i32_68 c1_i32_69 k1_t2
  let v657 : Index := Scalar.indexCast arg25
  let c96_398 : Index := 96#32
  ![v657.toNat, 96]
def k1_off11 (k1_t2 : Fin k1_t2_loop.trips) : Fin 2 → Nat :=
  let c0_i32_68 : BitVec 32 := 0#32
  let c1_i32_69 : BitVec 32 := 1#32
  let arg25 : BitVec 32 := Scf.iv c0_i32_68 c1_i32_69 k1_t2
  let v661 : Index := Scalar.indexCast arg25
  let c112_399 : Index := 112#32
  ![v661.toNat, 112]
def k1_cond2 (k1_t1 : Fin k1_t1_loop.trips) : BitVec 1 :=
  let c0_i32_35 : BitVec 32 := 0#32
  let c1_i32_36 : BitVec 32 := 1#32
  let arg24 : BitVec 32 := Scf.iv c0_i32_35 c1_i32_36 k1_t1
  let c4_i32_109 : BitVec 32 := 4#32
  let v181 : BitVec 32 := Scalar.muli arg24 c4_i32_109
  let c1_i32_110 : BitVec 32 := 1#32
  let v182 : BitVec 32 := Scalar.addi v181 c1_i32_110
  let c3_i32_111 : BitVec 32 := 3#32
  let v183 : BitVec 32 := Scalar.addi v182 c3_i32_111
  let c128_i32_112 : BitVec 32 := 128#32
  let v184 : BitVec 1 := Scalar.cmpi .slt v183 c128_i32_112
  let v185 : BitVec 32 := Scalar.extui v184
  let c0_i32_113 : BitVec 32 := 0#32
  let v186 : BitVec 1 := Scalar.cmpi .ne v185 c0_i32_113
  v186

def k1_off12 (k1_t1 : Fin k1_t1_loop.trips) : Fin 2 → Nat :=
  let c0_i32_35 : BitVec 32 := 0#32
  let c1_i32_36 : BitVec 32 := 1#32
  let arg24 : BitVec 32 := Scf.iv c0_i32_35 c1_i32_36 k1_t1
  let c4_i32_109 : BitVec 32 := 4#32
  let v181 : BitVec 32 := Scalar.muli arg24 c4_i32_109
  let c1_i32_110 : BitVec 32 := 1#32
  let v182 : BitVec 32 := Scalar.addi v181 c1_i32_110
  let c3_i32_111 : BitVec 32 := 3#32
  let v183 : BitVec 32 := Scalar.addi v182 c3_i32_111
  let c0_i32_392 : BitVec 32 := 0#32
  ![v183.toNat, 0]
@[reducible] def k1_t3_loop : Scf.Loop 32 :=
  let c0_i32_142 : BitVec 32 := 0#32
  let c50_i32_143 : BitVec 32 := 50#32
  let v215 : BitVec 32 := Scalar.addi c0_i32_142 c50_i32_143
  let c1_i32_144 : BitVec 32 := 1#32
  ⟨c0_i32_142, v215, c1_i32_144⟩
def k1_off13 (k1_t3 : Fin k1_t3_loop.trips) : Fin 2 → Nat :=
  let c0_i32_142 : BitVec 32 := 0#32
  let c1_i32_144 : BitVec 32 := 1#32
  let arg25 : BitVec 32 := Scf.iv c0_i32_142 c1_i32_144 k1_t3
  let v633 : Index := Scalar.indexCast arg25
  let c0_392 : Index := 0#32
  ![v633.toNat, 0]
def k1_off14 (k1_t3 : Fin k1_t3_loop.trips) : Fin 2 → Nat :=
  let c0_i32_142 : BitVec 32 := 0#32
  let c1_i32_144 : BitVec 32 := 1#32
  let arg25 : BitVec 32 := Scf.iv c0_i32_142 c1_i32_144 k1_t3
  let v637 : Index := Scalar.indexCast arg25
  let c16_393 : Index := 16#32
  ![v637.toNat, 16]
def k1_off15 (k1_t3 : Fin k1_t3_loop.trips) : Fin 2 → Nat :=
  let c0_i32_142 : BitVec 32 := 0#32
  let c1_i32_144 : BitVec 32 := 1#32
  let arg25 : BitVec 32 := Scf.iv c0_i32_142 c1_i32_144 k1_t3
  let v641 : Index := Scalar.indexCast arg25
  let c32_394 : Index := 32#32
  ![v641.toNat, 32]
def k1_off16 (k1_t3 : Fin k1_t3_loop.trips) : Fin 2 → Nat :=
  let c0_i32_142 : BitVec 32 := 0#32
  let c1_i32_144 : BitVec 32 := 1#32
  let arg25 : BitVec 32 := Scf.iv c0_i32_142 c1_i32_144 k1_t3
  let v645 : Index := Scalar.indexCast arg25
  let c48_395 : Index := 48#32
  ![v645.toNat, 48]
def k1_off17 (k1_t3 : Fin k1_t3_loop.trips) : Fin 2 → Nat :=
  let c0_i32_142 : BitVec 32 := 0#32
  let c1_i32_144 : BitVec 32 := 1#32
  let arg25 : BitVec 32 := Scf.iv c0_i32_142 c1_i32_144 k1_t3
  let v649 : Index := Scalar.indexCast arg25
  let c64_396 : Index := 64#32
  ![v649.toNat, 64]
def k1_off18 (k1_t3 : Fin k1_t3_loop.trips) : Fin 2 → Nat :=
  let c0_i32_142 : BitVec 32 := 0#32
  let c1_i32_144 : BitVec 32 := 1#32
  let arg25 : BitVec 32 := Scf.iv c0_i32_142 c1_i32_144 k1_t3
  let v653 : Index := Scalar.indexCast arg25
  let c80_397 : Index := 80#32
  ![v653.toNat, 80]
def k1_off19 (k1_t3 : Fin k1_t3_loop.trips) : Fin 2 → Nat :=
  let c0_i32_142 : BitVec 32 := 0#32
  let c1_i32_144 : BitVec 32 := 1#32
  let arg25 : BitVec 32 := Scf.iv c0_i32_142 c1_i32_144 k1_t3
  let v657 : Index := Scalar.indexCast arg25
  let c96_398 : Index := 96#32
  ![v657.toNat, 96]
def k1_off20 (k1_t3 : Fin k1_t3_loop.trips) : Fin 2 → Nat :=
  let c0_i32_142 : BitVec 32 := 0#32
  let c1_i32_144 : BitVec 32 := 1#32
  let arg25 : BitVec 32 := Scf.iv c0_i32_142 c1_i32_144 k1_t3
  let v661 : Index := Scalar.indexCast arg25
  let c112_399 : Index := 112#32
  ![v661.toNat, 112]
def k1_cond3 (k1_t1 : Fin k1_t1_loop.trips) : BitVec 1 :=
  let c0_i32_35 : BitVec 32 := 0#32
  let c1_i32_36 : BitVec 32 := 1#32
  let arg24 : BitVec 32 := Scf.iv c0_i32_35 c1_i32_36 k1_t1
  let c4_i32_203 : BitVec 32 := 4#32
  let v331 : BitVec 32 := Scalar.muli arg24 c4_i32_203
  let c2_i32_204 : BitVec 32 := 2#32
  let v332 : BitVec 32 := Scalar.addi v331 c2_i32_204
  let c3_i32_205 : BitVec 32 := 3#32
  let v333 : BitVec 32 := Scalar.addi v332 c3_i32_205
  let c128_i32_206 : BitVec 32 := 128#32
  let v334 : BitVec 1 := Scalar.cmpi .slt v333 c128_i32_206
  let v335 : BitVec 32 := Scalar.extui v334
  let c0_i32_207 : BitVec 32 := 0#32
  let v336 : BitVec 1 := Scalar.cmpi .ne v335 c0_i32_207
  v336

def k1_off21 (k1_t1 : Fin k1_t1_loop.trips) : Fin 2 → Nat :=
  let c0_i32_35 : BitVec 32 := 0#32
  let c1_i32_36 : BitVec 32 := 1#32
  let arg24 : BitVec 32 := Scf.iv c0_i32_35 c1_i32_36 k1_t1
  let c4_i32_203 : BitVec 32 := 4#32
  let v331 : BitVec 32 := Scalar.muli arg24 c4_i32_203
  let c2_i32_204 : BitVec 32 := 2#32
  let v332 : BitVec 32 := Scalar.addi v331 c2_i32_204
  let c3_i32_205 : BitVec 32 := 3#32
  let v333 : BitVec 32 := Scalar.addi v332 c3_i32_205
  let c0_i32_392 : BitVec 32 := 0#32
  ![v333.toNat, 0]
@[reducible] def k1_t4_loop : Scf.Loop 32 :=
  let c0_i32_236 : BitVec 32 := 0#32
  let c50_i32_237 : BitVec 32 := 50#32
  let v365 : BitVec 32 := Scalar.addi c0_i32_236 c50_i32_237
  let c1_i32_238 : BitVec 32 := 1#32
  ⟨c0_i32_236, v365, c1_i32_238⟩
def k1_off22 (k1_t4 : Fin k1_t4_loop.trips) : Fin 2 → Nat :=
  let c0_i32_236 : BitVec 32 := 0#32
  let c1_i32_238 : BitVec 32 := 1#32
  let arg25 : BitVec 32 := Scf.iv c0_i32_236 c1_i32_238 k1_t4
  let v633 : Index := Scalar.indexCast arg25
  let c0_392 : Index := 0#32
  ![v633.toNat, 0]
def k1_off23 (k1_t4 : Fin k1_t4_loop.trips) : Fin 2 → Nat :=
  let c0_i32_236 : BitVec 32 := 0#32
  let c1_i32_238 : BitVec 32 := 1#32
  let arg25 : BitVec 32 := Scf.iv c0_i32_236 c1_i32_238 k1_t4
  let v637 : Index := Scalar.indexCast arg25
  let c16_393 : Index := 16#32
  ![v637.toNat, 16]
def k1_off24 (k1_t4 : Fin k1_t4_loop.trips) : Fin 2 → Nat :=
  let c0_i32_236 : BitVec 32 := 0#32
  let c1_i32_238 : BitVec 32 := 1#32
  let arg25 : BitVec 32 := Scf.iv c0_i32_236 c1_i32_238 k1_t4
  let v641 : Index := Scalar.indexCast arg25
  let c32_394 : Index := 32#32
  ![v641.toNat, 32]
def k1_off25 (k1_t4 : Fin k1_t4_loop.trips) : Fin 2 → Nat :=
  let c0_i32_236 : BitVec 32 := 0#32
  let c1_i32_238 : BitVec 32 := 1#32
  let arg25 : BitVec 32 := Scf.iv c0_i32_236 c1_i32_238 k1_t4
  let v645 : Index := Scalar.indexCast arg25
  let c48_395 : Index := 48#32
  ![v645.toNat, 48]
def k1_off26 (k1_t4 : Fin k1_t4_loop.trips) : Fin 2 → Nat :=
  let c0_i32_236 : BitVec 32 := 0#32
  let c1_i32_238 : BitVec 32 := 1#32
  let arg25 : BitVec 32 := Scf.iv c0_i32_236 c1_i32_238 k1_t4
  let v649 : Index := Scalar.indexCast arg25
  let c64_396 : Index := 64#32
  ![v649.toNat, 64]
def k1_off27 (k1_t4 : Fin k1_t4_loop.trips) : Fin 2 → Nat :=
  let c0_i32_236 : BitVec 32 := 0#32
  let c1_i32_238 : BitVec 32 := 1#32
  let arg25 : BitVec 32 := Scf.iv c0_i32_236 c1_i32_238 k1_t4
  let v653 : Index := Scalar.indexCast arg25
  let c80_397 : Index := 80#32
  ![v653.toNat, 80]
def k1_off28 (k1_t4 : Fin k1_t4_loop.trips) : Fin 2 → Nat :=
  let c0_i32_236 : BitVec 32 := 0#32
  let c1_i32_238 : BitVec 32 := 1#32
  let arg25 : BitVec 32 := Scf.iv c0_i32_236 c1_i32_238 k1_t4
  let v657 : Index := Scalar.indexCast arg25
  let c96_398 : Index := 96#32
  ![v657.toNat, 96]
def k1_off29 (k1_t4 : Fin k1_t4_loop.trips) : Fin 2 → Nat :=
  let c0_i32_236 : BitVec 32 := 0#32
  let c1_i32_238 : BitVec 32 := 1#32
  let arg25 : BitVec 32 := Scf.iv c0_i32_236 c1_i32_238 k1_t4
  let v661 : Index := Scalar.indexCast arg25
  let c112_399 : Index := 112#32
  ![v661.toNat, 112]
def k1_cond4 (k1_t1 : Fin k1_t1_loop.trips) : BitVec 1 :=
  let c0_i32_35 : BitVec 32 := 0#32
  let c1_i32_36 : BitVec 32 := 1#32
  let arg24 : BitVec 32 := Scf.iv c0_i32_35 c1_i32_36 k1_t1
  let c4_i32_297 : BitVec 32 := 4#32
  let v481 : BitVec 32 := Scalar.muli arg24 c4_i32_297
  let c3_i32_298 : BitVec 32 := 3#32
  let v482 : BitVec 32 := Scalar.addi v481 c3_i32_298
  let c3_i32_299 : BitVec 32 := 3#32
  let v483 : BitVec 32 := Scalar.addi v482 c3_i32_299
  let c128_i32_300 : BitVec 32 := 128#32
  let v484 : BitVec 1 := Scalar.cmpi .slt v483 c128_i32_300
  let v485 : BitVec 32 := Scalar.extui v484
  let c0_i32_301 : BitVec 32 := 0#32
  let v486 : BitVec 1 := Scalar.cmpi .ne v485 c0_i32_301
  v486

def k1_off30 (k1_t1 : Fin k1_t1_loop.trips) : Fin 2 → Nat :=
  let c0_i32_35 : BitVec 32 := 0#32
  let c1_i32_36 : BitVec 32 := 1#32
  let arg24 : BitVec 32 := Scf.iv c0_i32_35 c1_i32_36 k1_t1
  let c4_i32_297 : BitVec 32 := 4#32
  let v481 : BitVec 32 := Scalar.muli arg24 c4_i32_297
  let c3_i32_298 : BitVec 32 := 3#32
  let v482 : BitVec 32 := Scalar.addi v481 c3_i32_298
  let c3_i32_299 : BitVec 32 := 3#32
  let v483 : BitVec 32 := Scalar.addi v482 c3_i32_299
  let c0_i32_392 : BitVec 32 := 0#32
  ![v483.toNat, 0]
@[reducible] def k1_t5_loop : Scf.Loop 32 :=
  let c0_i32_330 : BitVec 32 := 0#32
  let c50_i32_331 : BitVec 32 := 50#32
  let v515 : BitVec 32 := Scalar.addi c0_i32_330 c50_i32_331
  let c1_i32_332 : BitVec 32 := 1#32
  ⟨c0_i32_330, v515, c1_i32_332⟩
def k1_off31 (k1_t5 : Fin k1_t5_loop.trips) : Fin 2 → Nat :=
  let c0_i32_330 : BitVec 32 := 0#32
  let c1_i32_332 : BitVec 32 := 1#32
  let arg25 : BitVec 32 := Scf.iv c0_i32_330 c1_i32_332 k1_t5
  let v633 : Index := Scalar.indexCast arg25
  let c0_392 : Index := 0#32
  ![v633.toNat, 0]
def k1_off32 (k1_t5 : Fin k1_t5_loop.trips) : Fin 2 → Nat :=
  let c0_i32_330 : BitVec 32 := 0#32
  let c1_i32_332 : BitVec 32 := 1#32
  let arg25 : BitVec 32 := Scf.iv c0_i32_330 c1_i32_332 k1_t5
  let v637 : Index := Scalar.indexCast arg25
  let c16_393 : Index := 16#32
  ![v637.toNat, 16]
def k1_off33 (k1_t5 : Fin k1_t5_loop.trips) : Fin 2 → Nat :=
  let c0_i32_330 : BitVec 32 := 0#32
  let c1_i32_332 : BitVec 32 := 1#32
  let arg25 : BitVec 32 := Scf.iv c0_i32_330 c1_i32_332 k1_t5
  let v641 : Index := Scalar.indexCast arg25
  let c32_394 : Index := 32#32
  ![v641.toNat, 32]
def k1_off34 (k1_t5 : Fin k1_t5_loop.trips) : Fin 2 → Nat :=
  let c0_i32_330 : BitVec 32 := 0#32
  let c1_i32_332 : BitVec 32 := 1#32
  let arg25 : BitVec 32 := Scf.iv c0_i32_330 c1_i32_332 k1_t5
  let v645 : Index := Scalar.indexCast arg25
  let c48_395 : Index := 48#32
  ![v645.toNat, 48]
def k1_off35 (k1_t5 : Fin k1_t5_loop.trips) : Fin 2 → Nat :=
  let c0_i32_330 : BitVec 32 := 0#32
  let c1_i32_332 : BitVec 32 := 1#32
  let arg25 : BitVec 32 := Scf.iv c0_i32_330 c1_i32_332 k1_t5
  let v649 : Index := Scalar.indexCast arg25
  let c64_396 : Index := 64#32
  ![v649.toNat, 64]
def k1_off36 (k1_t5 : Fin k1_t5_loop.trips) : Fin 2 → Nat :=
  let c0_i32_330 : BitVec 32 := 0#32
  let c1_i32_332 : BitVec 32 := 1#32
  let arg25 : BitVec 32 := Scf.iv c0_i32_330 c1_i32_332 k1_t5
  let v653 : Index := Scalar.indexCast arg25
  let c80_397 : Index := 80#32
  ![v653.toNat, 80]
def k1_off37 (k1_t5 : Fin k1_t5_loop.trips) : Fin 2 → Nat :=
  let c0_i32_330 : BitVec 32 := 0#32
  let c1_i32_332 : BitVec 32 := 1#32
  let arg25 : BitVec 32 := Scf.iv c0_i32_330 c1_i32_332 k1_t5
  let v657 : Index := Scalar.indexCast arg25
  let c96_398 : Index := 96#32
  ![v657.toNat, 96]
def k1_off38 (k1_t5 : Fin k1_t5_loop.trips) : Fin 2 → Nat :=
  let c0_i32_330 : BitVec 32 := 0#32
  let c1_i32_332 : BitVec 32 := 1#32
  let arg25 : BitVec 32 := Scf.iv c0_i32_330 c1_i32_332 k1_t5
  let v661 : Index := Scalar.indexCast arg25
  let c112_399 : Index := 112#32
  ![v661.toNat, 112]
def k1_off39 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_35 : BitVec 32 := 0#32
  let c1_i32_36 : BitVec 32 := 1#32
  let arg24 : BitVec 32 := Scf.iv c0_i32_35 c1_i32_36 k1_t1
  let c4_i32_391 : BitVec 32 := 4#32
  let v631 : BitVec 32 := Scalar.muli arg24 c4_i32_391
  let v632 : BitVec 32 := Scalar.addi v2 v631
  let c0_i32_392_r1 : BitVec 32 := 0#32
  ![v632.toNat, 0]
abbrev grid2 : Pipeline.Grid := .none

abbrev stage2_0 : Fin 1 → Memref sig .tc .vmem S4096x304 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S304x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S16x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S4096x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_len" => some ((50⁻¹ : ℝ) : EReal)
  | _ => none
-- ==== ReferenceIdeal.lean ====
abbrev S4096x50 : Shape := ⟨2, ![4096, 50]⟩
abbrev S1000000x300 : Shape := ⟨2, ![1000000, 300]⟩
abbrev S300x128 : Shape := ⟨2, ![300, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩
abbrev S4096x50x1 : Shape := ⟨3, ![4096, 50, 1]⟩
abbrev S1x1x1 : Shape := ⟨3, ![1, 1, 1]⟩
abbrev S4096x50x300 : Shape := ⟨3, ![4096, 50, 300]⟩
abbrev S4096x300 : Shape := ⟨2, ![4096, 300]⟩
abbrev S4096x128 : Shape := ⟨2, ![4096, 128]⟩
abbrev S1x128 : Shape := ⟨2, ![1, 128]⟩
abbrev S4096x64 : Shape := ⟨2, ![4096, 64]⟩
abbrev S1x64 : Shape := ⟨2, ![1, 64]⟩
abbrev S4096x16 : Shape := ⟨2, ![4096, 16]⟩
abbrev S1x16 : Shape := ⟨2, ![1, 16]⟩
abbrev S4096x1 : Shape := ⟨2, ![4096, 1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000000x300, .f32⟩
  | .hbm, ⟨2, _⟩ => ⟨S300x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S_, .i32⟩
  | .hbm, ⟨11, _⟩ => ⟨S4096x50, .i32⟩
  | .hbm, ⟨12, _⟩ => ⟨S4096x50, .i1⟩
  | .hbm, ⟨13, _⟩ => ⟨S_, .i32⟩
  | .hbm, ⟨14, _⟩ => ⟨S4096x50, .i32⟩
  | .hbm, ⟨15, _⟩ => ⟨S4096x50, .i32⟩
  | .hbm, ⟨16, _⟩ => ⟨S4096x50, .i32⟩
  | .hbm, ⟨17, _⟩ => ⟨S4096x50x1, .i32⟩
  | .hbm, ⟨18, _⟩ => ⟨S1, .i32⟩
  | .hbm, ⟨19, _⟩ => ⟨S_, .i32⟩
  | .hbm, ⟨20, _⟩ => ⟨S4096x50x1, .i32⟩
  | .hbm, ⟨21, _⟩ => ⟨S4096x50x1, .i1⟩
  | .hbm, ⟨22, _⟩ => ⟨S1x1x1, .i32⟩
  | .hbm, ⟨23, _⟩ => ⟨S4096x50x1, .i32⟩
  | .hbm, ⟨24, _⟩ => ⟨S4096x50x1, .i1⟩
  | .hbm, ⟨25, _⟩ => ⟨S4096x50x1, .i1⟩
  | .hbm, ⟨26, _⟩ => ⟨S_, .i1⟩
  | .hbm, ⟨27, _⟩ => ⟨S4096x50, .i1⟩
  | .hbm, ⟨28, _⟩ => ⟨S4096x50x300, .f32⟩
  | .hbm, ⟨29, _⟩ => ⟨S4096x50x300, .i1⟩
  | .hbm, ⟨30, _⟩ => ⟨S_, .f32⟩
  | .hbm, ⟨31, _⟩ => ⟨S4096x50x300, .f32⟩
  | .hbm, ⟨32, _⟩ => ⟨S4096x50x300, .f32⟩
  | .hbm, ⟨33, _⟩ => ⟨S_, .f32⟩
  | .hbm, ⟨34, _⟩ => ⟨S4096x300, .f32⟩
  | .hbm, ⟨35, _⟩ => ⟨S_, .f32⟩
  | .hbm, ⟨36, _⟩ => ⟨S4096x300, .f32⟩
  | .hbm, ⟨37, _⟩ => ⟨S4096x300, .f32⟩
  | .hbm, ⟨38, _⟩ => ⟨S4096x128, .f32⟩
  | .hbm, ⟨39, _⟩ => ⟨S1x128, .f32⟩
  | .hbm, ⟨40, _⟩ => ⟨S4096x128, .f32⟩
  | .hbm, ⟨41, _⟩ => ⟨S4096x128, .f32⟩
  | .hbm, ⟨42, _⟩ => ⟨S_, .f32⟩
  | .hbm, ⟨43, _⟩ => ⟨S4096x128, .f32⟩
  | .hbm, ⟨44, _⟩ => ⟨S4096x128, .f32⟩
  | .hbm, ⟨45, _⟩ => ⟨S4096x64, .f32⟩
  | .hbm, ⟨46, _⟩ => ⟨S1x64, .f32⟩
  | .hbm, ⟨47, _⟩ => ⟨S4096x64, .f32⟩
  | .hbm, ⟨48, _⟩ => ⟨S4096x64, .f32⟩
  | .hbm, ⟨49, _⟩ => ⟨S_, .f32⟩
  | .hbm, ⟨50, _⟩ => ⟨S4096x64, .f32⟩
  | .hbm, ⟨51, _⟩ => ⟨S4096x64, .f32⟩
  | .hbm, ⟨52, _⟩ => ⟨S4096x16, .f32⟩
  | .hbm, ⟨53, _⟩ => ⟨S1x16, .f32⟩
  | .hbm, ⟨54, _⟩ => ⟨S4096x16, .f32⟩
  | .hbm, ⟨55, _⟩ => ⟨S4096x16, .f32⟩
  | .hbm, ⟨56, _⟩ => ⟨S_, .f32⟩
  | .hbm, ⟨57, _⟩ => ⟨S4096x16, .f32⟩
  | .hbm, ⟨58, _⟩ => ⟨S4096x16, .f32⟩
  | .hbm, ⟨59, _⟩ => ⟨S4096x1, .f32⟩
  | .hbm, ⟨60, _⟩ => ⟨S1x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_call1_cst : Ref sig .tc := ⟨.hbm, 42, rfl⟩
abbrev main_call1_v0 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_call2_cst : Ref sig .tc := ⟨.hbm, 49, rfl⟩
abbrev main_call2_v0 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_call3_cst : Ref sig .tc := ⟨.hbm, 56, rfl⟩
abbrev main_call3_v0 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_1 : Ref sig .tc := ⟨.hbm, 65, rfl⟩
abbrev main_v25 : Ref sig .tc := ⟨.hbm, 66, rfl⟩
abbrev main_v26 : Ref sig .tc := ⟨.hbm, 67, rfl⟩
abbrev main_cst_2 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== Proof.GatherBatch.lean ====
/-
  Several indirect gathers outstanding on ONE DMA semaphore.

  A tile that issues a few indirect gathers on one semaphore and only then waits (once per gather) cannot
  hold one delivery per semaphore: a wait may be satisfied by the rows of any of the gathers. What is true is
  that once EVERY row has been waited for, every row has landed. So the rows of all gathers are treated as one
  batch of transfers of equal credit (`Transfers.Batch`): each gather issues the next `o` transfers of the
  batch, the first waits hand back nothing, and the last wait hands back every row of every gather.

  * `rowD` — what one row of a gather delivers; `rowD_join` — all rows of a gather, together, are the
    destination written with the gathered rows, and the shares of the source and of the list.
  * `wp_gatherBatch` — issuing a gather as the next `o` transfers of a batch.
-/
module

public import Idealize.ShloMosaic.Lib.Batch
public import Idealize.ShloMosaic.Lib.SparseCore.Stream

@[expose] public section

noncomputable section

namespace Cert.GatherBatch

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- The transfers pending from `k` are the next `o` and those pending from `k + o`. -/
theorem pending_split {n : ℕ} : ∀ (o k : ℕ) (h : k + o ≤ n) (Φ : Fin n → sProp 𝕄),
    bigSep (pending k) Φ
      = iprop(bigSep Finset.univ (fun j : Fin o => Φ ⟨k + j.val, by omega⟩) ∗ bigSep (pending (k + o)) Φ)
  | 0, k, h, Φ => by
    rw [show (Finset.univ : Finset (Fin 0)) = ∅ from rfl, BI.bigSep_empty]
    exact (Idealize.SL.BI.equiv_iff.mp Idealize.SL.BI.emp_sep).symm
  | o + 1, k, h, Φ => by
    rw [bigSep_pending_step Φ k (by omega), pending_split o (k + 1) (by omega) Φ,
      bigSep_univ_succ (Ix := Ix) (Name := Name) (U := U) (Lvl := Lvl)
        (fun j : Fin (o + 1) => Φ ⟨k + j.val, by omega⟩)]
    have e1 : (fun j : Fin o => Φ ⟨k + 1 + j.val, by omega⟩) = fun j : Fin o => Φ ⟨k + j.succ.val, by
        have := j.succ.isLt; omega⟩ := by
      funext j; congr 1; apply Fin.ext; simp only [Fin.val_succ]; omega
    rw [e1, show k + 1 + o = k + (o + 1) by omega]
    exact (Idealize.SL.BI.equiv_iff.mp ⟨Idealize.SL.BI.sep_assoc, Idealize.SL.BI.sep_assoc'⟩).symm

/-- A family over `n` transfers, cut after the first `o`. -/
theorem bigSep_cut3 {o : ℕ} (Φ : Fin (o + o + o) → sProp 𝕄) :
    bigSep Finset.univ Φ
      ⊢ iprop(bigSep Finset.univ (fun j : Fin o => Φ ⟨0 + j.val, by omega⟩)
          ∗ bigSep Finset.univ (fun j : Fin o => Φ ⟨0 + o + j.val, by omega⟩)
          ∗ bigSep Finset.univ (fun j : Fin o => Φ ⟨0 + o + o + j.val, by omega⟩)) := by
  rw [bigSep_pending_zero, pending_split o 0 (by omega) Φ, pending_split o (0 + o) (by omega) Φ,
    pending_split o (0 + o + o) (by omega) Φ]
  iintro ⟨H1, H2, H3, -⟩
  isplitl [H1]; · iexact H1
  isplitl [H2] <;> iassumption

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- The word of the list that row `j` of the gather reads. -/
def entry {o : ℕ} (hn : si.numel = o) (j : Fin o) : si.Idx := si.rowMajor.symm (j.cast hn.symm)

omit [Preorder Lvl] [DecidableEq Ix] [DecidableEq Name] [URA U] in
theorem entry_bijective {o : ℕ} (hn : si.numel = o) : Function.Bijective (entry hn) :=
  si.rowMajor.symm.bijective.comp (finCongr hn.symm).bijective

/-- What row `j` of a gather delivers: the destination's row `j` written with the row of the source that the
    list's word `j` names, the share of that word, and a piece of the source's share. -/
def rowD (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
        ∗ (offs.view.loc c ↦[{offs.view.emb (entry hn j)}]{qo} fo))
      ∗ (src.view.loc c ↦[src.view.set]{pieceOf q _ ho j} fs))

instance rowD_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowD c src dst hg offs hn ho q qo fs fd fo hin j) := by
  unfold rowD; infer_instance

omit [Preorder Lvl] in
/-- Every row of a gather delivered: the destination written with the gathered rows, the source's share and the
    list's share whole again. -/
theorem rowD_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (fun j => (rowD c src dst hg offs hn ho q qo fs fd fo hin j : sProp 𝕄))
      ⊢ iprop((dst.view.loc c ↦[dst.view.set]{fullShare}
                (dst.view.write (Elt F) fd (gatherPayload hg (src.view.read (Elt F) fs) (rows (offs.view.read (Elt F) fo) hn hin)) Finset.univ))
            ∗ (src.view.loc c ↦[src.view.set]{q} fs) ∗ (offs.view.loc c ↦[offs.view.set]{qo} fo)) := by
  unfold rowD
  have hW : ∀ (j : Fin (s.size hg.axis')) i, src.view.read (Elt F) fs (hg.rowIdx (rows (offs.view.read (Elt F) fo) hn hin j) i)
      = gatherPayload hg (src.view.read (Elt F) fs) (rows (offs.view.read (Elt F) fo) hn hin) ((s.rowRect hg.axis' j).emb i) := fun j i => by
    unfold gatherPayload; rw [Shape.Gathers.idx_rowRect_emb]
  have hR : bigSep Finset.univ (fun j : Fin (s.size hg.axis') =>
      (dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ) : sProp 𝕄))
      ⊢ (dst.view.loc c ↦[dst.view.set]{fullShare}
                (dst.view.write (Elt F) fd (gatherPayload hg (src.view.read (Elt F) fs) (rows (offs.view.read (Elt F) fo) hn hin)) Finset.univ)) :=
    pointsTo_rows_write (Ix := Ix) (Name := Name) (U := U) (Lvl := Lvl) c dst.view hg.axis' fd
      (fun j i => src.view.read (Elt F) fs (hg.rowIdx (rows (offs.view.read (Elt F) fo) hn hin j) i)) _ hW
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]; · iapply hR $$ Hrows
  isplitl [Hsrc]; · iapply (Entails.of_eq (pointsTo_piecesOf (src.view.set) fs ho q).symm) $$ Hsrc
  iapply (Entails.of_eq (pointsTo_entries c offs.view (entry hn) (entry_bijective hn) qo fo).symm) $$ Hoffs

/-- Issuing an indirect gather as the next `o` transfers of a batch (`o` the number of rows it fetches, `N` the
    credit of each row): holding a share of the source, the destination outright, a share of the list with every
    word in range, and the batch with `k` transfers issued, the tile issues the gather and goes on with `k + o`
    issued — the deliveries `k … k + o - 1` of the batch being what the rows deliver (`hD`). -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kk : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n : ℕ} {D : Fin n → sProp 𝕄} {k u : ℕ} (hk : k + s.size hg.axis' ≤ n) (hu : u ≤ k * N)
    (hD : ∀ j : Fin (s.size hg.axis'), rowD c src dst hg offs hn ho q qo fs fd fo hin j ⊢ D ⟨k + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D k u)
      ⊢ iprop((Batch EC c (.dma sem) ι N D (k + s.size hg.axis') u
              -∗ wp frame (wpE defs 𝒱 c bd) Set.univ (kk ⟨⟩) Q)
          -∗ wp frame (wpE defs 𝒱 c bd) Set.univ (enqueueIndirectGather hp src dst hg offs hn sem hsrc he hsp hr >>= kk) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hNs : ∑ j, (dst.slice (s.rowRect hg.axis' j) (s.stride_rowRect hg.axis' j)).view.dmaCredit = s.size hg.axis' * N := by
    rw [Finset.sum_congr rfl fun j _ => hN j, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_split (s.size hg.axis') k hk (fun t => (count EC (γ t) 0 : sProp 𝕄)))) $$ HI
  icases HI' with ⟨Hγ, HI⟩
  ihave Hd' := (Entails.of_eq (pointsTo_rows c dst.view hg.axis' fullShare fd)) $$ Hd
  ihave Ho' := (Entails.of_eq (pointsTo_entries c offs.view (entry hn) (entry_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hNs) $$ [Hd' Ho' Hs' Hγ]
  · have hrow : ∀ j, iprop(inv κ (batchBody EC (c, SemLoc.dma sem) N D γ γ₀)
          ∗ ((((dst.view.loc c ↦[(dst.view.slice (s.rowRect hg.axis' j)).set]{fullShare} fd) ∗ (offs.view.loc c ↦[{offs.view.emb (entry hn j)}]{qo} fo))
          ∗ (src.view.loc c ↦[src.view.set]{pieceOf q _ ho j} fs)) ∗ count EC (γ ⟨k + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare} ((dst.view.slice (s.rowRect hg.axis' j)).write (Elt F) fd
        (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hc := batch_creditUpdate EC (g := (c, SemLoc.dma sem)) (N := N) (D := D) (γ := γ) (γ₀ := γ₀) (ι := κ) ⟨k + j.val, by omega⟩ (hD j)
        rw [← hN j] at hc
        iapply hc
        isplitr; · (rw [hN j]; iexact Hinv)
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (k + s.size hg.axis') * N - u = (k * N - u) + s.size hg.axis' * N by rw [Nat.add_mul]; omega, ← tallyAt_add]
    icombine Hcred Hcred' as H
    iexact H

end Cert.GatherBatch

end
-- ==== Proof.Trio.lean ====
/-
  Three indirect gathers of one list, issued on one DMA semaphore and waited for three times.

  * `issued1`, `issued2`, `flying`, `waited1`, `waited2` — what a tile holds after each issue and each wait;
  * `wp_start1`, `wp_start2`, `wp_start3` — the three issues: from a share of each source, the three destinations at
    any contents, three shares of the list, and the semaphore at zero;
  * `wp_wait1`, `wp_wait2`, `wp_wait3` — the three waits: after the last the destinations hold the gathered rows,
    every share is back, and the semaphore is at zero again.
-/
module

public import proofs.«01_k».proof.Proof.GatherBatch

@[expose] public section

noncomputable section

namespace Cert.GatherBatch

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- The deliveries of three families of `o` transfers, in order. -/
def D3 {o : ℕ} (DA DB DC : Fin o → sProp 𝕄) (t : Fin (o + o + o)) : sProp 𝕄 :=
  if h : t.val < o then DA ⟨t.val, h⟩
  else if h' : t.val < o + o then DB ⟨t.val - o, by omega⟩
  else DC ⟨t.val - (o + o), by omega⟩

instance D3_storable {o : ℕ} (DA DB DC : Fin o → sProp 𝕄) [∀ j, Storable (upEmb : UEmb _ 𝕄) (DA j)]
    [∀ j, Storable (upEmb : UEmb _ 𝕄) (DB j)] [∀ j, Storable (upEmb : UEmb _ 𝕄) (DC j)] (t : Fin (o + o + o)) :
    Storable (upEmb : UEmb _ 𝕄) (D3 DA DB DC t) := by
  unfold D3; split_ifs <;> infer_instance

theorem D3_fst {o : ℕ} (DA DB DC : Fin o → sProp 𝕄) (j : Fin o) (h) : D3 DA DB DC ⟨0 + j.val, h⟩ = DA j := by
  unfold D3; rw [dif_pos (by simp)]; congr 1; apply Fin.ext; simp
theorem D3_snd {o : ℕ} (DA DB DC : Fin o → sProp 𝕄) (j : Fin o) (h) : D3 DA DB DC ⟨0 + o + j.val, h⟩ = DB j := by
  unfold D3; rw [dif_neg (by simp), dif_pos (by simp)]; congr 1; apply Fin.ext; simp
theorem D3_thd {o : ℕ} (DA DB DC : Fin o → sProp 𝕄) (j : Fin o) (h) : D3 DA DB DC ⟨0 + o + o + j.val, h⟩ = DC j := by
  unfold D3; rw [dif_neg (by simp; omega), dif_neg (by simp)]; congr 1; apply Fin.ext; simp

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

section Trio

variable (ι : Ix) (N : ℕ) (sem : DmaSem sig)
  (srcA srcB srcC : Memref sig c.2.kind sp s₀ e) (A B C : Memref sig c.2.kind .vmem s e) (hg : s₀.Gathers a s)
  (offs : Memref sig c.2.kind .vmem si .i32) (hn : si.numel = s.size hg.axis') (ho : 0 < s.size hg.axis')
  (qA qB qC oA oB oC : PosShare TreeShare)
  (fA : Buf (Elt F) (srcA.view.loc c)) (fB : Buf (Elt F) (srcB.view.loc c)) (fC : Buf (Elt F) (srcC.view.loc c))
  (fo : Buf (Elt F) (offs.view.loc c)) (hin : ∀ x, (offs.view.read (Elt F) fo x).toNat < s₀.size hg.axis)

/-- The first gather issued, the other two destinations still held. -/
def issued1 : sProp 𝕄 :=
  iprop(∃ dA dB dC, Batch EC c (.dma sem) ι N
    (D3 (rowD c srcA A hg offs hn ho qA oA fA dA fo hin) (rowD c srcB B hg offs hn ho qB oB fB dB fo hin)
      (rowD c srcC C hg offs hn ho qC oC fC dC fo hin)) (0 + s.size hg.axis') 0
    ∗ (B.view.loc c ↦[B.view.set]{fullShare} dB) ∗ (C.view.loc c ↦[C.view.set]{fullShare} dC))

/-- Two gathers issued, the third destination still held. -/
def issued2 : sProp 𝕄 :=
  iprop(∃ dA dB dC, Batch EC c (.dma sem) ι N
    (D3 (rowD c srcA A hg offs hn ho qA oA fA dA fo hin) (rowD c srcB B hg offs hn ho qB oB fB dB fo hin)
      (rowD c srcC C hg offs hn ho qC oC fC dC fo hin)) (0 + s.size hg.axis' + s.size hg.axis') 0
    ∗ (C.view.loc c ↦[C.view.set]{fullShare} dC))

/-- The three gathers issued, `u` units of their semaphore waited for. -/
def waited (u : ℕ) : sProp 𝕄 :=
  iprop(∃ dA dB dC, Batch EC c (.dma sem) ι N
    (D3 (rowD c srcA A hg offs hn ho qA oA fA dA fo hin) (rowD c srcB B hg offs hn ho qB oB fB dB fo hin)
      (rowD c srcC C hg offs hn ho qC oC fC dC fo hin)) (s.size hg.axis' + s.size hg.axis' + s.size hg.axis') u)

/-- What a gather reads: the source's rows at the list's words. -/
def landed (src : Memref sig c.2.kind sp s₀ e) (f : Buf (Elt F) (src.view.loc c)) : s.Idx → Elt F e :=
  gatherPayload hg (src.view.read (Elt F) f) (rows (offs.view.read (Elt F) fo) hn hin)

theorem wp_start1 [Infinite Name] [EC.LandsIn (upEmb : UEmb _ 𝕄)]
    {hp : c.2.kind = .scVector} {hs : srcA.view.WordExact} {he : e.bits = 32}
    {hsp : sp = .hbm ∨ sp = .shared} {hr : s₀.StreamRows a}
    (hN : ∀ j, (A.slice (s.rowRect hg.axis' j) (s.stride_rowRect hg.axis' j)).view.dmaCredit = N)
    {kk : PUnit → Prog (TpuEff nD τ sig (Elt F) Λ c.2) α} :
    iprop((srcA.view.loc c ↦[srcA.view.set]{qA} fA) ∗ (offs.view.loc c ↦[offs.view.set]{oA} fo)
        ∗ (∃ f, A.view.loc c ↦[A.view.set]{fullShare} f) ∗ (∃ f, B.view.loc c ↦[B.view.set]{fullShare} f) ∗ (∃ f, C.view.loc c ↦[C.view.set]{fullShare} f)
        ∗ semVal (c, .dma sem) 0)
      ⊢ iprop((issued1 EC c ι N sem srcA srcB srcC A B C hg offs hn ho qA qB qC oA oB oC fA fB fC fo hin -∗ wp frame (wpE defs 𝒱 c bd) Set.univ (kk ⟨⟩) Q)
          -∗ wp frame (wpE defs 𝒱 c bd) Set.univ (enqueueIndirectGather hp srcA A hg offs hn sem hs he hsp hr >>= kk) Q) := by
  iintro ⟨HsA, HoA, ⟨%dA, HA⟩, ⟨%dB, HB⟩, ⟨%dC, HC⟩, Hsem⟩ Hk
  imod (batch_alloc' EC c ι N
    (D3 (rowD c srcA A hg offs hn ho qA oA fA dA fo hin) (rowD c srcB B hg offs hn ho qB oB fB dB fo hin)
      (rowD c srcC C hg offs hn ho qC oC fC dC fo hin)) (E := Set.univ)) $$ Hsem with HBt
  iapply (wp_gatherBatch EC 𝒱 c bd ι N hN ho hin (k := 0) (u := 0) (by omega) (by omega)
    (fun j => Entails.of_eq (D3_fst _ _ _ j _).symm)) $$ [HsA HA HoA HBt]
  · isplitl [HsA]; · iexact HsA
    isplitl [HA]; · iexact HA
    isplitl [HoA] <;> iassumption
  iintro HBt
  iapply Hk
  unfold issued1
  iexists dA, dB, dC
  isplitl [HBt]; · iexact HBt
  isplitl [HB] <;> iassumption

theorem wp_start2 [Infinite Name] [EC.LandsIn (upEmb : UEmb _ 𝕄)]
    {hp : c.2.kind = .scVector} {hs : srcB.view.WordExact} {he : e.bits = 32}
    {hsp : sp = .hbm ∨ sp = .shared} {hr : s₀.StreamRows a}
    (hN : ∀ j, (B.slice (s.rowRect hg.axis' j) (s.stride_rowRect hg.axis' j)).view.dmaCredit = N)
    {kk : PUnit → Prog (TpuEff nD τ sig (Elt F) Λ c.2) α} :
    iprop((srcB.view.loc c ↦[srcB.view.set]{qB} fB) ∗ (offs.view.loc c ↦[offs.view.set]{oB} fo)
        ∗ issued1 EC c ι N sem srcA srcB srcC A B C hg offs hn ho qA qB qC oA oB oC fA fB fC fo hin)
      ⊢ iprop((issued2 EC c ι N sem srcA srcB srcC A B C hg offs hn ho qA qB qC oA oB oC fA fB fC fo hin -∗ wp frame (wpE defs 𝒱 c bd) Set.univ (kk ⟨⟩) Q)
          -∗ wp frame (wpE defs 𝒱 c bd) Set.univ (enqueueIndirectGather hp srcB B hg offs hn sem hs he hsp hr >>= kk) Q) := by
  unfold issued1
  iintro ⟨HsB, HoB, ⟨%dA, %dB, %dC, HBt, HB, HC⟩⟩ Hk
  iapply (wp_gatherBatch EC 𝒱 c bd ι N hN ho hin (k := 0 + s.size hg.axis') (u := 0) (by omega) (by omega)
    (fun j => Entails.of_eq (D3_snd _ _ _ j _).symm)) $$ [HsB HB HoB HBt]
  · isplitl [HsB]; · iexact HsB
    isplitl [HB]; · iexact HB
    isplitl [HoB] <;> iassumption
  iintro HBt
  iapply Hk
  unfold issued2
  iexists dA, dB, dC
  isplitl [HBt] <;> iassumption

theorem wp_start3 [Infinite Name] [EC.LandsIn (upEmb : UEmb _ 𝕄)]
    {hp : c.2.kind = .scVector} {hs : srcC.view.WordExact} {he : e.bits = 32}
    {hsp : sp = .hbm ∨ sp = .shared} {hr : s₀.StreamRows a}
    (hN : ∀ j, (C.slice (s.rowRect hg.axis' j) (s.stride_rowRect hg.axis' j)).view.dmaCredit = N)
    {kk : PUnit → Prog (TpuEff nD τ sig (Elt F) Λ c.2) α} :
    iprop((srcC.view.loc c ↦[srcC.view.set]{qC} fC) ∗ (offs.view.loc c ↦[offs.view.set]{oC} fo)
        ∗ issued2 EC c ι N sem srcA srcB srcC A B C hg offs hn ho qA qB qC oA oB oC fA fB fC fo hin)
      ⊢ iprop((waited EC c ι N sem srcA srcB srcC A B C hg offs hn ho qA qB qC oA oB oC fA fB fC fo hin 0 -∗ wp frame (wpE defs 𝒱 c bd) Set.univ (kk ⟨⟩) Q)
          -∗ wp frame (wpE defs 𝒱 c bd) Set.univ (enqueueIndirectGather hp srcC C hg offs hn sem hs he hsp hr >>= kk) Q) := by
  unfold issued2
  iintro ⟨HsC, HoC, ⟨%dA, %dB, %dC, HBt, HC⟩⟩ Hk
  iapply (wp_gatherBatch EC 𝒱 c bd ι N hN ho hin (k := 0 + s.size hg.axis' + s.size hg.axis') (u := 0) (by omega) (by omega)
    (fun j => Entails.of_eq (D3_thd _ _ _ j _).symm)) $$ [HsC HC HoC HBt]
  · isplitl [HsC]; · iexact HsC
    isplitl [HC]; · iexact HC
    isplitl [HoC] <;> iassumption
  iintro HBt
  iapply Hk
  unfold waited
  iexists dA, dB, dC
  simp only [Nat.zero_add]
  iexact HBt

theorem wp_wait1 [EC.LandsIn (upEmb : UEmb _ 𝕄)]
    {hs : srcA.view.WordExact} {hd : A.view.WordExact}
    (hJ : A.view.dmaCredit = s.size hg.axis' * N)
    {O : CellTallies nD τ sig Ix} {W : Waits sig Ix}
    {kk : PUnit → Prog (TpuEff nD τ sig (Elt F) Λ c.2) α} :
    iprop(MayWaits c ι O ∗ waited EC c ι N sem srcA srcB srcC A B C hg offs hn ho qA qB qC oA oB oC fA fB fC fo hin 0 ∗ owes c O W)
      ⊢ iprop((iprop(waited EC c ι N sem srcA srcB srcC A B C hg offs hn ho qA qB qC oA oB oC fA fB fC fo hin (0 + s.size hg.axis' * N) ∗ owes c O (insert (SemLoc.dma sem, ι) W)) -∗ wp frame (wpE defs 𝒱 c bd) Set.univ (kk ⟨⟩) Q)
          -∗ wp frame (wpE defs 𝒱 c bd) Set.univ (.op (.waitDma2 sem srcA A hs hd) kk) Q) := by
  unfold waited
  iintro ⟨#Hmw, ⟨%dA, %dB, %dC, HBt⟩, HO⟩ Hk
  have e1 : N * (s.size hg.axis' + s.size hg.axis' + s.size hg.axis') = s.size hg.axis' * N + s.size hg.axis' * N + s.size hg.axis' * N := by rw [Nat.mul_comm, Nat.add_mul, Nat.add_mul]
  iapply (wp_waitBatchMulO EC 𝒱 c bd ι (N := N) (s.size hg.axis') hJ (u := 0) (by rw [e1]; omega)) $$ [HBt HO]
  · isplitl [HBt]; · iexact HBt
    isplitl [HO]; · iexact HO
    iapply (MayWaits.elim (SemLoc.dma sem)) $$ Hmw
  iintro ⟨HBt, HO⟩
  iapply Hk
  isplitl [HBt]
  · iexists dA, dB, dC; iexact HBt
  · iexact HO

theorem wp_wait2 [EC.LandsIn (upEmb : UEmb _ 𝕄)]
    {hs : srcB.view.WordExact} {hd : B.view.WordExact}
    (hJ : B.view.dmaCredit = s.size hg.axis' * N)
    {O : CellTallies nD τ sig Ix} {W : Waits sig Ix}
    {kk : PUnit → Prog (TpuEff nD τ sig (Elt F) Λ c.2) α} :
    iprop(MayWaits c ι O ∗ waited EC c ι N sem srcA srcB srcC A B C hg offs hn ho qA qB qC oA oB oC fA fB fC fo hin (0 + s.size hg.axis' * N) ∗ owes c O W)
      ⊢ iprop((iprop(waited EC c ι N sem srcA srcB srcC A B C hg offs hn ho qA qB qC oA oB oC fA fB fC fo hin (0 + s.size hg.axis' * N + s.size hg.axis' * N) ∗ owes c O (insert (SemLoc.dma sem, ι) W)) -∗ wp frame (wpE defs 𝒱 c bd) Set.univ (kk ⟨⟩) Q)
          -∗ wp frame (wpE defs 𝒱 c bd) Set.univ (.op (.waitDma2 sem srcB B hs hd) kk) Q) := by
  unfold waited
  iintro ⟨#Hmw, ⟨%dA, %dB, %dC, HBt⟩, HO⟩ Hk
  have e1 : N * (s.size hg.axis' + s.size hg.axis' + s.size hg.axis') = s.size hg.axis' * N + s.size hg.axis' * N + s.size hg.axis' * N := by rw [Nat.mul_comm, Nat.add_mul, Nat.add_mul]
  iapply (wp_waitBatchMulO EC 𝒱 c bd ι (N := N) (s.size hg.axis') hJ (u := (0 + s.size hg.axis' * N)) (by rw [e1]; omega)) $$ [HBt HO]
  · isplitl [HBt]; · iexact HBt
    isplitl [HO]; · iexact HO
    iapply (MayWaits.elim (SemLoc.dma sem)) $$ Hmw
  iintro ⟨HBt, HO⟩
  iapply Hk
  isplitl [HBt]
  · iexists dA, dB, dC; iexact HBt
  · iexact HO

theorem wp_wait3 [EC.LandsIn (upEmb : UEmb _ 𝕄)]
    {hs : srcC.view.WordExact} {hd : C.view.WordExact}
    (hJ : C.view.dmaCredit = s.size hg.axis' * N) (hN0 : 0 < N)
    {O : CellTallies nD τ sig Ix} {W : Waits sig Ix}
    {kk : PUnit → Prog (TpuEff nD τ sig (Elt F) Λ c.2) α} :
    iprop(MayWaits c ι O ∗ waited EC c ι N sem srcA srcB srcC A B C hg offs hn ho qA qB qC oA oB oC fA fB fC fo hin (0 + s.size hg.axis' * N + s.size hg.axis' * N) ∗ owes c O W)
      ⊢ iprop((iprop((srcA.view.loc c ↦[srcA.view.set]{qA} fA) ∗ (srcB.view.loc c ↦[srcB.view.set]{qB} fB) ∗ (srcC.view.loc c ↦[srcC.view.set]{qC} fC)
                ∗ (offs.view.loc c ↦[offs.view.set]{oA} fo) ∗ (offs.view.loc c ↦[offs.view.set]{oB} fo) ∗ (offs.view.loc c ↦[offs.view.set]{oC} fo)
                ∗ (∃ f, ⌜A.view.read (Elt F) f = landed c hg offs hn fo hin srcA fA⌝ ∗ A.view.loc c ↦[A.view.set]{fullShare} f)
                ∗ (∃ f, ⌜B.view.read (Elt F) f = landed c hg offs hn fo hin srcB fB⌝ ∗ B.view.loc c ↦[B.view.set]{fullShare} f)
                ∗ (∃ f, ⌜C.view.read (Elt F) f = landed c hg offs hn fo hin srcC fC⌝ ∗ C.view.loc c ↦[C.view.set]{fullShare} f)
                ∗ semVal (c, .dma sem) 0 ∗ owes c O (insert (SemLoc.dma sem, ι) W))
              -∗ wp frame (wpE defs 𝒱 c bd) Set.univ (kk ⟨⟩) Q)
          -∗ wp frame (wpE defs 𝒱 c bd) Set.univ (.op (.waitDma2 sem srcC C hs hd) kk) Q) := by
  unfold waited
  iintro ⟨#Hmw, ⟨%dA, %dB, %dC, HBt⟩, HO⟩ Hk
  have e1 : N * (s.size hg.axis' + s.size hg.axis' + s.size hg.axis') = s.size hg.axis' * N + s.size hg.axis' * N + s.size hg.axis' * N := by rw [Nat.mul_comm, Nat.add_mul, Nat.add_mul]
  iapply (wp_waitBatchAllO EC 𝒱 c bd ι (N := N) hJ hN0 (u := 0 + s.size hg.axis' * N + s.size hg.axis' * N) (by rw [e1]; omega)) $$ [HBt HO]
  · isplitl [HBt]; · iexact HBt
    isplitl [HO]; · iexact HO
    iapply (MayWaits.elim (SemLoc.dma sem)) $$ Hmw
  iintro ⟨HD, Hsem, HO⟩
  ihave HD3 := (bigSep_cut3 _) $$ HD
  icases HD3 with ⟨H1, H2, H3⟩
  simp only [D3_fst, D3_snd, D3_thd]
  ihave H1 := (rowD_join c srcA A hg offs hn ho qA oA fA dA fo hin) $$ H1
  ihave H2 := (rowD_join c srcB B hg offs hn ho qB oB fB dB fo hin) $$ H2
  ihave H3 := (rowD_join c srcC C hg offs hn ho qC oC fC dC fo hin) $$ H3
  icases H1 with ⟨HA, HsA, HoA⟩
  icases H2 with ⟨HB, HsB, HoB⟩
  icases H3 with ⟨HC, HsC, HoC⟩
  iapply Hk
  isplitl [HsA]; · iexact HsA
  isplitl [HsB]; · iexact HsB
  isplitl [HsC]; · iexact HsC
  isplitl [HoA]; · iexact HoA
  isplitl [HoB]; · iexact HoB
  isplitl [HoC]; · iexact HoC
  isplitl [HA]
  · iexists _; isplitr; swap; · iexact HA
    ipureintro; exact View.read_write_univ _ _
  isplitl [HB]
  · iexists _; isplitr; swap; · iexact HB
    ipureintro; exact View.read_write_univ _ _
  isplitl [HC]
  · iexists _; isplitr; swap; · iexact HC
    ipureintro; exact View.read_write_univ _ _
  isplitl [Hsem] <;> iassumption

end Trio

end Cert.GatherBatch

end
-- ==== Proof.Index.lean ====
/-
  A word that is at least 0 and below a million, both as a signed word, is below a million as a natural number.
-/
module

public import Idealize.ShloMosaic.PureOps

@[expose] public section

noncomputable section

namespace Cert.Index

open Idealize.ShloMosaic

theorem lt_of_checks (v : BitVec 32) (e : IntOp.andi (IntOp.cmpi .sge v 0#32) (IntOp.cmpi .slt v 1000000#32) = 1#1) :
    v.toNat < 1000000 := by
  have h : (0#32).sle v = true ∧ v.slt 1000000#32 = true := by
    change (BitVec.ofBool ((0#32).sle v) &&& BitVec.ofBool (v.slt 1000000#32)) = 1#1 at e
    revert e
    cases (0#32).sle v <;> cases v.slt 1000000#32 <;> decide
  have h0 : (0 : ℤ) ≤ v.toInt := by simpa [BitVec.sle] using h.1
  have h1 : v.toInt < 1000000 := by simpa [BitVec.slt] using h.2
  have hw := v.isLt
  have hc := BitVec.toInt_eq_toNat_cond v
  split at hc <;> omega

end Cert.Index

end
-- ==== Proof.K.Frame.lean ====
/-
  The kernel: from a memory whose indices are rows of the table it runs to its end, leaves its
  arguments as they were, and every semaphore at zero.
-/
module

public import proofs.«01_k».proof.Defs
public import proofs.«01_k».proof.Proof.K.Main
public import proofs.«01_k».proof.Proof.Gen.Pre_in_vocab
public import proofs.«01_k».proof.Proof.Index

@[expose] public section

noncomputable section

namespace Cert.Kernel.Pool

open Cert.Kernel Cert.Kernel.Gen
open Idealize.ShloMosaic Idealize.ShloMosaic.TcCoe Idealize.SL.Sem

/-- The precondition, read as a bound on every index. -/
theorem ok_of_pre (m : (ℓ : Loc nD τ sig) → Buf (Elt Bits) ℓ) (h : Cert.Pre_Kernel m) : PreOK (F := Bits) m := by
  intro d j
  have e := congrFun (h d) j
  simp only [Pre_in_vocab.fn, andi, cmpi, broadcastInDim, constantI] at e
  exact Index.lt_of_checks _ e

theorem frame : Cert.quiescent_Kernel := fun m ρ hpre =>
  (θ_run Cert.Kernel.defs _ _).mono (fun _ h => ⟨fun c => ⟨QC_arg h c main_arg0 (by decide) (by decide),
    QC_arg h c main_arg1 (by decide) (by decide),
    QC_arg h c main_arg2 (by decide) (by decide),
    QC_arg h c main_arg3 (by decide) (by decide),
    QC_arg h c main_arg4 (by decide) (by decide),
    QC_arg h c main_arg5 (by decide) (by decide),
    QC_arg h c main_arg6 (by decide) (by decide),
    QC_arg h c main_arg7 (by decide) (by decide),
    QC_arg h c main_arg8 (by decide) (by decide),
    QC_arg h c main_arg9 (by decide) (by decide)⟩, h.2⟩)
    (run_main (F := Bits) m ρ (ok_of_pre m hpre))

end Cert.Kernel.Pool

end
-- ==== Proof.KI.Setup.lean ====
/-
  The program as the launch theorem sees it, the resource algebra of its proofs, and the buffers of one tile.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Trio

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The rounds of the handshakes between the threads. -/
abbrev UH : Type := URounds (GSem nD τ sig) ℕ
/-- The handshakes' rounds, the pipelines' rounds, and the transfers' counters. -/
abbrev UU : Type := UH × (URounds (GSem nD τ sig) Unit × Counters)

/-- The resources of the proofs. -/
abbrev MM (F : FTy → Type) : Type := MT nD τ sig (HIx 1) (Elt F) ℕ UU ℕ

abbrev EH : Emb UH (MM F) := embL

end Cert.KernelIdeal.Pool

end
-- ==== Proof.KI.Regions.lean ====
/-
  The two TensorCore kernels as regions of the host's program: the one that copies the table's last 44 columns and the
  one that runs the layers on the pooled rows.
-/
module

public import proofs.«01_k».proof.Proof.KI.Setup
public import Idealize.ShloMosaic.Lib.Pipeline.Value
public import Idealize.ShloMosaic.Lib.Pipeline.RegionsLoop
public import Idealize.ShloMosaic.Lib.Pipeline.FrameBody
public import Idealize.ShloMosaic.Lib.VecWindow

@[expose] public section

noncomputable section

namespace Cert.KernelIdeal.Pool

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.Pipeline (Dat Cfg Window BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MM F

/-- What a core owes, with every wait it has recorded at a level of at most `b`. -/
abbrev owesLe (c : Dev nD) (O : CellTallies nD τ sig (HIx 1)) (b : ℕ) : sProp 𝕄 :=
  iprop(∃ W, ⌜(K (F := F)).WBelow (T c) W b⌝ ∗ owes (T c) O W)

/-- The waits at a level of at most `b`. -/
def lowWaits (c : Dev nD) (b : ℕ) : Set (SemLoc sig × HIx 1) := {p | (K (F := F)).lev (T c, p.1) p.2 ≤ b}

/-- Neither kernel has a prefetched table. -/
abbrev adm : (p : Fin 2) → (pcfgs (F := F) p).Adm := fun p => (cfgs p).toPCfg_adm

/-- Proof data of a kernel a region does not run: nothing reads it. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

namespace Tail

/-- The first kernel, run: its result's block holds what it computes of its argument's. -/
theorem run (c : Dev nD) (i : grid0.Coords) (M0 : Memref sig .tc .vmem S4000x128 .f32) (h0 : M0.IsWhole) (M1 : Memref sig .tc .vmem S4000x128 .f32) (h1 : M1.IsWhole)
    (X0 X1 : S4000x128.Idx → F .f32) (E : Set ℕ) (Q : PUnit → sProp 𝕄) :
    iprop(owns (c : Thread nD τ) M0 fullShare X0 ∗ owns (c : Thread nD τ) M1 fullShare X1
        ∗ (iprop(owns (c : Thread nD τ) M0 fullShare X0 ∗ owns (c : Thread nD τ) M1 fullShare (k0_pay1 X0)) -∗ Q ⟨⟩))
      ⊢ wp frame (wpE (defs₀ (F := F)) 𝒱₀ c none) E (cc0__tail_body i M0 h0 M1 h1) Q := by
  rw [cc0__tail_body_eq_skeleton]; unfold cc0__tail_body_skel
  unfold owns
  iintro ⟨⟨%f0, %hf0, H0⟩, ⟨%f1, -, H1⟩, Hk⟩
  sl_exec
  sl_step
  iapply Hk
  isplitl [H0]
  · iexists f0; isplitr; · ipureintro; exact hf0
    iexact H0
  iexists _; isplitr; swap; (· iexact H1)
  ipureintro
  rw [View.read_writes_full M1.view f1 inb_S4000x128_S4000x128_0_0, View.readAt_full M0.view f0 inb_S4000x128_S4000x128_0_0, hf0]

/-- What the kernel computes reads its argument's first 44 columns only. -/
theorem pay_congr (X Y : S4000x128.Idx → F .f32) (h : ∀ x : S4000x128.Idx, (x 1).val < 44 → X x = Y x) : k0_pay1 X = k0_pay1 Y := by
  have e : (extractStridedSlice S4000x44 ![0, 0] X slices_S4000x128_o0_0_S4000x44 : FVec F S4000x44 .f32)
      = extractStridedSlice S4000x44 ![0, 0] Y slices_S4000x128_o0_0_S4000x44 := by
    funext x
    refine h _ ?_
    show 0 + (x 1).val < 44
    have h1 : (x 1).val < 44 := (x 1).isLt
    omega
  unfold k0_pay1
  rw [e]

/-- Those columns are inside the array at every grid point. -/
theorem moved_of_lt (i : grid0.Coords) (x : S4000x128.Idx) (h : (x 1).val < 44) : win0_0.moved i x = true := by
  refine (win0_0.moved_iff i x).mpr fun a => ?_
  have h0 : (x 0).val < 4000 := (x 0).isLt
  have hi : (i 0).val < 250 := (i 0).isLt
  have e0 : cc0_transform_0 i 0 = (i 0).val := by
    show (BitVec.ofNat 32 (i 0).val).toNat = _
    rw [BitVec.toNat_ofNat]; omega
  have e1 : cc0_transform_0 i 1 = 2 := rfl
  fin_cases a
  · show (x 0).val < (Pipeline.Clip.of (cc0_transform_0 i 0) 4000 1000000).extent 4000
    rw [e0]
    unfold Pipeline.Clip.of
    split <;> simp only [Pipeline.Clip.extent] <;> omega
  · show (x 1).val < (Pipeline.Clip.of (cc0_transform_0 i 1) 128 300).extent 128
    rw [e1]
    exact h

variable (O : CellTallies nD τ sig (HIx 1)) (b : ℕ)
variable (V : (c : Dev nD) → (b : Ref sig .tc) → Buf (Elt F) ((c : Thread nD τ).loc b))

/-- The table's block at a grid point, as the fetch stages it. -/
def stg (c : Dev nD) (t : Fin cfg0.N) : (cfg0.win 0).block.Idx → Elt F (cfg0.win 0).elt :=
  (cfg0.win 0).fill (cfg0.grid.coords t) (fun _ => Classical.arbitrary _) (((cfg0.win 0).blk t).view.read (Elt F) (V c main_arg1))

abbrev Φc (c : Dev nD) : sProp 𝕄 := Pipeline.scopedRest (Ix := HIx 1) (Name := ℕ) (U := UU) (Lvl := ℕ) (Val := Elt F) spec0 c

/-- The proof data of the region entered at the buffers' contents `V`. -/
def dat (c : Dev nD) : Dat τ (Elt F) (HIx 1) ℕ UU ℕ cfg0 c where
  A w := V c (Pipeline.arrRef spec0 w)
  after w t := match w with
    | ⟨0, _⟩ => stg V c t
    | ⟨1, _⟩ => k0_pay1 (stg V c t)
  Φ _ := Φc c
  q _ := fullShare
  owed _ := O
  recorded _ := lowWaits (F := F) c b

def pdats : (p : Fin 2) → (c : Dev nD) → Dat τ (Elt F) (HIx 1) ℕ UU ℕ (Pipeline.pin (pcfgs (F := F)) adm p) c
  | ⟨0, _⟩ => fun c => dat O b V c
  | ⟨1, _⟩ => fun c => junkDat c

theorem before_in (c : Dev nD) (t : Fin cfg0.N) (d : (cfg0.win 0).block.Idx → Elt F (cfg0.win 0).elt) :
    (dat O b V c).before 0 t d = (cfg0.win 0).fill (cfg0.grid.coords t) d (((cfg0.win 0).blk t).view.read (Elt F) (V c main_arg1)) := by
  rw [(dat O b V c).before_fetched 0 t (fetch0_0 t) d]; rfl

theorem pay_fill (c : Dev nD) (t : Fin cfg0.N) (d : (cfg0.win 0).block.Idx → Elt F (cfg0.win 0).elt) :
    k0_pay1 ((cfg0.win 0).fill (cfg0.grid.coords t) d (((cfg0.win 0).blk t).view.read (Elt F) (V c main_arg1)) : S4000x128.Idx → F .f32)
      = k0_pay1 (stg V c t) := by
  refine pay_congr _ _ fun x hx => ?_
  unfold stg Pipeline.Window.fill
  rw [dif_pos (moved_of_lt _ x hx), dif_pos (moved_of_lt _ x hx)]

theorem leaves_in (c : Dev nD) (t : Fin cfg0.N) (d : (cfg0.win 0).block.Idx → Elt F (cfg0.win 0).elt) :
    (cfg0.win 0).fill (cfg0.grid.coords t) d ((cfg0.win 0).cut (cfg0.grid.coords t) ((dat O b V c).after 0 t))
      = (cfg0.win 0).fill (cfg0.grid.coords t) d (((cfg0.win 0).blk t).view.read (Elt F) (V c main_arg1)) := by
  congr 1
  funext j
  show stg V c t ((cfg0.win 0).xinj (cfg0.grid.coords t) j) = _
  unfold stg
  rw [(cfg0.win 0).fill_xinj]

theorem body_obligation (c : Dev nD) : BodyObligationLoose (dat O b V c) (defs₀ (F := F)) 𝒱₀ (none : HIx 1) Set.univ := fun t => by
  rw [bigSep_W0, bigSep_W0]
  rw [show (dat O b V c).Φ t.castSucc = Φc c from rfl, show (dat O b V c).Φ t.succ = Φc c from rfl,
    show (dat O b V c).owesAt (none : HIx 1) t.succ = (dat O b V c).owesAt (none : HIx 1) t.castSucc from rfl]
  iintro ⟨HΦ, Howes, ⟨%d0, H0⟩, ⟨%d1, H1⟩⟩
  ihave H0 := (Entails.of_eq (congrArg (fun X => (owns (c : Thread nD τ) ((cfg0.win 0).stage (cfg0.slots t 0)) fullShare X : sProp 𝕄)) (before_in O b V c t d0))) $$ H0
  iapply (run c (grid0.coords t) _ (hstage0_0 ((cfg0.slots t 0).cast nbuf0_0)) _ (hstage0_1 ((cfg0.slots t 1).cast nbuf0_1)) _ _ Set.univ _)
  isplitl [H0]; · iexact H0
  isplitl [H1]; · iexact H1
  iintro ⟨H0, H1⟩
  isplitl [HΦ]; · iexact HΦ
  isplitl [Howes]; · iexact Howes
  isplitl [H0]
  · iexists d0
    iapply (Entails.of_eq (congrArg (fun X => (owns (c : Thread nD τ) ((cfg0.win 0).stage (cfg0.slots t 0)) fullShare X : sProp 𝕄)) (leaves_in O b V c t d0).symm)); iexact H0
  rw [pay_fill]
  iexact H1

/-- The result's array after the region. -/
def out (c : Dev nD) : Buf (Elt F) ((c : Thread nD τ).loc main_v0) := (dat O b V c).arrAt 1 cfg0.N

variable (Vp : (c : Dev nD) → (b : Ref sig .tc) → Buf (Elt F) ((c : Thread nD τ).loc b))

set_option backward.isDefEq.respectTransparency.types false in
/-- The region: entered with the buffers at `V` and the core owing `O`, left with the result's array at `out`. -/
def reg (hO : ∀ g, O g none = 0) (hVp_out : ∀ c, Vp c main_v0 = out O b V c) (hVp_ne : ∀ c (r : Ref sig .tc), r ≠ main_v0 → Vp c r = V c r) :
    Pipeline.RegionSeg (pcfgs (F := F)) adm (pdats O b V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation O b V c
  hwaits c := Pipeline.cellsWaits_intro _ _ _ _ c fun _ _ _ => (K (F := F)).mayWait_none _ hO
  pre c := iprop(unscopedBufs c (V c) ∗ owesLe c O b)
  post c := iprop(unscopedBufs c (Vp c) ∗ owesLe c O b)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats O b V) launch0.win launch0.arr_whole c
      ((pdats O b V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats O b V 0 c).Φ 0 = Φc c from rfl]
    iintro ⟨-, -, Hr⟩; iexact Hr
  hout c := by
    rw [Pipeline.ownSems0_none, show (pdats O b V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats O b V) ((pdats O b V 0 c).share_full fun _ => rfl) (V c) (Vp c) ((pdats O b V 0 c).arrAt · cfg0.N)
      (fun w => by
        fin_cases w
        · exact ((pdats O b V 0 c).arrAt_in 0 rfl _).trans (hVp_ne c main_arg1 (by decide)).symm
        · exact (hVp_out c).symm)
      (fun r hr => hVp_ne c r fun h => hr (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro; intro p hp
    rcases hW hp with h | ⟨w, s, h⟩
    · exact h
    · rw [h]; exact Nat.zero_le _

end Tail

namespace Mlp

set_option maxHeartbeats 1000000 in
/-- The second kernel, run: its result's block holds what it computes of its arguments'. -/
theorem run (c : Dev nD) (M0 : Memref sig .tc .vmem S4096x304 .f32) (h0 : M0.IsWhole) (M1 : Memref sig .tc .vmem S304x128 .f32) (h1 : M1.IsWhole) (M2 : Memref sig .tc .vmem S1x128 .f32) (h2 : M2.IsWhole) (M3 : Memref sig .tc .vmem S128x64 .f32) (h3 : M3.IsWhole) (M4 : Memref sig .tc .vmem S1x64 .f32) (h4 : M4.IsWhole) (M5 : Memref sig .tc .vmem S64x16 .f32) (h5 : M5.IsWhole) (M6 : Memref sig .tc .vmem S1x16 .f32) (h6 : M6.IsWhole) (M7 : Memref sig .tc .vmem S16x1 .f32) (h7 : M7.IsWhole) (M8 : Memref sig .tc .vmem S1x1 .f32) (h8 : M8.IsWhole) (M9 : Memref sig .tc .vmem S4096x1 .f32) (h9 : M9.IsWhole)
    (X0 : S4096x304.Idx → F .f32) (X1 : S304x128.Idx → F .f32) (X2 : S1x128.Idx → F .f32) (X3 : S128x64.Idx → F .f32) (X4 : S1x64.Idx → F .f32) (X5 : S64x16.Idx → F .f32) (X6 : S1x16.Idx → F .f32) (X7 : S16x1.Idx → F .f32) (X8 : S1x1.Idx → F .f32) (X9 : S4096x1.Idx → F .f32) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (k2_pay1 X0 X1 X2 X3 X4 X5 X6 X7 X8)) -∗ Q ⟨⟩))
      ⊢ wp frame (wpE (defs₀ (F := F)) 𝒱₀ c none) E (cc2__mlp_body M0 h0 M1 h1 M2 h2 M3 h3 M4 h4 M5 h5 M6 h6 M7 h7 M8 h8 M9 h9) Q := by
  rw [cc2__mlp_body_eq_skeleton]; unfold cc2__mlp_body_skel
  rw [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  iexists _; isplitr; swap; (· iexact H9)
  ipureintro
  rw [View.read_writes_full M9.view f9 inb_S4096x1_S4096x1_0_0]
  rw [View.readAt_full M0.view f0 inb_S4096x304_S4096x304_0_0, hf0, View.readAt_full M1.view f1 inb_S304x128_S304x128_0_0, hf1, View.readAt_full M2.view f2 inb_S1x128_S1x128_0_0, hf2, View.readAt_full M3.view f3 inb_S128x64_S128x64_0_0, hf3, View.readAt_full M4.view f4 inb_S1x64_S1x64_0_0, hf4, View.readAt_full M5.view f5 inb_S64x16_S64x16_0_0, hf5, View.readAt_full M6.view f6 inb_S1x16_S1x16_0_0, hf6, View.readAt_full M7.view f7 inb_S16x1_S16x1_0_0, hf7, View.readAt_full M8.view f8 inb_S1x1_S1x1_0_0, hf8]

variable (O : CellTallies nD τ sig (HIx 1)) (b : ℕ)
variable (V : (c : Dev nD) → (b : Ref sig .tc) → Buf (Elt F) ((c : Thread nD τ).loc b))

/-- A window's array, as the fetch stages it. -/
def stg (c : Dev nD) (w : Fin 10) : ((cfg2.win w).xblock (cfg2.grid.coords t2_0)).Idx → Elt F (cfg2.win w).elt :=
  ((cfg2.win w).blk t2_0).view.read (Elt F) (V c (Pipeline.arrRef spec2 w))

/-- What the kernel computes of the staged arrays. -/
def res (c : Dev nD) : S4096x1.Idx → F .f32 :=
  k2_pay1 (stg V c 0) (stg V c 1) (stg V c 2) (stg V c 3) (stg V c 4) (stg V c 5) (stg V c 6) (stg V c 7) (stg V c 8)

abbrev Φc (c : Dev nD) : sProp 𝕄 := Pipeline.scopedRest (Ix := HIx 1) (Name := ℕ) (U := UU) (Lvl := ℕ) (Val := Elt F) spec2 c

/-- The proof data of the region entered at the buffers' contents `V`. -/
def dat (c : Dev nD) : Dat τ (Elt F) (HIx 1) ℕ UU ℕ cfg2 c where
  A w := V c (Pipeline.arrRef spec2 w)
  after w _ := match w with
    | ⟨0, _⟩ => stg V c 0
    | ⟨1, _⟩ => stg V c 1
    | ⟨2, _⟩ => stg V c 2
    | ⟨3, _⟩ => stg V c 3
    | ⟨4, _⟩ => stg V c 4
    | ⟨5, _⟩ => stg V c 5
    | ⟨6, _⟩ => stg V c 6
    | ⟨7, _⟩ => stg V c 7
    | ⟨8, _⟩ => stg V c 8
    | ⟨9, _⟩ => res V c
  Φ _ := Φc c
  q _ := fullShare
  owed _ := O
  recorded _ := lowWaits (F := F) c b

def pdats : (p : Fin 2) → (c : Dev nD) → Dat τ (Elt F) (HIx 1) ℕ UU ℕ (Pipeline.pin (pcfgs (F := F)) adm p) c
  | ⟨0, _⟩ => fun c => junkDat c
  | ⟨1, _⟩ => fun c => dat O b V c

theorem body_obligation (c : Dev nD) : BodyObligation (dat O b V c) (defs₀ (F := F)) 𝒱₀ (none : HIx 1) Set.univ := fun t => by
  obtain rfl := fin_N2 t
  rw [bigSep_W2, bigSep_W2]
  rw [show (dat O b V c).Φ t2_0.castSucc = Φc c from rfl, show (dat O b V c).Φ t2_0.succ = Φc c from rfl,
    show (dat O b V c).owesAt (none : HIx 1) t2_0.succ = (dat O b V c).owesAt (none : HIx 1) t2_0.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [show (dat O b V c).before 0 t2_0 d0 = stg V c 0 from ((dat O b V c).before_fetched 0 _ (fetch2_0 _) d0).trans rfl]
  rw [show (dat O b V c).before 1 t2_0 d1 = stg V c 1 from ((dat O b V c).before_fetched 1 _ (fetch2_1 _) d1).trans rfl]
  rw [show (dat O b V c).before 2 t2_0 d2 = stg V c 2 from ((dat O b V c).before_fetched 2 _ (fetch2_2 _) d2).trans rfl]
  rw [show (dat O b V c).before 3 t2_0 d3 = stg V c 3 from ((dat O b V c).before_fetched 3 _ (fetch2_3 _) d3).trans rfl]
  rw [show (dat O b V c).before 4 t2_0 d4 = stg V c 4 from ((dat O b V c).before_fetched 4 _ (fetch2_4 _) d4).trans rfl]
  rw [show (dat O b V c).before 5 t2_0 d5 = stg V c 5 from ((dat O b V c).before_fetched 5 _ (fetch2_5 _) d5).trans rfl]
  rw [show (dat O b V c).before 6 t2_0 d6 = stg V c 6 from ((dat O b V c).before_fetched 6 _ (fetch2_6 _) d6).trans rfl]
  rw [show (dat O b V c).before 7 t2_0 d7 = stg V c 7 from ((dat O b V c).before_fetched 7 _ (fetch2_7 _) d7).trans rfl]
  rw [show (dat O b V c).before 8 t2_0 d8 = stg V c 8 from ((dat O b V c).before_fetched 8 _ (fetch2_8 _) d8).trans rfl]
  iapply (run c _ (hstage2_0 0) _ (hstage2_1 0) _ (hstage2_2 0) _ (hstage2_3 0) _ (hstage2_4 0) _ (hstage2_5 0) _ (hstage2_6 0) _ (hstage2_7 0) _ (hstage2_8 0) _ (hstage2_9 0) _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The result's array after the region. -/
def out (c : Dev nD) : Buf (Elt F) ((c : Thread nD τ).loc main_v7) := (dat O b V c).arrAt 9 cfg2.N

variable (Vp : (c : Dev nD) → (b : Ref sig .tc) → Buf (Elt F) ((c : Thread nD τ).loc b))

set_option backward.isDefEq.respectTransparency.types false in
/-- The region: entered with the buffers at `V` and the core owing `O`, left with the result's array at `out`. -/
def reg (hO : ∀ g, O g none = 0) (hVp_out : ∀ c, Vp c main_v7 = out O b V c) (hVp_ne : ∀ c (r : Ref sig .tc), r ≠ main_v7 → Vp c r = V c r) :
    Pipeline.RegionSeg (pcfgs (F := F)) adm (pdats O b V) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body_obligation O b V c
  hwaits c := Pipeline.cellsWaits_intro _ _ _ _ c fun _ _ _ => (K (F := F)).mayWait_none _ hO
  pre c := iprop(unscopedBufs c (V c) ∗ owesLe c O b)
  post c := iprop(unscopedBufs c (Vp c) ∗ owesLe c O b)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats O b V) launch2.win launch2.arr_whole c
      ((pdats O b V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats O b V 1 c).Φ 0 = Φc c from rfl]
    iintro ⟨-, -, Hr⟩; iexact Hr
  hout c := by
    rw [Pipeline.ownSems0_none, show (pdats O b V 1 c).Φ (Fin.last _) = Φc c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats O b V) ((pdats O b V 1 c).share_full fun _ => rfl) (V c) (Vp c) ((pdats O b V 1 c).arrAt · cfg2.N)
      (fun w => by
        fin_cases w
        · exact ((pdats O b V 1 c).arrAt_in 0 rfl _).trans (hVp_ne c main_v1 (by decide)).symm
        · exact ((pdats O b V 1 c).arrAt_in 1 rfl _).trans (hVp_ne c main_v2 (by decide)).symm
        · exact ((pdats O b V 1 c).arrAt_in 2 rfl _).trans (hVp_ne c main_v3 (by decide)).symm
        · exact ((pdats O b V 1 c).arrAt_in 3 rfl _).trans (hVp_ne c main_arg4 (by decide)).symm
        · exact ((pdats O b V 1 c).arrAt_in 4 rfl _).trans (hVp_ne c main_v4 (by decide)).symm
        · exact ((pdats O b V 1 c).arrAt_in 5 rfl _).trans (hVp_ne c main_arg6 (by decide)).symm
        · exact ((pdats O b V 1 c).arrAt_in 6 rfl _).trans (hVp_ne c main_v5 (by decide)).symm
        · exact ((pdats O b V 1 c).arrAt_in 7 rfl _).trans (hVp_ne c main_arg8 (by decide)).symm
        · exact ((pdats O b V 1 c).arrAt_in 8 rfl _).trans (hVp_ne c main_v6 (by decide)).symm
        · exact (hVp_out c).symm)
      (fun r hr => hVp_ne c r fun h => hr (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro; intro p hp
    rcases hW hp with h | ⟨w, s, h⟩
    · exact h
    · rw [h]; exact Nat.zero_le _

end Mlp

end Cert.KernelIdeal.Pool

end
-- ==== Proof.KI.Sums.lean ====
/-
  One trip of the fifty-row sum of a slot's three row buffers, and the whole sum.
-/
module

public import proofs.«01_k».proof.Proof.KI.Setup
public import Idealize.ShloMosaic.Lib.Pointwise.Index
public import Idealize.ShloMosaic.Lib.Pointwise.Reshape
public import Idealize.ShloMosaic.Lib.Pipeline.Value

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

/-- Sixteen consecutive words of row `t` of a buffer, from column `o`. -/
def chunk (X : S50x128.Idx → Elt F .f32) (t o : ℕ) : FVec F S16 .f32 :=
  fun x => X (ix2 (Fin.ofNat 50 t) (Fin.ofNat 128 (o + (x 0).val)))

/-- The sum of the first `n` rows at those columns, in the order the rows come. -/
def vAcc (X : S50x128.Idx → Elt F .f32) (o : ℕ) : ℕ → FVec F S16 .f32
  | 0 => broadcast S16 (Scalar.ofBits .f32 0x00000000#32)
  | n + 1 => addf (vAcc X o n) (chunk X n o)

/-- The nineteen running sums of a trip. -/
abbrev Acc (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- The nineteen sums after `n` rows: eight of the first buffer, eight of the second, three of the third. -/
def sums (A B C : S50x128.Idx → Elt F .f32) (n : ℕ) : Acc F :=
  (vAcc A 0 n, vAcc A 16 n, vAcc A 32 n, vAcc A 48 n, vAcc A 64 n, vAcc A 80 n, vAcc A 96 n, vAcc A 112 n,
    vAcc B 0 n, vAcc B 16 n, vAcc B 32 n, vAcc B 48 n, vAcc B 64 n, vAcc B 80 n, vAcc B 96 n, vAcc B 112 n,
    vAcc C 0 n, vAcc C 16 n, vAcc C 32 n)

theorem cast_row (arg : Memref sig .scVector .vmem S50x128 .f32) (f : arg.view.ty.Contents (Elt F)) {off : Fin 2 → ℕ} (t o : ℕ)
    (hoff : off = ![t, o]) (inb : ∀ a, off a + S1x16.size a ≤ S50x128.size a) (hs : S1x16.ShapeCasts S16) :
    shapeCast S16 (View.readAt (Elt F) arg.view (Rect.unit (s := S50x128) off S1x16.size inb).toLoadRect f) hs
      = chunk (arg.view.read (Elt F) f) t o := by
  subst hoff
  have h0 : t + 1 ≤ 50 := inb 0
  have h1 : o + 16 ≤ 128 := inb 1
  funext x
  have hx : (x 0).val < 16 := (x 0).isLt
  rw [shapeCast_apply _ hs x (ix2 (0 : Fin 1) (x 0 : Fin 16)) (by
    exact (rowMajor_val2 _ 16 rfl).trans (by rw [rowMajor_val1]; simp))]
  rw [View.readAt_apply]
  unfold chunk
  congr 1
  funext a
  fin_cases a
  · apply Fin.ext
    simp [Rect.toLoadRect, LoadRect.idx]
    omega
  · apply Fin.ext
    simp [Rect.toLoadRect, LoadRect.idx]
    omega

variable (i : grid1.Coords) (d : Dev nD)

/-- The thread of the tile at coordinates `i`. -/
abbrev tileT (d : Dev nD) (i : grid1.Coords) : Thread nD τ := V d ((i 0).castLE hcore1) ((i 1).castLE hsub1)

theorem t2_step (arg2 : Memref sig .scVector .hbm S4096x50 .i32) (harg2 : arg2.IsWhole) (arg3 : Memref sig .scVector .hbm S1000000x300 .f32) (harg3 : arg3.IsWhole) (arg4 : Memref sig .scVector .hbm S1000000x128 .f32) (harg4 : arg4.IsWhole) (arg5 : Memref sig .scVector .hbm S4096x304 .f32) (harg5 : arg5.IsWhole) (arg6 : Memref sig .scVector .vmem S128x50 .i32) (harg6 : arg6.IsWhole) (arg7 : Memref sig .scVector .vmem S50x128 .f32) (harg7 : arg7.IsWhole) (arg8 : Memref sig .scVector .vmem S50x128 .f32) (harg8 : arg8.IsWhole) (arg9 : Memref sig .scVector .vmem S50x128 .f32) (harg9 : arg9.IsWhole) (arg10 : Memref sig .scVector .vmem S50x128 .f32) (harg10 : arg10.IsWhole) (arg11 : Memref sig .scVector .vmem S50x128 .f32) (harg11 : arg11.IsWhole) (arg12 : Memref sig .scVector .vmem S50x128 .f32) (harg12 : arg12.IsWhole) (arg13 : Memref sig .scVector .vmem S50x128 .f32) (harg13 : arg13.IsWhole) (arg14 : Memref sig .scVector .vmem S50x128 .f32) (harg14 : arg14.IsWhole) (arg15 : Memref sig .scVector .vmem S50x128 .f32) (harg15 : arg15.IsWhole) (arg16 : Memref sig .scVector .vmem S50x128 .f32) (harg16 : arg16.IsWhole) (arg17 : Memref sig .scVector .vmem S50x128 .f32) (harg17 : arg17.IsWhole) (arg18 : Memref sig .scVector .vmem S50x128 .f32) (harg18 : arg18.IsWhole) (arg19 : Memref sig .scVector .vmem S4x304 .f32) (harg19 : arg19.IsWhole) (arg20 : DmaSems sig S_) (arg21 : DmaSems sig S_) (arg22 : DmaSems sig S_) (arg23 : DmaSems sig S_) (v31_r0 : DmaSems sig S_) (v633_r1 : DmaSems sig S_) (v46 : FVec F S16 .f32) (v47 : FVec F S16 .f32) (v48 : FVec F S16 .f32) (v49 : FVec F S16 .f32) (v50 : FVec F S16 .f32) (v51 : FVec F S16 .f32) (v52 : FVec F S16 .f32) (v53 : FVec F S16 .f32) (v54 : FVec F S16 .f32) (v55 : FVec F S16 .f32) (v56 : FVec F S16 .f32) (v57 : FVec F S16 .f32) (v58 : FVec F S16 .f32)
    (fA : Buf (Elt F) (arg7.view.loc (tileT d i))) (fB : Buf (Elt F) (arg11.view.loc (tileT d i))) (fC : Buf (Elt F) (arg15.view.loc (tileT d i)))
    (t : Fin k1_t2_loop.trips) (acc : Acc F) :
    (iprop(⌜acc = sums (arg7.view.read (Elt F) fA) (arg11.view.read (Elt F) fB) (arg15.view.read (Elt F) fC) t.val⌝
        ∗ (arg7.view.loc (tileT d i) ↦[arg7.view.set]{fullShare} fA) ∗ (arg11.view.loc (tileT d i) ↦[arg11.view.set]{fullShare} fB)
        ∗ (arg15.view.loc (tileT d i) ↦[arg15.view.set]{fullShare} fC)) : sProp (MM F))
      ⊢ wp frame (wpE (defs₀ (F := F)) 𝒱₀ (tileT d i) none) Set.univ
          (k1_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 v46 v47 v48 v49 v50 v51 v52 v53 v54 v55 v56 v57 v58 t acc)
          fun acc' => iprop(⌜acc' = sums (arg7.view.read (Elt F) fA) (arg11.view.read (Elt F) fB) (arg15.view.read (Elt F) fC) (t.val + 1)⌝
        ∗ (arg7.view.loc (tileT d i) ↦[arg7.view.set]{fullShare} fA) ∗ (arg11.view.loc (tileT d i) ↦[arg11.view.set]{fullShare} fB)
        ∗ (arg15.view.loc (tileT d i) ↦[arg15.view.set]{fullShare} fC)) := by
  obtain ⟨a0,a1,a2,a3,a4,a5,a6,a7,b0,b1,b2,b3,b4,b5,b6,b7,c0,c1,c2⟩ := acc
  unfold k1_t2_body
  simp only [k1_part1_eq_skeleton]; unfold k1_part1_skel
  iintro ⟨%hacc, HA, HB, HC⟩
  sl_exec
  sl_step
  isplitr
  · ipureintro
    obtain ⟨rfl, rfl, rfl, rfl, rfl, rfl, rfl, rfl, rfl, rfl, rfl, rfl, rfl, rfl, rfl, rfl, rfl, rfl, rfl⟩ := by
      simpa only [sums, Prod.mk.injEq] using hacc
    simp only [sums, vAcc, Prod.mk.injEq]
    exact ⟨congrArg (addf _) (cast_row _ _ _ _ (k1_off4_eq t) _ _),
      congrArg (addf _) (cast_row _ _ _ _ (k1_off5_eq t) _ _),
      congrArg (addf _) (cast_row _ _ _ _ (k1_off6_eq t) _ _),
      congrArg (addf _) (cast_row _ _ _ _ (k1_off7_eq t) _ _),
      congrArg (addf _) (cast_row _ _ _ _ (k1_off8_eq t) _ _),
      congrArg (addf _) (cast_row _ _ _ _ (k1_off9_eq t) _ _),
      congrArg (addf _) (cast_row _ _ _ _ (k1_off10_eq t) _ _),
      congrArg (addf _) (cast_row _ _ _ _ (k1_off11_eq t) _ _),
      congrArg (addf _) (cast_row _ _ _ _ (k1_off4_eq t) _ _),
      congrArg (addf _) (cast_row _ _ _ _ (k1_off5_eq t) _ _),
      congrArg (addf _) (cast_row _ _ _ _ (k1_off6_eq t) _ _),
      congrArg (addf _) (cast_row _ _ _ _ (k1_off7_eq t) _ _),
      congrArg (addf _) (cast_row _ _ _ _ (k1_off8_eq t) _ _),
      congrArg (addf _) (cast_row _ _ _ _ (k1_off9_eq t) _ _),
      congrArg (addf _) (cast_row _ _ _ _ (k1_off10_eq t) _ _),
      congrArg (addf _) (cast_row _ _ _ _ (k1_off11_eq t) _ _),
      congrArg (addf _) (cast_row _ _ _ _ (k1_off4_eq t) _ _),
      congrArg (addf _) (cast_row _ _ _ _ (k1_off5_eq t) _ _),
      congrArg (addf _) (cast_row _ _ _ _ (k1_off6_eq t) _ _)⟩
  isplitl [HA]; · iexact HA
  isplitl [HB] <;> iassumption

theorem t3_body_eq (arg2 : Memref sig .scVector .hbm S4096x50 .i32) (harg2 : arg2.IsWhole) (arg3 : Memref sig .scVector .hbm S1000000x300 .f32) (harg3 : arg3.IsWhole) (arg4 : Memref sig .scVector .hbm S1000000x128 .f32) (harg4 : arg4.IsWhole) (arg5 : Memref sig .scVector .hbm S4096x304 .f32) (harg5 : arg5.IsWhole) (arg6 : Memref sig .scVector .vmem S128x50 .i32) (harg6 : arg6.IsWhole) (arg7 : Memref sig .scVector .vmem S50x128 .f32) (harg7 : arg7.IsWhole) (arg8 : Memref sig .scVector .vmem S50x128 .f32) (harg8 : arg8.IsWhole) (arg9 : Memref sig .scVector .vmem S50x128 .f32) (harg9 : arg9.IsWhole) (arg10 : Memref sig .scVector .vmem S50x128 .f32) (harg10 : arg10.IsWhole) (arg11 : Memref sig .scVector .vmem S50x128 .f32) (harg11 : arg11.IsWhole) (arg12 : Memref sig .scVector .vmem S50x128 .f32) (harg12 : arg12.IsWhole) (arg13 : Memref sig .scVector .vmem S50x128 .f32) (harg13 : arg13.IsWhole) (arg14 : Memref sig .scVector .vmem S50x128 .f32) (harg14 : arg14.IsWhole) (arg15 : Memref sig .scVector .vmem S50x128 .f32) (harg15 : arg15.IsWhole) (arg16 : Memref sig .scVector .vmem S50x128 .f32) (harg16 : arg16.IsWhole) (arg17 : Memref sig .scVector .vmem S50x128 .f32) (harg17 : arg17.IsWhole) (arg18 : Memref sig .scVector .vmem S50x128 .f32) (harg18 : arg18.IsWhole) (arg19 : Memref sig .scVector .vmem S4x304 .f32) (harg19 : arg19.IsWhole) (arg20 : DmaSems sig S_) (arg21 : DmaSems sig S_) (arg22 : DmaSems sig S_) (arg23 : DmaSems sig S_) (v31_r0 : DmaSems sig S_) (v633_r1 : DmaSems sig S_)
    (z0 z1 z2 z3 z4 z5 z6 z7 z8 z9 z10 z11 z12 : FVec F S16 .f32) :
    k1_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1
      = k1_t2_body (F := F) i arg2 harg2 arg3 harg3 arg4 harg4 arg5 harg5 arg6 harg6 arg8 harg8 arg7 harg7 arg9 harg9 arg10 harg10 arg12 harg12 arg11 harg11 arg13 harg13 arg14 harg14 arg16 harg16 arg15 harg15 arg17 harg17 arg18 harg18 arg19 harg19 arg20 arg21 arg22 arg23 v31_r0 v633_r1 z0 z1 z2 z3 z4 z5 z6 z7 z8 z9 z10 z11 z12 := by
  unfold k1_t3_body k1_t2_body
  simp only [k1_part1_eq_skeleton, k1_part2_eq_skeleton]; unfold k1_part1_skel k1_part2_skel
  rfl

theorem t4_body_eq (arg2 : Memref sig .scVector .hbm S4096x50 .i32) (harg2 : arg2.IsWhole) (arg3 : Memref sig .scVector .hbm S1000000x300 .f32) (harg3 : arg3.IsWhole) (arg4 : Memref sig .scVector .hbm S1000000x128 .f32) (harg4 : arg4.IsWhole) (arg5 : Memref sig .scVector .hbm S4096x304 .f32) (harg5 : arg5.IsWhole) (arg6 : Memref sig .scVector .vmem S128x50 .i32) (harg6 : arg6.IsWhole) (arg7 : Memref sig .scVector .vmem S50x128 .f32) (harg7 : arg7.IsWhole) (arg8 : Memref sig .scVector .vmem S50x128 .f32) (harg8 : arg8.IsWhole) (arg9 : Memref sig .scVector .vmem S50x128 .f32) (harg9 : arg9.IsWhole) (arg10 : Memref sig .scVector .vmem S50x128 .f32) (harg10 : arg10.IsWhole) (arg11 : Memref sig .scVector .vmem S50x128 .f32) (harg11 : arg11.IsWhole) (arg12 : Memref sig .scVector .vmem S50x128 .f32) (harg12 : arg12.IsWhole) (arg13 : Memref sig .scVector .vmem S50x128 .f32) (harg13 : arg13.IsWhole) (arg14 : Memref sig .scVector .vmem S50x128 .f32) (harg14 : arg14.IsWhole) (arg15 : Memref sig .scVector .vmem S50x128 .f32) (harg15 : arg15.IsWhole) (arg16 : Memref sig .scVector .vmem S50x128 .f32) (harg16 : arg16.IsWhole) (arg17 : Memref sig .scVector .vmem S50x128 .f32) (harg17 : arg17.IsWhole) (arg18 : Memref sig .scVector .vmem S50x128 .f32) (harg18 : arg18.IsWhole) (arg19 : Memref sig .scVector .vmem S4x304 .f32) (harg19 : arg19.IsWhole) (arg20 : DmaSems sig S_) (arg21 : DmaSems sig S_) (arg22 : DmaSems sig S_) (arg23 : DmaSems sig S_) (v31_r0 : DmaSems sig S_) (v633_r1 : DmaSems sig S_)
    (v346 : FVec F S16 .f32) (v347 : FVec F S16 .f32) (v348 : FVec F S16 .f32) (v349 : FVec F S16 .f32) (v350 : FVec F S16 .f32) (v351 : FVec F S16 .f32) (v352 : FVec F S16 .f32) (v353 : FVec F S16 .f32) (v354 : FVec F S16 .f32) (v355 : FVec F S16 .f32) (v356 : FVec F S16 .f32) (v357 : FVec F S16 .f32) (v358 : FVec F S16 .f32) (v359 : FVec F S16 .f32) (v360 : FVec F S16 .f32) (v361 : FVec F S16 .f32) (z0 z1 z2 z3 z4 z5 z6 z7 z8 z9 z10 z11 z12 : FVec F S16 .f32) :
    k1_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 v346 v347 v348 v349 v350 v351 v352 v353 v354 v355 v356 v357 v358 v359 v360 v361
      = k1_t2_body (F := F) i arg2 harg2 arg3 harg3 arg4 harg4 arg5 harg5 arg6 harg6 arg9 harg9 arg8 harg8 arg7 harg7 arg10 harg10 arg13 harg13 arg12 harg12 arg11 harg11 arg14 harg14 arg17 harg17 arg16 harg16 arg15 harg15 arg18 harg18 arg19 harg19 arg20 arg21 arg22 arg23 v31_r0 v633_r1 z0 z1 z2 z3 z4 z5 z6 z7 z8 z9 z10 z11 z12 := by
  unfold k1_t4_body k1_t2_body
  simp only [k1_part1_eq_skeleton, k1_part3_eq_skeleton]; unfold k1_part1_skel k1_part3_skel
  rfl

theorem t5_body_eq (arg2 : Memref sig .scVector .hbm S4096x50 .i32) (harg2 : arg2.IsWhole) (arg3 : Memref sig .scVector .hbm S1000000x300 .f32) (harg3 : arg3.IsWhole) (arg4 : Memref sig .scVector .hbm S1000000x128 .f32) (harg4 : arg4.IsWhole) (arg5 : Memref sig .scVector .hbm S4096x304 .f32) (harg5 : arg5.IsWhole) (arg6 : Memref sig .scVector .vmem S128x50 .i32) (harg6 : arg6.IsWhole) (arg7 : Memref sig .scVector .vmem S50x128 .f32) (harg7 : arg7.IsWhole) (arg8 : Memref sig .scVector .vmem S50x128 .f32) (harg8 : arg8.IsWhole) (arg9 : Memref sig .scVector .vmem S50x128 .f32) (harg9 : arg9.IsWhole) (arg10 : Memref sig .scVector .vmem S50x128 .f32) (harg10 : arg10.IsWhole) (arg11 : Memref sig .scVector .vmem S50x128 .f32) (harg11 : arg11.IsWhole) (arg12 : Memref sig .scVector .vmem S50x128 .f32) (harg12 : arg12.IsWhole) (arg13 : Memref sig .scVector .vmem S50x128 .f32) (harg13 : arg13.IsWhole) (arg14 : Memref sig .scVector .vmem S50x128 .f32) (harg14 : arg14.IsWhole) (arg15 : Memref sig .scVector .vmem S50x128 .f32) (harg15 : arg15.IsWhole) (arg16 : Memref sig .scVector .vmem S50x128 .f32) (harg16 : arg16.IsWhole) (arg17 : Memref sig .scVector .vmem S50x128 .f32) (harg17 : arg17.IsWhole) (arg18 : Memref sig .scVector .vmem S50x128 .f32) (harg18 : arg18.IsWhole) (arg19 : Memref sig .scVector .vmem S4x304 .f32) (harg19 : arg19.IsWhole) (arg20 : DmaSems sig S_) (arg21 : DmaSems sig S_) (arg22 : DmaSems sig S_) (arg23 : DmaSems sig S_) (v31_r0 : DmaSems sig S_) (v633_r1 : DmaSems sig S_)
    (v496 : FVec F S16 .f32) (v497 : FVec F S16 .f32) (cst_313 : F .f32) (z0 z1 z2 z3 z4 z5 z6 z7 z8 z9 z10 z11 z12 : FVec F S16 .f32) :
    k1_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 v496 v497 cst_313
      = k1_t2_body (F := F) i arg2 harg2 arg3 harg3 arg4 harg4 arg5 harg5 arg6 harg6 arg10 harg10 arg8 harg8 arg9 harg9 arg7 harg7 arg14 harg14 arg12 harg12 arg13 harg13 arg11 harg11 arg18 harg18 arg16 harg16 arg17 harg17 arg15 harg15 arg19 harg19 arg20 arg21 arg22 arg23 v31_r0 v633_r1 z0 z1 z2 z3 z4 z5 z6 z7 z8 z9 z10 z11 z12 := by
  unfold k1_t5_body k1_t2_body
  simp only [k1_part1_eq_skeleton, k1_part4_eq_skeleton]; unfold k1_part1_skel k1_part4_skel
  rfl

end Cert.KernelIdeal.Pool

end
-- ==== Proof.KI.Slot.lean ====
/-
  A slot of the ring: three row buffers and a semaphore, and the shares of the table, of its tail and of the fetched
  index block that the three gathers of one bag of rows take while they are in flight.
-/
module

public import proofs.«01_k».proof.Proof.KI.Sums
public import Idealize.ShloMosaic.Lib.Pointwise.Index
public import Idealize.ShloMosaic.Lib.Pointwise.Reshape
public import Idealize.ShloMosaic.Lib.Pipeline.Value

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

open Idealize.ShloMosaic.SparseCore (gatherPayload rows enqueueIndirectGather waitIndirectGather)
open Idealize.ShloMosaic.Transfers (MayWaits)
open Cert.GatherBatch

/-- Columns 0 to 127 of the table. -/
abbrev srcA (tab : Memref sig .scVector .hbm S1000000x300 .f32) : Memref sig .scVector .hbm S1000000x128 .f32 :=
  tab.slice (Rect.unit (s := S1000000x300) ![0, 0] S1000000x128.size inb_S1000000x300_S1000000x128_0_0) (fun _ => rfl)
/-- Columns 128 to 255 of the table. -/
abbrev srcB (tab : Memref sig .scVector .hbm S1000000x300 .f32) : Memref sig .scVector .hbm S1000000x128 .f32 :=
  tab.slice (Rect.unit (s := S1000000x300) ![0, 128] S1000000x128.size inb_S1000000x300_S1000000x128_0_128) (fun _ => rfl)
/-- The tail. -/
abbrev srcC (tail : Memref sig .scVector .hbm S1000000x128 .f32) : Memref sig .scVector .hbm S1000000x128 .f32 :=
  tail.slice (Rect.unit (s := S1000000x128) ![0, 0] S1000000x128.size inb_S1000000x128_S1000000x128_0_0) (fun _ => rfl)

theorem inbRow (b : Fin 128) : ∀ a, (![b.val, 0] : Fin 2 → ℕ) a + S1x50.size a ≤ S128x50.size a := by
  have := b.isLt; intro a; fin_cases a <;> simp <;> omega

/-- Row `off` of the fetched index block, as a list of fifty words. -/
abbrev listAt (idx : Memref sig .scVector .vmem S128x50 .i32) (off : Fin 2 → ℕ) (h : ∀ a, off a + S1x50.size a ≤ S128x50.size a) :
    Memref sig .scVector .vmem S50 .i32 :=
  (idx.slice (Rect.unit (s := S128x50) off S1x50.size h) (fun _ => rfl)).squeeze S50 squeezes_S1x50_S50

/-- The rows of a source that a list of fifty words names. -/
def gath (X : S1000000x128.Idx → Elt F .f32) (l : Fin 50 → BitVec 32) : S50x128.Idx → Elt F .f32 :=
  fun x => X (ix2 (Fin.ofNat 1000000 (l (x 0)).toNat) (x 1))

variable (d : Dev nD) (i : grid1.Coords)
variable (tab : Memref sig .scVector .hbm S1000000x300 .f32) (tail : Memref sig .scVector .hbm S1000000x128 .f32)
  (idx : Memref sig .scVector .vmem S128x50 .i32)
variable (fT : Buf (Elt F) (tab.view.loc (tileT d i))) (fL : Buf (Elt F) (tail.view.loc (tileT d i))) (fo : Buf (Elt F) (idx.view.loc (tileT d i)))

/-- Row `b` of the index block's contents. -/
def lst (b : Fin 128) : Fin 50 → BitVec 32 := fun k => idx.view.read (Elt F) fo (ix2 b k)

theorem list_set_subset (off h) : (listAt idx off h).view.set ⊆ idx.view.set := by
  exact (View.set_reshape (idx.view.slice (Rect.unit (s := S128x50) off S1x50.size h)) _).subset.trans (View.set_slice_subset _ _)

theorem list_read (b : Fin 128) (x : S50.Idx) :
    (listAt idx ![b.val, 0] (inbRow b)).view.read (Elt F) fo x = idx.view.read (Elt F) fo (ix2 b (x 0 : Fin 50)) := by
  have e : Shape.reshapeEquiv (squeezes_S1x50_S50 : S1x50.Squeezes S50).numel_eq x = ix2 (0 : Fin 1) (x 0 : Fin 50) := by
    apply Shape.reshapeEquiv_eq_of_rowMajor
    exact (rowMajor_val2 _ 50 rfl).trans (by rw [rowMajor_val1]; simp)
  change idx.view.read (Elt F) fo ((Rect.unit (s := S128x50) ![b.val, 0] S1x50.size (inbRow b)).emb (Shape.reshapeEquiv (squeezes_S1x50_S50 : S1x50.Squeezes S50).numel_eq x)) = _
  rw [e]
  congr 1
  funext a
  fin_cases a
  · apply Fin.ext; simp
  · apply Fin.ext; simp

theorem list_lt (H : ∀ x, (idx.view.read (Elt F) fo x).toNat < 1000000) (b : Fin 128) :
    ∀ x, ((listAt idx ![b.val, 0] (inbRow b)).view.read (Elt F) fo x).toNat < S1000000x128.size (gathers_S1000000x128_S50x128).axis := by
  intro x
  rw [list_read d i idx fo b]
  exact H _

theorem landed_eq (H : ∀ x, (idx.view.read (Elt F) fo x).toNat < 1000000) (b : Fin 128)
    (src : Memref sig .scVector .hbm S1000000x128 .f32) (f : Buf (Elt F) (src.view.loc (tileT d i))) :
    landed (tileT d i) gathers_S1000000x128_S50x128 (listAt idx ![b.val, 0] (inbRow b)) rfl fo (list_lt d i idx fo H b) src f
      = gath (src.view.read (Elt F) f) (lst d i idx fo b) := by
  funext x
  unfold landed gath gatherPayload
  congr 1
  funext a
  fin_cases a
  · apply Fin.ext
    have key : ∀ k : Fin 50, ((listAt idx ![b.val, 0] (inbRow b)).view.read (Elt F) fo (S50.rowMajor.symm (k.cast rfl))).toNat
        = (Fin.ofNat 1000000 (lst d i idx fo b k).toNat).val := by
      intro k
      have e : (S50.rowMajor.symm (k.cast rfl)) = ix1 k := by
        apply S50.rowMajor.injective
        rw [Equiv.apply_symm_apply]
        apply Fin.ext
        rw [rowMajor_val1]; rfl
      rw [e, list_read]
      exact (Nat.mod_eq_of_lt (H (ix2 b k))).symm
    exact key (x 0)
  · rfl

variable (A B C : Memref sig .scVector .vmem S50x128 .f32) (sem : DmaSem sig) (qA qB qC oA oB oC : PosShare TreeShare) (N : ℕ)

/-- A buffer whole, at any contents. -/
def anyBuf (m : Memref sig .scVector .vmem S50x128 .f32) : sProp (MM F) :=
  iprop(∃ f, m.view.loc (tileT d i) ↦[m.view.set]{fullShare} f)

/-- A slot's shares of what its gathers read, and its semaphore at zero. -/
def slotIdle : sProp (MM F) :=
  iprop(((srcA tab).view.loc (tileT d i) ↦[(srcA tab).view.set]{qA} fT) ∗ ((srcB tab).view.loc (tileT d i) ↦[(srcB tab).view.set]{qB} fT)
    ∗ ((srcC tail).view.loc (tileT d i) ↦[(srcC tail).view.set]{qC} fL)
    ∗ (idx.view.loc (tileT d i) ↦[idx.view.set]{oA} fo) ∗ (idx.view.loc (tileT d i) ↦[idx.view.set]{oB} fo) ∗ (idx.view.loc (tileT d i) ↦[idx.view.set]{oC} fo)
    ∗ semVal (tileT d i, .dma sem) 0)

/-- A slot that nothing is in flight for. -/
def slotFree : sProp (MM F) :=
  iprop(slotIdle d i tab tail idx fT fL fo sem qA qB qC oA oB oC ∗ anyBuf d i A ∗ anyBuf d i B ∗ anyBuf d i C)

/-- A share of the index block less its row `b`. -/
def rest (b : Fin 128) (o : PosShare TreeShare) : sProp (MM F) :=
  iprop(idx.view.loc (tileT d i) ↦[idx.view.set \ (listAt idx ![b.val, 0] (inbRow b)).view.set]{o} fo)

variable (H : ∀ x, (idx.view.read (Elt F) fo x).toNat < 1000000) (b : Fin 128)

/-- After the first issue. -/
def slotIss1 : sProp (MM F) :=
  iprop(rest d i idx fo b oA ∗ (idx.view.loc (tileT d i) ↦[idx.view.set]{oB} fo) ∗ (idx.view.loc (tileT d i) ↦[idx.view.set]{oC} fo)
    ∗ ((srcB tab).view.loc (tileT d i) ↦[(srcB tab).view.set]{qB} fT) ∗ ((srcC tail).view.loc (tileT d i) ↦[(srcC tail).view.set]{qC} fL)
    ∗ issued1 (countersEmb (U := UU)) (tileT d i) (default : HIx 1) N sem (srcA tab) (srcB tab) (srcC tail) A B C gathers_S1000000x128_S50x128
        (listAt idx ![b.val, 0] (inbRow b)) rfl (by decide) qA qB qC oA oB oC fT fT fL fo (list_lt d i idx fo H b))

/-- After the second issue. -/
def slotIss2 : sProp (MM F) :=
  iprop(rest d i idx fo b oA ∗ rest d i idx fo b oB ∗ (idx.view.loc (tileT d i) ↦[idx.view.set]{oC} fo)
    ∗ ((srcC tail).view.loc (tileT d i) ↦[(srcC tail).view.set]{qC} fL)
    ∗ issued2 (countersEmb (U := UU)) (tileT d i) (default : HIx 1) N sem (srcA tab) (srcB tab) (srcC tail) A B C gathers_S1000000x128_S50x128
        (listAt idx ![b.val, 0] (inbRow b)) rfl (by decide) qA qB qC oA oB oC fT fT fL fo (list_lt d i idx fo H b))

/-- A slot with the gathers of bag `b` in flight, `u` units of its semaphore waited for. -/
def slotFly (u : ℕ) : sProp (MM F) :=
  iprop(rest d i idx fo b oA ∗ rest d i idx fo b oB ∗ rest d i idx fo b oC
    ∗ waited (countersEmb (U := UU)) (tileT d i) (default : HIx 1) N sem (srcA tab) (srcB tab) (srcC tail) A B C gathers_S1000000x128_S50x128
        (listAt idx ![b.val, 0] (inbRow b)) rfl (by decide) qA qB qC oA oB oC fT fT fL fo (list_lt d i idx fo H b) u)

/-- A buffer that holds the rows of a source that bag `b` names. -/
def gotBuf (m : Memref sig .scVector .vmem S50x128 .f32) (X : S1000000x128.Idx → Elt F .f32) : sProp (MM F) :=
  iprop(∃ f, ⌜m.view.read (Elt F) f = gath X (lst d i idx fo b)⌝ ∗ m.view.loc (tileT d i) ↦[m.view.set]{fullShare} f)

theorem split_list (o : PosShare TreeShare) :
    (iprop(idx.view.loc (tileT d i) ↦[idx.view.set]{o} fo) : sProp (MM F))
      ⊢ iprop(((listAt idx ![b.val, 0] (inbRow b)).view.loc (tileT d i) ↦[(listAt idx ![b.val, 0] (inbRow b)).view.set]{o} fo) ∗ rest d i idx fo b o) :=
  (pointsTo_split_subset (list_set_subset idx _ _)).1

theorem join_list (o : PosShare TreeShare) :
    (iprop(((listAt idx ![b.val, 0] (inbRow b)).view.loc (tileT d i) ↦[(listAt idx ![b.val, 0] (inbRow b)).view.set]{o} fo) ∗ rest d i idx fo b o) : sProp (MM F))
      ⊢ iprop(idx.view.loc (tileT d i) ↦[idx.view.set]{o} fo) :=
  (pointsTo_split_subset (list_set_subset idx _ _)).2

variable {α : Type} {Q : α → sProp (MM F)} {kk : PUnit → Prog (TpuEff nD τ sig (Elt F) Λ₀ (tileT d i).2) α}
  {off : Fin 2 → ℕ} (hoff : off = ![b.val, 0]) {inb : ∀ a, off a + S1x50.size a ≤ S128x50.size a}

include hoff in
theorem slot_start1 {hp : (tileT d i).2.kind = .scVector} {hs : (srcA tab).view.WordExact} {he : EltTy.f32.bits = 32}
    {hsp : Space.hbm = .hbm ∨ Space.hbm = .shared} {hr : S1000000x128.StreamRows 0}
    (hN : ∀ j, (A.slice (S50x128.rowRect gathers_S1000000x128_S50x128.axis' j) (S50x128.stride_rowRect gathers_S1000000x128_S50x128.axis' j)).view.dmaCredit = N) :
    slotFree d i tab tail idx fT fL fo A B C sem qA qB qC oA oB oC ⊢ iprop((slotIss1 d i tab tail idx fT fL fo A B C sem qA qB qC oA oB oC N H b -∗ wp frame (wpE (defs₀ (F := F)) 𝒱₀ (tileT d i) none) Set.univ (kk ⟨⟩) Q)
      -∗ wp frame (wpE (defs₀ (F := F)) 𝒱₀ (tileT d i) none) Set.univ
          (enqueueIndirectGather hp (srcA tab) A gathers_S1000000x128_S50x128 (listAt idx off inb) rfl sem hs he hsp hr >>= kk) Q) := by
  subst hoff
  unfold slotFree slotIdle anyBuf slotIss1
  iintro ⟨⟨HsA, HsB, HsC, Ho, HoB, HoC, Hsem⟩, HA, HB, HC⟩ Hk
  ihave Ho := (split_list d i idx fo b _) $$ Ho
  icases Ho with ⟨Ho, Hrest⟩
  iapply (wp_start1 (countersEmb (U := UU)) 𝒱₀ (tileT d i) none (default : HIx 1) N sem (srcA tab) (srcB tab) (srcC tail) A B C gathers_S1000000x128_S50x128
        (listAt idx ![b.val, 0] (inbRow b)) rfl (by decide) qA qB qC oA oB oC fT fT fL fo (list_lt d i idx fo H b) hN) $$ [HsA Ho HA HB HC Hsem]
  · isplitl [HsA]; · iexact HsA
    isplitl [Ho]; · iexact Ho
    isplitl [HA]; · iexact HA
    isplitl [HB]; · iexact HB
    isplitl [HC] <;> iassumption
  iintro HI
  iapply Hk
  isplitl [Hrest]; · iexact Hrest
  isplitl [HoB]; · iexact HoB
  isplitl [HoC]; · iexact HoC
  isplitl [HsB]; · iexact HsB
  isplitl [HsC] <;> iassumption

include hoff in
theorem slot_start2 {hp : (tileT d i).2.kind = .scVector} {hs : (srcB tab).view.WordExact} {he : EltTy.f32.bits = 32}
    {hsp : Space.hbm = .hbm ∨ Space.hbm = .shared} {hr : S1000000x128.StreamRows 0}
    (hN : ∀ j, (B.slice (S50x128.rowRect gathers_S1000000x128_S50x128.axis' j) (S50x128.stride_rowRect gathers_S1000000x128_S50x128.axis' j)).view.dmaCredit = N) :
    slotIss1 d i tab tail idx fT fL fo A B C sem qA qB qC oA oB oC N H b ⊢ iprop((slotIss2 d i tab tail idx fT fL fo A B C sem qA qB qC oA oB oC N H b -∗ wp frame (wpE (defs₀ (F := F)) 𝒱₀ (tileT d i) none) Set.univ (kk ⟨⟩) Q)
      -∗ wp frame (wpE (defs₀ (F := F)) 𝒱₀ (tileT d i) none) Set.univ
          (enqueueIndirectGather hp (srcB tab) B gathers_S1000000x128_S50x128 (listAt idx off inb) rfl sem hs he hsp hr >>= kk) Q) := by
  subst hoff
  unfold slotIss1 slotIss2
  iintro ⟨HrA, Ho, HoC, HsB, HsC, HI⟩ Hk
  ihave Ho := (split_list d i idx fo b _) $$ Ho
  icases Ho with ⟨Ho, Hrest⟩
  iapply (wp_start2 (countersEmb (U := UU)) 𝒱₀ (tileT d i) none (default : HIx 1) N sem (srcA tab) (srcB tab) (srcC tail) A B C gathers_S1000000x128_S50x128
        (listAt idx ![b.val, 0] (inbRow b)) rfl (by decide) qA qB qC oA oB oC fT fT fL fo (list_lt d i idx fo H b) hN) $$ [HsB Ho HI]
  · isplitl [HsB]; · iexact HsB
    isplitl [Ho] <;> iassumption
  iintro HI
  iapply Hk
  isplitl [HrA]; · iexact HrA
  isplitl [Hrest]; · iexact Hrest
  isplitl [HoC]; · iexact HoC
  isplitl [HsC] <;> iassumption

include hoff in
theorem slot_start3 {hp : (tileT d i).2.kind = .scVector} {hs : (srcC tail).view.WordExact} {he : EltTy.f32.bits = 32}
    {hsp : Space.hbm = .hbm ∨ Space.hbm = .shared} {hr : S1000000x128.StreamRows 0}
    (hN : ∀ j, (C.slice (S50x128.rowRect gathers_S1000000x128_S50x128.axis' j) (S50x128.stride_rowRect gathers_S1000000x128_S50x128.axis' j)).view.dmaCredit = N) :
    slotIss2 d i tab tail idx fT fL fo A B C sem qA qB qC oA oB oC N H b ⊢ iprop((slotFly d i tab tail idx fT fL fo A B C sem qA qB qC oA oB oC N H b 0 -∗ wp frame (wpE (defs₀ (F := F)) 𝒱₀ (tileT d i) none) Set.univ (kk ⟨⟩) Q)
      -∗ wp frame (wpE (defs₀ (F := F)) 𝒱₀ (tileT d i) none) Set.univ
          (enqueueIndirectGather hp (srcC tail) C gathers_S1000000x128_S50x128 (listAt idx off inb) rfl sem hs he hsp hr >>= kk) Q) := by
  subst hoff
  unfold slotIss2 slotFly
  iintro ⟨HrA, HrB, Ho, HsC, HI⟩ Hk
  ihave Ho := (split_list d i idx fo b _) $$ Ho
  icases Ho with ⟨Ho, Hrest⟩
  iapply (wp_start3 (countersEmb (U := UU)) 𝒱₀ (tileT d i) none (default : HIx 1) N sem (srcA tab) (srcB tab) (srcC tail) A B C gathers_S1000000x128_S50x128
        (listAt idx ![b.val, 0] (inbRow b)) rfl (by decide) qA qB qC oA oB oC fT fT fL fo (list_lt d i idx fo H b) hN) $$ [HsC Ho HI]
  · isplitl [HsC]; · iexact HsC
    isplitl [Ho] <;> iassumption
  iintro HI
  iapply Hk
  isplitl [HrA]; · iexact HrA
  isplitl [HrB]; · iexact HrB
  isplitl [Hrest] <;> iassumption

theorem slot_wait1 {hs : (srcA tab).view.WordExact} {hd : A.view.WordExact} (hJ : A.view.dmaCredit = 50 * N)
    {O : CellTallies nD τ sig (HIx 1)} {W : Waits sig (HIx 1)} :
    (iprop(MayWaits (tileT d i) (default : HIx 1) O ∗ slotFly d i tab tail idx fT fL fo A B C sem qA qB qC oA oB oC N H b 0 ∗ owes (tileT d i) O W) : sProp (MM F))
      ⊢ iprop((iprop(slotFly d i tab tail idx fT fL fo A B C sem qA qB qC oA oB oC N H b (0 + 50 * N) ∗ owes (tileT d i) O (insert (SemLoc.dma sem, (default : HIx 1)) W))
          -∗ wp frame (wpE (defs₀ (F := F)) 𝒱₀ (tileT d i) none) Set.univ (kk ⟨⟩) Q)
        -∗ wp frame (wpE (defs₀ (F := F)) 𝒱₀ (tileT d i) none) Set.univ (.op (.waitDma2 sem (srcA tab) A hs hd) kk) Q) := by
  unfold slotFly
  iintro ⟨Hmw, ⟨HrA, HrB, HrC, HI⟩, HO⟩ Hk
  iapply (wp_wait1 (countersEmb (U := UU)) 𝒱₀ (tileT d i) none (default : HIx 1) N sem (srcA tab) (srcB tab) (srcC tail) A B C gathers_S1000000x128_S50x128
        (listAt idx ![b.val, 0] (inbRow b)) rfl (by decide) qA qB qC oA oB oC fT fT fL fo (list_lt d i idx fo H b) hJ) $$ [Hmw HI HO]
  · isplitl [Hmw]; · iexact Hmw
    isplitl [HI]; · iexact HI
    iexact HO
  iintro ⟨HI, HO⟩
  iapply Hk
  isplitr [HO]
  · isplitl [HrA]; · iexact HrA
    isplitl [HrB]; · iexact HrB
    isplitl [HrC]; · iexact HrC
    iexact HI
  · iexact HO

theorem slot_wait2 {hs : (srcB tab).view.WordExact} {hd : B.view.WordExact} (hJ : B.view.dmaCredit = 50 * N)
    {O : CellTallies nD τ sig (HIx 1)} {W : Waits sig (HIx 1)} :
    (iprop(MayWaits (tileT d i) (default : HIx 1) O ∗ slotFly d i tab tail idx fT fL fo A B C sem qA qB qC oA oB oC N H b (0 + 50 * N) ∗ owes (tileT d i) O W) : sProp (MM F))
      ⊢ iprop((iprop(slotFly d i tab tail idx fT fL fo A B C sem qA qB qC oA oB oC N H b (0 + 50 * N + 50 * N) ∗ owes (tileT d i) O (insert (SemLoc.dma sem, (default : HIx 1)) W))
          -∗ wp frame (wpE (defs₀ (F := F)) 𝒱₀ (tileT d i) none) Set.univ (kk ⟨⟩) Q)
        -∗ wp frame (wpE (defs₀ (F := F)) 𝒱₀ (tileT d i) none) Set.univ (.op (.waitDma2 sem (srcB tab) B hs hd) kk) Q) := by
  unfold slotFly
  iintro ⟨Hmw, ⟨HrA, HrB, HrC, HI⟩, HO⟩ Hk
  iapply (wp_wait2 (countersEmb (U := UU)) 𝒱₀ (tileT d i) none (default : HIx 1) N sem (srcA tab) (srcB tab) (srcC tail) A B C gathers_S1000000x128_S50x128
        (listAt idx ![b.val, 0] (inbRow b)) rfl (by decide) qA qB qC oA oB oC fT fT fL fo (list_lt d i idx fo H b) hJ) $$ [Hmw HI HO]
  · isplitl [Hmw]; · iexact Hmw
    isplitl [HI]; · iexact HI
    iexact HO
  iintro ⟨HI, HO⟩
  iapply Hk
  isplitr [HO]
  · isplitl [HrA]; · iexact HrA
    isplitl [HrB]; · iexact HrB
    isplitl [HrC]; · iexact HrC
    iexact HI
  · iexact HO

theorem slot_wait3 {hs : (srcC tail).view.WordExact} {hd : C.view.WordExact} (hJ : C.view.dmaCredit = 50 * N) (hN0 : 0 < N)
    {O : CellTallies nD τ sig (HIx 1)} {W : Waits sig (HIx 1)} :
    (iprop(MayWaits (tileT d i) (default : HIx 1) O ∗ slotFly d i tab tail idx fT fL fo A B C sem qA qB qC oA oB oC N H b (0 + 50 * N + 50 * N) ∗ owes (tileT d i) O W) : sProp (MM F))
      ⊢ iprop((iprop(slotIdle d i tab tail idx fT fL fo sem qA qB qC oA oB oC ∗ gotBuf d i idx fo b A ((srcA tab).view.read (Elt F) fT) ∗ gotBuf d i idx fo b B ((srcB tab).view.read (Elt F) fT) ∗ gotBuf d i idx fo b C ((srcC tail).view.read (Elt F) fL)
            ∗ owes (tileT d i) O (insert (SemLoc.dma sem, (default : HIx 1)) W))
          -∗ wp frame (wpE (defs₀ (F := F)) 𝒱₀ (tileT d i) none) Set.univ (kk ⟨⟩) Q)
        -∗ wp frame (wpE (defs₀ (F := F)) 𝒱₀ (tileT d i) none) Set.univ (.op (.waitDma2 sem (srcC tail) C hs hd) kk) Q) := by
  unfold slotFly
  iintro ⟨Hmw, ⟨HrA, HrB, HrC, HI⟩, HO⟩ Hk
  iapply (wp_wait3 (countersEmb (U := UU)) 𝒱₀ (tileT d i) none (default : HIx 1) N sem (srcA tab) (srcB tab) (srcC tail) A B C gathers_S1000000x128_S50x128
        (listAt idx ![b.val, 0] (inbRow b)) rfl (by decide) qA qB qC oA oB oC fT fT fL fo (list_lt d i idx fo H b) hJ hN0) $$ [Hmw HI HO]
  · isplitl [Hmw]; · iexact Hmw
    isplitl [HI]; · iexact HI
    iexact HO
  rw [landed_eq d i idx fo H b (srcA tab) fT, landed_eq d i idx fo H b (srcB tab) fT, landed_eq d i idx fo H b (srcC tail) fL]
  iintro ⟨HsA, HsB, HsC, HoA, HoB, HoC, HA, HB, HC, Hsem, HO⟩
  ihave HoA := (join_list d i idx fo b _) $$ [HoA HrA]; · isplitl [HoA] <;> iassumption
  ihave HoB := (join_list d i idx fo b _) $$ [HoB HrB]; · isplitl [HoB] <;> iassumption
  ihave HoC := (join_list d i idx fo b _) $$ [HoC HrC]; · isplitl [HoC] <;> iassumption
  iapply Hk
  unfold slotIdle gotBuf
  isplitl [HsA HsB HsC HoA HoB HoC Hsem]
  · isplitl [HsA]; · iexact HsA
    isplitl [HsB]; · iexact HsB
    isplitl [HsC]; · iexact HsC
    isplitl [HoA]; · iexact HoA
    isplitl [HoB]; · iexact HoB
    isplitl [HoC] <;> iassumption
  isplitl [HA]; · iexact HA
  isplitl [HB]; · iexact HB
  isplitl [HC] <;> iassumption

end Cert.KernelIdeal.Pool

end
-- ==== Proof.KI.Loop.lean ====
/-
  The whole fifty-row sum of a slot, and what the four staged rows hold after some of their words are written.
-/
module

public import proofs.«01_k».proof.Proof.KI.Slot
public import Idealize.ShloMosaic.Lib.WritesUnit
public import Idealize.ShloMosaic.Lib.Pointwise.Index
public import Idealize.ShloMosaic.Lib.Pointwise.Reshape
public import Idealize.ShloMosaic.Lib.Pipeline.Value

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

open Cert.GatherBatch

variable (d : Dev nD) (i : grid1.Coords)

/-- The loop over fifty rows, at the head of a program. -/
theorem sum_loop (L : Scf.Loop 32) (hok : L.OK) (htr : L.trips = 50)
    (body : Fin L.trips → Acc F → Prog (TpuEff nD τ sig (Elt F) Λ₀ (tileT d i).2) (Acc F))
    (A B C : Memref sig .scVector .vmem S50x128 .f32)
    (fA : Buf (Elt F) (A.view.loc (tileT d i))) (fB : Buf (Elt F) (B.view.loc (tileT d i))) (fC : Buf (Elt F) (C.view.loc (tileT d i)))
    (hbody : ∀ (t : Fin L.trips) (acc : Acc F),
      (iprop(⌜acc = sums (A.view.read (Elt F) fA) (B.view.read (Elt F) fB) (C.view.read (Elt F) fC) t.val⌝
        ∗ (A.view.loc (tileT d i) ↦[A.view.set]{fullShare} fA) ∗ (B.view.loc (tileT d i) ↦[B.view.set]{fullShare} fB)
        ∗ (C.view.loc (tileT d i) ↦[C.view.set]{fullShare} fC)) : sProp (MM F))
      ⊢ wp frame (wpE (defs₀ (F := F)) 𝒱₀ (tileT d i) none) Set.univ (body t acc)
          fun acc' => iprop(⌜acc' = sums (A.view.read (Elt F) fA) (B.view.read (Elt F) fB) (C.view.read (Elt F) fC) (t.val + 1)⌝
        ∗ (A.view.loc (tileT d i) ↦[A.view.set]{fullShare} fA) ∗ (B.view.loc (tileT d i) ↦[B.view.set]{fullShare} fB)
        ∗ (C.view.loc (tileT d i) ↦[C.view.set]{fullShare} fC)))
    {α : Type} {Q : α → sProp (MM F)} {kk : Acc F → Prog (TpuEff nD τ sig (Elt F) Λ₀ (tileT d i).2) α} {init : Acc F}
    (hinit : init = sums (A.view.read (Elt F) fA) (B.view.read (Elt F) fB) (C.view.read (Elt F) fC) 0) :
    (iprop((A.view.loc (tileT d i) ↦[A.view.set]{fullShare} fA) ∗ (B.view.loc (tileT d i) ↦[B.view.set]{fullShare} fB)
        ∗ (C.view.loc (tileT d i) ↦[C.view.set]{fullShare} fC)) : sProp (MM F))
      ⊢ iprop((iprop((A.view.loc (tileT d i) ↦[A.view.set]{fullShare} fA) ∗ (B.view.loc (tileT d i) ↦[B.view.set]{fullShare} fB)
        ∗ (C.view.loc (tileT d i) ↦[C.view.set]{fullShare} fC))
          -∗ wp frame (wpE (defs₀ (F := F)) 𝒱₀ (tileT d i) none) Set.univ (kk (sums (A.view.read (Elt F) fA) (B.view.read (Elt F) fB) (C.view.read (Elt F) fC) 50)) Q)
        -∗ wp frame (wpE (defs₀ (F := F)) 𝒱₀ (tileT d i) none) Set.univ (Scf.Loop.for L hok init body >>= kk) Q) := by
  have key := Scf.wp_for_bind frame (wpE (defs₀ (F := F)) 𝒱₀ (tileT d i) none) Set.univ L.lb L.ub L.st hok init body
    (fun n acc => (iprop(⌜acc = sums (A.view.read (Elt F) fA) (B.view.read (Elt F) fB) (C.view.read (Elt F) fC) n⌝
        ∗ (A.view.loc (tileT d i) ↦[A.view.set]{fullShare} fA) ∗ (B.view.loc (tileT d i) ↦[B.view.set]{fullShare} fB)
        ∗ (C.view.loc (tileT d i) ↦[C.view.set]{fullShare} fC)) : sProp (MM F))) hbody (kk := kk) (Q := Q)
  iintro H Hk
  iapply key $$ [H]
  · isplitr
    · ipureintro; exact hinit
    · iexact H
  iintro %acc ⟨%hacc, H⟩
  have hacc' : acc = sums (A.view.read (Elt F) fA) (B.view.read (Elt F) fB) (C.view.read (Elt F) fC) 50 := by rw [hacc]; exact congrArg _ htr
  rw [hacc']
  iapply Hk
  iexact H

/-- The constant the sums are multiplied by. -/
def lenC : F .f32 := Named.named κ "inv_len" 0x3CA3D70A#32

/-- The sum of column `j` of the first `n` rows. -/
def rSum (X : S50x128.Idx → Elt F .f32) (j : ℕ) : ℕ → F .f32
  | 0 => Scalar.ofBits .f32 0x00000000#32
  | n + 1 => FloatOps.addf (rSum X j n) (X (ix2 (Fin.ofNat 50 n) (Fin.ofNat 128 j)))

theorem vAcc_apply (X : S50x128.Idx → Elt F .f32) (o n : ℕ) (x : S16.Idx) : vAcc X o n x = rSum X (o + (x 0).val) n := by
  induction n with
  | zero => rfl
  | succ n ih => simp only [vAcc, rSum, addf, ih]; rfl

/-- Column `j` of a bag's result, of the bag's rows in the three buffers. -/
def rowVal (A B C : S50x128.Idx → Elt F .f32) (j : ℕ) : F .f32 :=
  FloatOps.mulf (if j < 128 then rSum A j 50 else if j < 256 then rSum B (j - 128) 50 else rSum C (j - 256) 50) lenC

/-- A scaled sum, as the row of sixteen words that is stored. -/
abbrev scl (v : FVec F S16 .f32) : FVec F S1x16 .f32 := shapeCast S1x16 (mulf v (broadcast S16 lenC)) shapeCasts_S16_S1x16

theorem scl_apply (v : FVec F S16 .f32) (x : S1x16.Idx) : scl v x = FloatOps.mulf (v (ix1 (x 1 : Fin 16))) lenC := by
  unfold scl
  rw [shapeCast_apply _ shapeCasts_S16_S1x16 x (ix1 (x 1 : Fin 16)) (by
    have h0 : (x 0).val = 0 := Nat.lt_one_iff.mp (x 0).isLt
    rw [rowMajor_val1]; exact ((rowMajor_val2 x 16 rfl).trans (by rw [h0]; simp)).symm)]
  rfl

theorem scl_A (A B C : S50x128.Idx → Elt F .f32) (o : ℕ) (ho : o + 16 ≤ 128) (x : S1x16.Idx) :
    scl (vAcc A o 50) x = rowVal A B C (o + (x 1).val) := by
  have hx : (x 1).val < 16 := (x 1).isLt
  rw [scl_apply, vAcc_apply, rowVal, if_pos (by omega)]; rfl

theorem scl_B (A B C : S50x128.Idx → Elt F .f32) (o : ℕ) (ho : o + 16 ≤ 128) (x : S1x16.Idx) :
    scl (vAcc B o 50) x = rowVal A B C (128 + o + (x 1).val) := by
  have hx : (x 1).val < 16 := (x 1).isLt
  rw [scl_apply, vAcc_apply, rowVal, if_neg (by omega), if_pos (by omega)]
  congr 2
  show o + (x 1).val = _
  omega

theorem scl_C (A B C : S50x128.Idx → Elt F .f32) (o : ℕ) (ho : o + 16 ≤ 128) (x : S1x16.Idx) :
    scl (vAcc C o 50) x = rowVal A B C (256 + o + (x 1).val) := by
  have hx : (x 1).val < 16 := (x 1).isLt
  rw [scl_apply, vAcc_apply, rowVal, if_neg (by omega), if_neg (by omega)]
  congr 2
  show o + (x 1).val = _
  omega

/-- The first `n` words of the stage, in row order, hold what `g` says. -/
def upTo (v : View sig .scVector .vmem S4x304 .f32) (f : v.ty.Contents (Elt F)) (g : ℕ → ℕ → F .f32) (n : ℕ) : Prop :=
  ∀ (r : Fin 4) (c : Fin 304), 304 * r.val + c.val < n → v.read (Elt F) f (ix2 r c) = g r.val c.val

theorem upTo_cons (v : View sig .scVector .vmem S4x304 .f32) (f : v.ty.Contents (Elt F)) (g : ℕ → ℕ → F .f32) (n r c : ℕ)
    {inb : ∀ a, (![r, c] : Fin 2 → ℕ) a + S1x16.size a ≤ S4x304.size a} {w : S1x16.Idx → Elt F .f32} {L : List (View.Piece (Elt F) S4x304 .f32)}
    (hn : n = 304 * r + c) (hw : ∀ x, w x = g r (c + (x 1).val)) (h : upTo v (v.writes (Elt F) f L) g n) :
    upTo v (v.writes (Elt F) f ((⟨Rect.unit (s := S4x304) ![r, c] S1x16.size inb, w⟩ : View.Piece (Elt F) S4x304 .f32) :: L)) g (n + 16) := by
  intro r' c' hlt
  have h0 : r + 1 ≤ 4 := inb 0
  have h1 : c + 16 ≤ 304 := inb 1
  have hc' := c'.isLt
  by_cases hm : r'.val = r ∧ c ≤ c'.val
  · obtain ⟨hr, hc⟩ := hm
    have hcc : c'.val - c < 16 := by omega
    rw [View.read_writes_cons_unit_of_mem v f inb w L (ix2 r' c') (ix2 (0 : Fin 1) (⟨c'.val - c, hcc⟩ : Fin 16)) rfl (by
      intro a; fin_cases a
      · show r'.val = r + 0; omega
      · show c'.val = c + (c'.val - c); omega)]
    rw [hw, ← hr]
    congr 1
    show c + (c'.val - c) = _
    omega
  · by_cases hr : r'.val = r
    · rw [View.read_writes_cons_unit_of_not_mem v f inb w L (ix2 r' c') rfl 1 (by left; show c'.val < c; omega)]
      exact h r' c' (by omega)
    · rw [View.read_writes_cons_unit_of_not_mem v f inb w L (ix2 r' c') rfl 0 (by
        show r'.val < r ∨ r + 1 ≤ r'.val; omega)]
      exact h r' c' (by omega)

end Cert.KernelIdeal.Pool

end
-- ==== Proof.KI.Ring.lean ====
/-
  The ring between trips: which slots have gathers in flight, how one is refilled, and the rows of the result written so far.
-/
module

public import proofs.«01_k».proof.Proof.KI.Loop
public import Idealize.ShloMosaic.Lib.Pointwise.Index
public import Idealize.ShloMosaic.Lib.Pointwise.Reshape
public import Idealize.ShloMosaic.Lib.Pipeline.Value

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

open Idealize.ShloMosaic.SparseCore (enqueueIndirectGather waitIndirectGather)
open Idealize.ShloMosaic.Transfers (MayWaits)

variable (d : Dev nD) (i : grid1.Coords)
variable (tab : Memref sig .scVector .hbm S1000000x300 .f32) (tail : Memref sig .scVector .hbm S1000000x128 .f32)
  (idx : Memref sig .scVector .vmem S128x50 .i32) (out : Memref sig .scVector .hbm S4096x304 .f32)
variable (fT : Buf (Elt F) (tab.view.loc (tileT d i))) (fL : Buf (Elt F) (tail.view.loc (tileT d i))) (fo : Buf (Elt F) (idx.view.loc (tileT d i)))
variable (A B C : Memref sig .scVector .vmem S50x128 .f32) (sem : DmaSem sig) (q : Fin 6 → PosShare TreeShare) (N : ℕ)
variable (H : ∀ x, (idx.view.read (Elt F) fo x).toNat < 1000000)

/-- A row buffer's fifty rows are `N` units of a semaphore each. -/
def Cred (N : ℕ) (m : Memref sig .scVector .vmem S50x128 .f32) : Prop :=
  m.view.dmaCredit = 50 * N ∧ ∀ j, (m.slice (S50x128.rowRect gathers_S1000000x128_S50x128.axis' j) (S50x128.stride_rowRect gathers_S1000000x128_S50x128.axis' j)).view.dmaCredit = N

/-- A free slot, its shares from a family. -/
abbrev slotF : sProp (MM F) :=
  slotFree d i tab tail idx fT fL fo A B C sem (q 0) (q 1) (q 2) (q 3) (q 4) (q 5)

/-- A slot that waits for bag `b` of the tile, or for none when there is no such bag. -/
def slotAt (b : ℕ) : sProp (MM F) :=
  if h : b < 128 then slotFly d i tab tail idx fT fL fo A B C sem (q 0) (q 1) (q 2) (q 3) (q 4) (q 5) N H ⟨b, h⟩ 0
  else slotF d i tab tail idx fT fL fo A B C sem q

variable {α : Type} {Q : α → sProp (MM F)} {kk : PUnit → Prog (TpuEff nD τ sig (Elt F) Λ₀ (tileT d i).2) α}

/-- A free slot is given its next bag, if there is one. -/
theorem slot_refill {b : ℕ} {p : Prop} [Decidable p] (hp : p ↔ b < 128) (off : Fin 2 → ℕ) (hoff : off = ![b, 0])
    (hA : Cred N A) (hB : Cred N B) (hC : Cred N C)
    {inb : p → ∀ a, off a + S1x50.size a ≤ S128x50.size a}
    {hk : (tileT d i).2.kind = .scVector} {hsA : (srcA tab).view.WordExact} {hsB : (srcB tab).view.WordExact} {hsC : (srcC tail).view.WordExact}
    {he : EltTy.f32.bits = 32} {hsp : Space.hbm = .hbm ∨ Space.hbm = .shared} {hr : S1000000x128.StreamRows 0} :
    slotF d i tab tail idx fT fL fo A B C sem q ⊢ iprop((slotAt d i tab tail idx fT fL fo A B C sem q N H b -∗ wp frame (wpE (defs₀ (F := F)) 𝒱₀ (tileT d i) none) Set.univ (kk ⟨⟩) Q)
      -∗ wp frame (wpE (defs₀ (F := F)) 𝒱₀ (tileT d i) none) Set.univ
          ((if h : p then (do
              enqueueIndirectGather hk (srcA tab) A gathers_S1000000x128_S50x128 (listAt idx off (inb h)) rfl sem hsA he hsp hr
              enqueueIndirectGather hk (srcB tab) B gathers_S1000000x128_S50x128 (listAt idx off (inb h)) rfl sem hsB he hsp hr
              enqueueIndirectGather hk (srcC tail) C gathers_S1000000x128_S50x128 (listAt idx off (inb h)) rfl sem hsC he hsp hr
              pure ⟨⟩) else pure ⟨⟩) >>= kk) Q) := by
  iintro H Hk
  by_cases h : p
  · have hb := hp.mp h
    unfold slotAt
    simp only [dif_pos h, dif_pos hb, bind_assoc]
    iapply (slot_start1 d i tab tail idx fT fL fo A B C sem (q 0) (q 1) (q 2) (q 3) (q 4) (q 5) N H ⟨b, hb⟩ hoff hA.2) $$ H
    iintro H
    iapply (slot_start2 d i tab tail idx fT fL fo A B C sem (q 0) (q 1) (q 2) (q 3) (q 4) (q 5) N H ⟨b, hb⟩ hoff hB.2) $$ H
    iintro H
    iapply (slot_start3 d i tab tail idx fT fL fo A B C sem (q 0) (q 1) (q 2) (q 3) (q 4) (q 5) N H ⟨b, hb⟩ hoff hC.2) $$ H
    iintro H
    simp only [pure_bind]
    iapply Hk
    iexact H
  · have hb := fun hb => h (hp.mpr hb)
    unfold slotAt
    simp only [dif_neg h, dif_neg hb, pure_bind]
    iapply Hk
    iexact H

/-- What column `c` of the tile's bag `r` is to hold. -/
def bagVal (r c : ℕ) : F .f32 :=
  rowVal (gath ((srcA tab).view.read (Elt F) fT) (lst d i idx fo (Fin.ofNat 128 r))) (gath ((srcB tab).view.read (Elt F) fT) (lst d i idx fo (Fin.ofNat 128 r)))
    (gath ((srcC tail).view.read (Elt F) fL) (lst d i idx fo (Fin.ofNat 128 r))) c

/-- The first row of the tile's block of the result. -/
abbrev base (i : grid1.Coords) : ℕ := 256 * (i 1).val + 128 * (i 0).val

theorem base_le (i : grid1.Coords) : base i + 128 ≤ 4096 := by
  have h0 : (i 0).val < 2 := (i 0).isLt
  have h1 : (i 1).val < 16 := (i 1).isLt
  unfold base; omega

/-- The tile's block of the result. -/
abbrev blkRect (i : grid1.Coords) : Rect S4096x304 :=
  Rect.unit (s := S4096x304) ![base i, 0] ![128, 304] (by
    intro a; have := base_le i; fin_cases a
    · show base i + 128 ≤ 4096; exact this
    · show 0 + 304 ≤ 304; omega)

/-- The elements of the tile's block of the result. -/
abbrev blk : Finset (Idx (out.view.loc (tileT d i))) := (out.view.slice (blkRect i)).set

/-- Contents of the result whose first `n` rows of the tile's block are what they are to be. -/
def Done (g : ℕ → ℕ → F .f32) (n : ℕ) (f : Buf (Elt F) (out.view.loc (tileT d i))) : Prop :=
  ∀ (r : Fin 128) (c : Fin 304), r.val < n → out.view.read (Elt F) f (ix2 (Fin.ofNat 4096 (base i + r.val)) c) = g r.val c.val

variable (t : Fin k1_t1_loop.trips)

/-- The four rows a trip writes. -/
abbrev outRows : Memref sig .scVector .hbm S4x304 .f32 :=
  out.slice (Rect.unit (s := S4096x304) (k1_off39 i t) S4x304.size (k1_off39_inb i t)) (fun _ => rfl)

theorem outRows_subset : (outRows i out t).view.set ⊆ blk d i out := by
  have ht : t.val < 32 := t.isLt
  intro x hx
  change x ∈ (out.view.slice (Rect.unit (s := S4096x304) (k1_off39 i t) S4x304.size (k1_off39_inb i t))).set at hx
  change x ∈ (out.view.slice (blkRect i)).set
  rw [View.set_slice] at hx ⊢
  obtain ⟨y, hy, rfl⟩ := Finset.mem_map.mp hx
  refine Finset.mem_map_of_mem _ ?_
  rw [Rect.mem_set_unit] at hy ⊢
  have e := k1_off39_eq i t
  have hb := base_le i
  intro a
  have := hy a
  rw [e] at this
  fin_cases a
  · change base i + 4 * t.val ≤ (y 0).val ∧ (y 0).val < base i + 4 * t.val + 4 at this
    show base i ≤ (y 0).val ∧ (y 0).val < base i + 128
    omega
  · exact this

theorem out_open (f : Buf (Elt F) (out.view.loc (tileT d i))) :
    (iprop(out.view.loc (tileT d i) ↦[blk d i out]{fullShare} f) : sProp (MM F))
      ⊢ iprop(((outRows i out t).view.loc (tileT d i) ↦[(outRows i out t).view.set]{fullShare} f)
          ∗ (out.view.loc (tileT d i) ↦[blk d i out \ (outRows i out t).view.set]{fullShare} f)) :=
  (pointsTo_split_subset (outRows_subset d i out t)).1

theorem out_close (f : Buf (Elt F) (out.view.loc (tileT d i))) (w : S4x304.Idx → Elt F .f32) :
    (iprop(((outRows i out t).view.loc (tileT d i) ↦[(outRows i out t).view.set]{fullShare} (outRows i out t).view.write (Elt F) f w Finset.univ)
          ∗ (out.view.loc (tileT d i) ↦[blk d i out \ (outRows i out t).view.set]{fullShare} f)) : sProp (MM F))
      ⊢ iprop(out.view.loc (tileT d i) ↦[blk d i out]{fullShare} (outRows i out t).view.write (Elt F) f w Finset.univ) := by
  refine BIBase.Entails.trans ?_ (pointsTo_split_subset (outRows_subset d i out t)).2
  refine sep_mono .rfl (Entails.of_eq (pointsTo_congr fun x hx => ?_))
  exact (View.write_of_not_mem _ _ _ (by exact (Finset.mem_sdiff.mp hx).2)).symm

theorem out_done (g : ℕ → ℕ → F .f32) (f : Buf (Elt F) (out.view.loc (tileT d i))) (w : S4x304.Idx → Elt F .f32)
    (hf : Done d i out g (4 * t.val) f) (hw : ∀ (r : Fin 4) (c : Fin 304), w (ix2 r c) = g (4 * t.val + r.val) c.val) :
    Done d i out g (4 * (t.val + 1)) ((outRows i out t).view.write (Elt F) f w Finset.univ) := by
  have ht : t.val < 32 := t.isLt
  have hb := base_le i
  have e := k1_off39_eq i t
  intro r c hr
  by_cases hlt : r.val < 4 * t.val
  · refine (View.read_slice_write_of_not_mem (v := out.view) (Rect.unit (s := S4096x304) (k1_off39 i t) S4x304.size (k1_off39_inb i t)) f w Finset.univ ?_).trans (hf r c hlt)
    rw [Rect.map_emb_univ, Rect.mem_set_unit, e]
    intro h
    have := (h 0).1
    change base i + 4 * t.val ≤ (base i + r.val) % 4096 at this
    omega
  · have hr4 : r.val - 4 * t.val < 4 := by omega
    have hx : (Rect.unit (s := S4096x304) (k1_off39 i t) S4x304.size (k1_off39_inb i t)).emb (ix2 (⟨r.val - 4 * t.val, hr4⟩ : Fin 4) c)
        = ix2 (Fin.ofNat 4096 (base i + r.val)) c := by
      funext a
      apply Fin.ext
      change k1_off39 i t a + 1 * (ix2 (⟨r.val - 4 * t.val, hr4⟩ : Fin 4) c a).val = _
      rw [e]
      fin_cases a
      · show base i + 4 * t.val + 1 * (r.val - 4 * t.val) = (base i + r.val) % 4096
        omega
      · show 0 + 1 * c.val = c.val
        omega
    rw [← hx]
    refine (View.read_slice_write_emb (v := out.view) (Rect.unit (s := S4096x304) (k1_off39 i t) S4x304.size (k1_off39_inb i t)) f w (Finset.mem_univ _)).trans ?_
    rw [hw]
    congr 1
    show 4 * t.val + (r.val - 4 * t.val) = r.val
    omega

end Cert.KernelIdeal.Pool

end
-- ==== Proof.KI.Parts.lean ====
/-
  The printed windows of one trip of the tile's outer loop, each with what it needs and what it leaves.
-/
module

public import proofs.«01_k».proof.Proof.KI.Ring
public import Idealize.ShloMosaic.Lib.Pointwise.Index
public import Idealize.ShloMosaic.Lib.Pointwise.Reshape
public import Idealize.ShloMosaic.Lib.Pipeline.Value

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

open Idealize.ShloMosaic.SparseCore (enqueueIndirectGather waitIndirectGather)
open Idealize.ShloMosaic.Transfers (MayWaits)

theorem cond1_iff : ∀ t : Fin k1_t1_loop.trips, k1_cond1 t = 1#1 ↔ 4 * t.val + 3 < 128 := by decide +kernel
theorem cond2_iff : ∀ t : Fin k1_t1_loop.trips, k1_cond2 t = 1#1 ↔ 4 * t.val + 4 < 128 := by decide +kernel
theorem cond3_iff : ∀ t : Fin k1_t1_loop.trips, k1_cond3 t = 1#1 ↔ 4 * t.val + 5 < 128 := by decide +kernel
theorem cond4_iff : ∀ t : Fin k1_t1_loop.trips, k1_cond4 t = 1#1 ↔ 4 * t.val + 6 < 128 := by decide +kernel

section
variable (d : Dev nD) (i : grid1.Coords)

theorem upTo_read {v : View sig .scVector .vmem S4x304 .f32} {f : v.ty.Contents (Elt F)} {g : ℕ → ℕ → F .f32} (h : upTo v f g 1216)
    (r : Fin 4) (c : Fin 304) : v.read (Elt F) f (ix2 r c) = g r.val c.val := h r c (by have := r.isLt; have := c.isLt; omega)

theorem out_land (out : Memref sig .scVector .hbm S4096x304 .f32) (t : Fin k1_t1_loop.trips) (f : Buf (Elt F) (out.view.loc (tileT d i))) (w : S4x304.Idx → Elt F .f32) :
    (iprop(((outRows i out t).view.loc (tileT d i) ↦[(outRows i out t).view.set]{fullShare} (outRows i out t).view.writes (Elt F) f [⟨Rect.whole S4x304, w⟩])
          ∗ (out.view.loc (tileT d i) ↦[blk d i out \ (outRows i out t).view.set]{fullShare} f)) : sProp (MM F))
      ⊢ iprop(out.view.loc (tileT d i) ↦[blk d i out]{fullShare} (outRows i out t).view.write (Elt F) f w Finset.univ) := by
  rw [← View.write_univ_eq_writes_whole]
  exact out_close d i out t f w

/-- What the tile owes, after waits of its own only. -/
def owesW (O : CellTallies nD τ sig (HIx 1)) (W : Waits sig (HIx 1)) : sProp (MM F) :=
  iprop(∃ W', ⌜∀ p ∈ W', p ∈ W ∨ p.2 = none⌝ ∗ owes (tileT d i) O W')

theorem waits_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

/-- The stage, its first `n` words as `g` says. -/
def staged (st : Memref sig .scVector .vmem S4x304 .f32) (g : ℕ → ℕ → F .f32) (n : ℕ) : sProp (MM F) :=
  iprop(∃ fs, ⌜upTo st.view fs g n⌝ ∗ st.view.loc (tileT d i) ↦[st.view.set]{fullShare} fs)

variable (tab : Memref sig .scVector .hbm S1000000x300 .f32) (tail : Memref sig .scVector .hbm S1000000x128 .f32)
  (idx : Memref sig .scVector .vmem S128x50 .i32)
  (fT : Buf (Elt F) (tab.view.loc (tileT d i))) (fL : Buf (Elt F) (tail.view.loc (tileT d i))) (fo : Buf (Elt F) (idx.view.loc (tileT d i)))
  (A B C : Memref sig .scVector .vmem S50x128 .f32) (sem : DmaSem sig) (q : Fin 6 → PosShare TreeShare) (N : ℕ)
  (H : ∀ x, (idx.view.read (Elt F) fo x).toNat < 1000000)

/-- The rows of bag `b`, columns 0 to 127. -/
abbrev bagA (b : Fin 128) : S50x128.Idx → Elt F .f32 := gath ((srcA tab).view.read (Elt F) fT) (lst d i idx fo b)
/-- The rows of bag `b`, columns 128 to 255. -/
abbrev bagB (b : Fin 128) : S50x128.Idx → Elt F .f32 := gath ((srcB tab).view.read (Elt F) fT) (lst d i idx fo b)
/-- The rows of bag `b`, the columns from 256 on. -/
abbrev bagC (b : Fin 128) : S50x128.Idx → Elt F .f32 := gath ((srcC tail).view.read (Elt F) fL) (lst d i idx fo b)

/-- A slot whose buffers hold the rows of bag `b`. -/
def slotGot (b : Fin 128) : sProp (MM F) :=
  iprop(slotIdle d i tab tail idx fT fL fo sem (q 0) (q 1) (q 2) (q 3) (q 4) (q 5) ∗ gotBuf d i idx fo b A ((srcA tab).view.read (Elt F) fT)
    ∗ gotBuf d i idx fo b B ((srcB tab).view.read (Elt F) fT) ∗ gotBuf d i idx fo b C ((srcC tail).view.read (Elt F) fL))

/-- A slot two of whose three gathers are waited for. -/
abbrev slotLast (b : Fin 128) : sProp (MM F) :=
  slotFly d i tab tail idx fT fL fo A B C sem (q 0) (q 1) (q 2) (q 3) (q 4) (q 5) N H b (0 + 50 * N + 50 * N)

variable {O : CellTallies nD τ sig (HIx 1)} {W : Waits sig (HIx 1)}
variable {α : Type} {Q : α → sProp (MM F)} {kk : PUnit → Prog (TpuEff nD τ sig (Elt F) Λ₀ (tileT d i).2) α}

theorem slotAt_fly (b : Fin 128) : slotAt d i tab tail idx fT fL fo A B C sem q N H b.val
    = slotFly d i tab tail idx fT fL fo A B C sem (q 0) (q 1) (q 2) (q 3) (q 4) (q 5) N H b 0 := dif_pos b.isLt

/-- A free slot is given its next bag, if there is one: the form the printed body has. -/
theorem slot_refill' {b : ℕ} {p : Prop} [Decidable p] (hp : p ↔ b < 128) (off : Fin 2 → ℕ) (hoff : off = ![b, 0])
    (hA : Cred N A) (hB : Cred N B) (hC : Cred N C)
    {inb : p → ∀ a, off a + S1x50.size a ≤ S128x50.size a}
    {hk : (tileT d i).2.kind = .scVector} {hsA : (srcA tab).view.WordExact} {hsB : (srcB tab).view.WordExact} {hsC : (srcC tail).view.WordExact}
    {he : EltTy.f32.bits = 32} {hsp : Space.hbm = .hbm ∨ Space.hbm = .shared} {hr : S1000000x128.StreamRows 0}
    {ko : Prog (TpuEff nD τ sig (Elt F) Λ₀ (tileT d i).2) α} :
    slotF d i tab tail idx fT fL fo A B C sem q ⊢ iprop((slotAt d i tab tail idx fT fL fo A B C sem q N H b -∗ wp frame (wpE (defs₀ (F := F)) 𝒱₀ (tileT d i) none) Set.univ ko Q)
      -∗ wp frame (wpE (defs₀ (F := F)) 𝒱₀ (tileT d i) none) Set.univ
          (if h : p then
              enqueueIndirectGather hk (srcA tab) A gathers_S1000000x128_S50x128 (listAt idx off (inb h)) rfl sem hsA he hsp hr >>= fun _ =>
              enqueueIndirectGather hk (srcB tab) B gathers_S1000000x128_S50x128 (listAt idx off (inb h)) rfl sem hsB he hsp hr >>= fun _ =>
              enqueueIndirectGather hk (srcC tail) C gathers_S1000000x128_S50x128 (listAt idx off (inb h)) rfl sem hsC he hsp hr >>= fun _ => ko
            else ko) Q) := by
  have key := slot_refill d i tab tail idx fT fL fo A B C sem q N H hp off hoff hA hB hC (inb := inb) (hk := hk) (hsA := hsA) (hsB := hsB) (hsC := hsC) (he := he) (hsp := hsp) (hr := hr) (kk := fun _ => ko) (Q := Q)
  by_cases h : p
  · rw [dif_pos h] at key ⊢; exact key
  · rw [dif_neg h] at key ⊢; exact key

/-- The first two waits of a slot. -/
theorem slot_take2 (b : Fin 128) {hsA hdA hsB hdB} (hA : Cred N A) (hB : Cred N B) :
    iprop(MayWaits (tileT d i) (default : HIx 1) O ∗ slotAt d i tab tail idx fT fL fo A B C sem q N H b.val ∗ owesW d i O W)
      ⊢ iprop((iprop(slotLast d i tab tail idx fT fL fo A B C sem q N H b ∗ owesW d i O W) -∗ wp frame (wpE (defs₀ (F := F)) 𝒱₀ (tileT d i) none) Set.univ (kk ⟨⟩) Q)
        -∗ wp frame (wpE (defs₀ (F := F)) 𝒱₀ (tileT d i) none) Set.univ (waitIndirectGather sem (srcA tab) A hsA hdA >>= fun _ => waitIndirectGather sem (srcB tab) B hsB hdB >>= kk) Q) := by
  rw [slotAt_fly]
  unfold owesW
  iintro ⟨#Hmw, H0, ⟨%W₁, %hW₁, HO⟩⟩ Hk
  iapply (slot_wait1 d i tab tail idx fT fL fo A B C sem _ _ _ _ _ _ N H b hA.1) $$ [H0 HO]
  · isplitr; · iexact Hmw
    isplitl [H0] <;> iassumption
  iintro ⟨H0, HO⟩
  iapply (slot_wait2 d i tab tail idx fT fL fo A B C sem _ _ _ _ _ _ N H b hB.1) $$ [H0 HO]
  · isplitr; · iexact Hmw
    isplitl [H0] <;> iassumption
  iintro ⟨H0, HO⟩
  iapply Hk
  isplitl [H0]; · iexact H0
  iexists _
  isplitr
  swap; · iexact HO
  ipureintro; exact waits_insert _ (waits_insert _ hW₁)

/-- The last wait of a slot. -/
theorem slot_take3 (b : Fin 128) {hsC hdC} (hC : Cred N C) (hN0 : 0 < N) :
    iprop(MayWaits (tileT d i) (default : HIx 1) O ∗ slotLast d i tab tail idx fT fL fo A B C sem q N H b ∗ owesW d i O W)
      ⊢ iprop((iprop(slotGot d i tab tail idx fT fL fo A B C sem q b ∗ owesW d i O W) -∗ wp frame (wpE (defs₀ (F := F)) 𝒱₀ (tileT d i) none) Set.univ (kk ⟨⟩) Q)
        -∗ wp frame (wpE (defs₀ (F := F)) 𝒱₀ (tileT d i) none) Set.univ (waitIndirectGather sem (srcC tail) C hsC hdC >>= kk) Q) := by
  unfold owesW slotGot
  iintro ⟨#Hmw, H0, ⟨%W₁, %hW₁, HO⟩⟩ Hk
  iapply (slot_wait3 d i tab tail idx fT fL fo A B C sem _ _ _ _ _ _ N H b hC.1 hN0) $$ [H0 HO]
  · isplitr; · iexact Hmw
    isplitl [H0] <;> iassumption
  iintro ⟨H0, HA, HB, HC, HO⟩
  iapply Hk
  isplitl [H0 HA HB HC]
  · isplitl [H0]; · iexact H0
    isplitl [HA]; · iexact HA
    isplitl [HB] <;> iassumption
  iexists _
  isplitr
  swap; · iexact HO
  ipureintro; exact waits_insert _ hW₁

/-- The fifty trips over a slot's buffers: the slot is free again, the sums carried out. -/
theorem slot_sums (L : Scf.Loop 32) (hok : L.OK) (htr : L.trips = 50)
    (body : Fin L.trips → Acc F → Prog (TpuEff nD τ sig (Elt F) Λ₀ (tileT d i).2) (Acc F)) (b : Fin 128)
    (hbody : ∀ (fA : Buf (Elt F) (A.view.loc (tileT d i))) (fB : Buf (Elt F) (B.view.loc (tileT d i))) (fC : Buf (Elt F) (C.view.loc (tileT d i)))
      (t : Fin L.trips) (acc : Acc F),
      (iprop(⌜acc = sums (A.view.read (Elt F) fA) (B.view.read (Elt F) fB) (C.view.read (Elt F) fC) t.val⌝
        ∗ (A.view.loc (tileT d i) ↦[A.view.set]{fullShare} fA) ∗ (B.view.loc (tileT d i) ↦[B.view.set]{fullShare} fB)
        ∗ (C.view.loc (tileT d i) ↦[C.view.set]{fullShare} fC)) : sProp (MM F))
      ⊢ wp frame (wpE (defs₀ (F := F)) 𝒱₀ (tileT d i) none) Set.univ (body t acc)
          fun acc' => iprop(⌜acc' = sums (A.view.read (Elt F) fA) (B.view.read (Elt F) fB) (C.view.read (Elt F) fC) (t.val + 1)⌝
        ∗ (A.view.loc (tileT d i) ↦[A.view.set]{fullShare} fA) ∗ (B.view.loc (tileT d i) ↦[B.view.set]{fullShare} fB)
        ∗ (C.view.loc (tileT d i) ↦[C.view.set]{fullShare} fC)))
    {ks : Acc F → Prog (TpuEff nD τ sig (Elt F) Λ₀ (tileT d i).2) α} {init : Acc F}
    (hinit : ∀ X Y Z : S50x128.Idx → Elt F .f32, init = sums X Y Z 0) :
    slotGot d i tab tail idx fT fL fo A B C sem q b
      ⊢ iprop((slotF d i tab tail idx fT fL fo A B C sem q
          -∗ wp frame (wpE (defs₀ (F := F)) 𝒱₀ (tileT d i) none) Set.univ (ks (sums (bagA d i tab idx fT fo b) (bagB d i tab idx fT fo b) (bagC d i tail idx fL fo b) 50)) Q)
        -∗ wp frame (wpE (defs₀ (F := F)) 𝒱₀ (tileT d i) none) Set.univ (Scf.Loop.for L hok init body >>= ks) Q) := by
  unfold slotGot gotBuf slotF slotFree anyBuf
  iintro ⟨H0, ⟨%fA, %eA, HA⟩, ⟨%fB, %eB, HB⟩, ⟨%fC, %eC, HC⟩⟩ Hk
  iapply (sum_loop d i L hok htr body A B C fA fB fC (hbody fA fB fC) (hinit _ _ _)) $$ [HA HB HC]
  · isplitl [HA]; · iexact HA
    isplitl [HB] <;> iassumption
  iintro ⟨HA, HB, HC⟩
  rw [eA, eB, eC]
  iapply Hk
  isplitl [H0]; · iexact H0
  isplitl [HA]; · iexists _; iexact HA
  isplitl [HB]; · iexists _; iexact HB
  iexists _; iexact HC

/-- A stored row of sixteen words is the sums scaled: the first buffer's, the second's, the third's. -/
theorem pay_A {X Y Z : S50x128.Idx → Elt F .f32} {g : ℕ → ℕ → F .f32} {r : ℕ} (hg : ∀ c, g r c = rowVal X Y Z c) (o : ℕ) (ho : o + 16 ≤ 128) (x : S1x16.Idx) :
    scl (vAcc X o 50) x = g r (o + (x 1).val) := (scl_A X Y Z o ho x).trans (hg _).symm
theorem pay_B {X Y Z : S50x128.Idx → Elt F .f32} {g : ℕ → ℕ → F .f32} {r : ℕ} (hg : ∀ c, g r c = rowVal X Y Z c) (o : ℕ) (ho : o + 16 ≤ 128) (x : S1x16.Idx) :
    scl (vAcc Y o 50) x = g r (128 + o + (x 1).val) := (scl_B X Y Z o ho x).trans (hg _).symm
theorem pay_C {X Y Z : S50x128.Idx → Elt F .f32} {g : ℕ → ℕ → F .f32} {r : ℕ} (hg : ∀ c, g r c = rowVal X Y Z c) (o : ℕ) (ho : o + 16 ≤ 128) (x : S1x16.Idx) :
    scl (vAcc Z o 50) x = g r (256 + o + (x 1).val) := (scl_C X Y Z o ho x).trans (hg _).symm

end

section
variable (i : grid1.Coords) (d : Dev nD) (arg2 : Memref sig .scVector .hbm S4096x50 .i32) (harg2 : arg2.IsWhole) (arg3 : Memref sig .scVector .hbm S1000000x300 .f32) (harg3 : arg3.IsWhole) (arg4 : Memref sig .scVector .hbm S1000000x128 .f32) (harg4 : arg4.IsWhole) (arg5 : Memref sig .scVector .hbm S4096x304 .f32) (harg5 : arg5.IsWhole) (arg6 : Memref sig .scVector .vmem S128x50 .i32) (harg6 : arg6.IsWhole) (arg7 : Memref sig .scVector .vmem S50x128 .f32) (harg7 : arg7.IsWhole) (arg8 : Memref sig .scVector .vmem S50x128 .f32) (harg8 : arg8.IsWhole) (arg9 : Memref sig .scVector .vmem S50x128 .f32) (harg9 : arg9.IsWhole) (arg10 : Memref sig .scVector .vmem S50x128 .f32) (harg10 : arg10.IsWhole) (arg11 : Memref sig .scVector .vmem S50x128 .f32) (harg11 : arg11.IsWhole) (arg12 : Memref sig .scVector .vmem S50x128 .f32) (harg12 : arg12.IsWhole) (arg13 : Memref sig .scVector .vmem S50x128 .f32) (harg13 : arg13.IsWhole) (arg14 : Memref sig .scVector .vmem S50x128 .f32) (harg14 : arg14.IsWhole) (arg15 : Memref sig .scVector .vmem S50x128 .f32) (harg15 : arg15.IsWhole) (arg16 : Memref sig .scVector .vmem S50x128 .f32) (harg16 : arg16.IsWhole) (arg17 : Memref sig .scVector .vmem S50x128 .f32) (harg17 : arg17.IsWhole) (arg18 : Memref sig .scVector .vmem S50x128 .f32) (harg18 : arg18.IsWhole) (arg19 : Memref sig .scVector .vmem S4x304 .f32) (harg19 : arg19.IsWhole) (arg20 : DmaSems sig S_) (arg21 : DmaSems sig S_) (arg22 : DmaSems sig S_) (arg23 : DmaSems sig S_) (v31_r0 : DmaSems sig S_) (v633_r1 : DmaSems sig S_)
  (fT : Buf (Elt F) (arg3.view.loc (tileT d i))) (fL : Buf (Elt F) (arg4.view.loc (tileT d i))) (fo : Buf (Elt F) (arg6.view.loc (tileT d i)))
  (q : Fin 4 → Fin 6 → PosShare TreeShare) (N : ℕ) (H : ∀ x, (arg6.view.read (Elt F) fo x).toNat < 1000000)
  (O : CellTallies nD τ sig (HIx 1)) (W : Waits sig (HIx 1)) (t : Fin k1_t1_loop.trips)
  (g : ℕ → ℕ → F .f32) (X Y Z : S50x128.Idx → Elt F .f32)

theorem part7_spec (hg : ∀ c, g 0 c = rowVal X Y Z c) :
    staged d i arg19 g 64 ⊢ wp frame (wpE (defs₀ (F := F)) 𝒱₀ (tileT d i) none) Set.univ (k1_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (vAcc X 64 50) (vAcc X 80 50) (vAcc X 96 50) (vAcc X 112 50) (vAcc Y 0 50) (vAcc Y 16 50) (k1_pay80 (F := F)))
      fun r => iprop(⌜r = k1_pay87 (F := F)⌝ ∗ staged d i arg19 g 160) := by
  simp only [k1_part7_eq_skeleton]; unfold k1_part7_skel staged
  iintro ⟨%fs, %hs, Hst⟩
  sl_exec
  sl_step
  isplitr
  · ipureintro; rfl
  iexists _
  isplitr
  swap; · iexact Hst
  ipureintro
  exact (upTo_cons _ _ _ _ 0 144 rfl (pay_B hg 16 (by omega)) (upTo_cons _ _ _ _ 0 128 rfl (pay_B hg 0 (by omega)) (upTo_cons _ _ _ _ 0 112 rfl (pay_A hg 112 (by omega)) (upTo_cons _ _ _ _ 0 96 rfl (pay_A hg 96 (by omega)) (upTo_cons _ _ _ _ 0 80 rfl (pay_A hg 80 (by omega)) (upTo_cons _ _ _ _ 0 64 rfl (pay_A hg 64 (by omega)) hs))))))

theorem part8_spec (hg : ∀ c, g 0 c = rowVal X Y Z c) :
    staged d i arg19 g 160 ⊢ wp frame (wpE (defs₀ (F := F)) 𝒱₀ (tileT d i) none) Set.univ (k1_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (vAcc Y 32 50) (vAcc Y 48 50) (vAcc Y 64 50) (vAcc Y 80 50) (vAcc Y 96 50) (vAcc Y 112 50) (k1_pay87 (F := F)))
      fun r => iprop(⌜r = k1_pay94 (F := F)⌝ ∗ staged d i arg19 g 256) := by
  simp only [k1_part8_eq_skeleton]; unfold k1_part8_skel staged
  iintro ⟨%fs, %hs, Hst⟩
  sl_exec
  sl_step
  isplitr
  · ipureintro; rfl
  iexists _
  isplitr
  swap; · iexact Hst
  ipureintro
  exact (upTo_cons _ _ _ _ 0 240 rfl (pay_B hg 112 (by omega)) (upTo_cons _ _ _ _ 0 224 rfl (pay_B hg 96 (by omega)) (upTo_cons _ _ _ _ 0 208 rfl (pay_B hg 80 (by omega)) (upTo_cons _ _ _ _ 0 192 rfl (pay_B hg 64 (by omega)) (upTo_cons _ _ _ _ 0 176 rfl (pay_B hg 48 (by omega)) (upTo_cons _ _ _ _ 0 160 rfl (pay_B hg 32 (by omega)) hs))))))

theorem part11_spec (hg : ∀ c, g 1 c = rowVal X Y Z c) :
    staged d i arg19 g 320 ⊢ wp frame (wpE (defs₀ (F := F)) 𝒱₀ (tileT d i) none) Set.univ (k1_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (vAcc X 32 50) (vAcc X 48 50) (vAcc X 64 50) (vAcc X 80 50) (vAcc X 96 50) (vAcc X 112 50) (k1_pay126 (vAcc X 16 50)))
      fun r => iprop(⌜r = k1_pay133 (vAcc X 112 50)⌝ ∗ staged d i arg19 g 416) := by
  simp only [k1_part11_eq_skeleton]; unfold k1_part11_skel staged
  iintro ⟨%fs, %hs, Hst⟩
  sl_exec
  sl_step
  isplitr
  · ipureintro; rfl
  iexists _
  isplitr
  swap; · iexact Hst
  ipureintro
  exact (upTo_cons _ _ _ _ 1 96 rfl (pay_A hg 96 (by omega)) (upTo_cons _ _ _ _ 1 80 rfl (pay_A hg 80 (by omega)) (upTo_cons _ _ _ _ 1 64 rfl (pay_A hg 64 (by omega)) (upTo_cons _ _ _ _ 1 48 rfl (pay_A hg 48 (by omega)) (upTo_cons _ _ _ _ 1 32 rfl (pay_A hg 32 (by omega)) (upTo_cons _ _ _ _ 1 16 rfl (pay_A hg 16 (by omega)) hs))))))

theorem part12_spec (hg : ∀ c, g 1 c = rowVal X Y Z c) :
    staged d i arg19 g 416 ⊢ wp frame (wpE (defs₀ (F := F)) 𝒱₀ (tileT d i) none) Set.univ (k1_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (vAcc Y 0 50) (vAcc Y 16 50) (vAcc Y 32 50) (vAcc Y 48 50) (vAcc Y 64 50) (vAcc Y 80 50) (k1_pay133 (vAcc X 112 50)))
      fun r => iprop(⌜r = k1_pay140 (vAcc Y 80 50)⌝ ∗ staged d i arg19 g 512) := by
  simp only [k1_part12_eq_skeleton]; unfold k1_part12_skel staged
  iintro ⟨%fs, %hs, Hst⟩
  sl_exec
  sl_step
  isplitr
  · ipureintro; rfl
  iexists _
  isplitr
  swap; · iexact Hst
  ipureintro
  exact (upTo_cons _ _ _ _ 1 192 rfl (pay_B hg 64 (by omega)) (upTo_cons _ _ _ _ 1 176 rfl (pay_B hg 48 (by omega)) (upTo_cons _ _ _ _ 1 160 rfl (pay_B hg 32 (by omega)) (upTo_cons _ _ _ _ 1 144 rfl (pay_B hg 16 (by omega)) (upTo_cons _ _ _ _ 1 128 rfl (pay_B hg 0 (by omega)) (upTo_cons _ _ _ _ 1 112 rfl (pay_A hg 112 (by omega)) hs))))))

theorem part13_spec (a : BitVec 32) (hg : ∀ c, g 1 c = rowVal X Y Z c) :
    staged d i arg19 g 512 ⊢ wp frame (wpE (defs₀ (F := F)) 𝒱₀ (tileT d i) none) Set.univ (k1_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 a (vAcc Y 96 50) (vAcc Y 112 50) (vAcc Z 0 50) (vAcc Z 16 50) (vAcc Z 32 50) (k1_pay140 (vAcc Y 80 50)))
      fun r => iprop(⌜r = ⟨Scalar.addi (Scalar.muli a 4#32) 2#32, 3#32⟩⌝ ∗ staged d i arg19 g 608) := by
  simp only [k1_part13_eq_skeleton]; unfold k1_part13_skel staged
  iintro ⟨%fs, %hs, Hst⟩
  sl_exec
  sl_step
  isplitr
  · ipureintro; rfl
  iexists _
  isplitr
  swap; · iexact Hst
  ipureintro
  exact (upTo_cons _ _ _ _ 1 288 rfl (pay_C hg 32 (by omega)) (upTo_cons _ _ _ _ 1 272 rfl (pay_C hg 16 (by omega)) (upTo_cons _ _ _ _ 1 256 rfl (pay_C hg 0 (by omega)) (upTo_cons _ _ _ _ 1 240 rfl (pay_B hg 112 (by omega)) (upTo_cons _ _ _ _ 1 224 rfl (pay_B hg 96 (by omega)) (upTo_cons _ _ _ _ 1 208 rfl (pay_B hg 80 (by omega)) hs))))))

theorem part16_spec (hg : ∀ c, g 2 c = rowVal X Y Z c) :
    staged d i arg19 g 672 ⊢ wp frame (wpE (defs₀ (F := F)) 𝒱₀ (tileT d i) none) Set.univ (k1_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (vAcc X 80 50) (vAcc X 96 50) (vAcc X 112 50) (vAcc Y 0 50) (vAcc Y 16 50) (vAcc Y 32 50) (k1_pay178 (vAcc X 64 50)))
      fun r => iprop(⌜r = k1_pay185 (vAcc Y 32 50)⌝ ∗ staged d i arg19 g 768) := by
  simp only [k1_part16_eq_skeleton]; unfold k1_part16_skel staged
  iintro ⟨%fs, %hs, Hst⟩
  sl_exec
  sl_step
  isplitr
  · ipureintro; rfl
  iexists _
  isplitr
  swap; · iexact Hst
  ipureintro
  exact (upTo_cons _ _ _ _ 2 144 rfl (pay_B hg 16 (by omega)) (upTo_cons _ _ _ _ 2 128 rfl (pay_B hg 0 (by omega)) (upTo_cons _ _ _ _ 2 112 rfl (pay_A hg 112 (by omega)) (upTo_cons _ _ _ _ 2 96 rfl (pay_A hg 96 (by omega)) (upTo_cons _ _ _ _ 2 80 rfl (pay_A hg 80 (by omega)) (upTo_cons _ _ _ _ 2 64 rfl (pay_A hg 64 (by omega)) hs))))))

theorem part17_spec (hg : ∀ c, g 2 c = rowVal X Y Z c) :
    staged d i arg19 g 768 ⊢ wp frame (wpE (defs₀ (F := F)) 𝒱₀ (tileT d i) none) Set.univ (k1_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (vAcc Y 48 50) (vAcc Y 64 50) (vAcc Y 80 50) (vAcc Y 96 50) (vAcc Y 112 50) (vAcc Z 0 50) (k1_pay185 (vAcc Y 32 50)))
      fun r => iprop(⌜r = k1_pay192 (vAcc Z 0 50)⌝ ∗ staged d i arg19 g 864) := by
  simp only [k1_part17_eq_skeleton]; unfold k1_part17_skel staged
  iintro ⟨%fs, %hs, Hst⟩
  sl_exec
  sl_step
  isplitr
  · ipureintro; rfl
  iexists _
  isplitr
  swap; · iexact Hst
  ipureintro
  exact (upTo_cons _ _ _ _ 2 240 rfl (pay_B hg 112 (by omega)) (upTo_cons _ _ _ _ 2 224 rfl (pay_B hg 96 (by omega)) (upTo_cons _ _ _ _ 2 208 rfl (pay_B hg 80 (by omega)) (upTo_cons _ _ _ _ 2 192 rfl (pay_B hg 64 (by omega)) (upTo_cons _ _ _ _ 2 176 rfl (pay_B hg 48 (by omega)) (upTo_cons _ _ _ _ 2 160 rfl (pay_B hg 32 (by omega)) hs))))))

theorem part20_spec (hg : ∀ c, g 3 c = rowVal X Y Z c) :
    staged d i arg19 g 944 ⊢ wp frame (wpE (defs₀ (F := F)) 𝒱₀ (tileT d i) none) Set.univ (k1_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (vAcc X 32 50) (vAcc X 48 50) (vAcc X 64 50) (vAcc X 80 50) (vAcc X 96 50) (vAcc X 112 50) lenC)
      fun r => iprop(⌜r = lenC⌝ ∗ staged d i arg19 g 1040) := by
  simp only [k1_part20_eq_skeleton]; unfold k1_part20_skel staged
  iintro ⟨%fs, %hs, Hst⟩
  sl_exec
  sl_step
  isplitr
  · ipureintro; rfl
  iexists _
  isplitr
  swap; · iexact Hst
  ipureintro
  exact (upTo_cons _ _ _ _ 3 112 rfl (pay_A hg 112 (by omega)) (upTo_cons _ _ _ _ 3 96 rfl (pay_A hg 96 (by omega)) (upTo_cons _ _ _ _ 3 80 rfl (pay_A hg 80 (by omega)) (upTo_cons _ _ _ _ 3 64 rfl (pay_A hg 64 (by omega)) (upTo_cons _ _ _ _ 3 48 rfl (pay_A hg 48 (by omega)) (upTo_cons _ _ _ _ 3 32 rfl (pay_A hg 32 (by omega)) hs))))))

theorem part21_spec (hg : ∀ c, g 3 c = rowVal X Y Z c) :
    staged d i arg19 g 1040 ⊢ wp frame (wpE (defs₀ (F := F)) 𝒱₀ (tileT d i) none) Set.univ (k1_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (vAcc Y 0 50) (vAcc Y 16 50) (vAcc Y 32 50) (vAcc Y 48 50) (vAcc Y 64 50) (vAcc Y 80 50) lenC)
      fun r => iprop(⌜r = lenC⌝ ∗ staged d i arg19 g 1136) := by
  simp only [k1_part21_eq_skeleton]; unfold k1_part21_skel staged
  iintro ⟨%fs, %hs, Hst⟩
  sl_exec
  sl_step
  isplitr
  · ipureintro; rfl
  iexists _
  isplitr
  swap; · iexact Hst
  ipureintro
  exact (upTo_cons _ _ _ _ 3 208 rfl (pay_B hg 80 (by omega)) (upTo_cons _ _ _ _ 3 192 rfl (pay_B hg 64 (by omega)) (upTo_cons _ _ _ _ 3 176 rfl (pay_B hg 48 (by omega)) (upTo_cons _ _ _ _ 3 160 rfl (pay_B hg 32 (by omega)) (upTo_cons _ _ _ _ 3 144 rfl (pay_B hg 16 (by omega)) (upTo_cons _ _ _ _ 3 128 rfl (pay_B hg 0 (by omega)) hs))))))

theorem part5_spec (hN0 : 0 < N) (b : Fin 128) (hc7 : Cred N arg7) (hc11 : Cred N arg11) (hc15 : Cred N arg15) (hc10 : Cred N arg10) (hc14 : Cred N arg14) (hc18 : Cred N arg18) :
    iprop(MayWaits (tileT d i) (default : HIx 1) O ∗ slotF d i arg3 arg4 arg6 fT fL fo arg10 arg14 arg18 arg23.sem (q 3) ∗ slotAt d i arg3 arg4 arg6 fT fL fo arg7 arg11 arg15 arg20.sem (q 0) N H b.val ∗ owesW d i O W)
      ⊢ wp frame (wpE (defs₀ (F := F)) 𝒱₀ (tileT d i) none) Set.univ (k1_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 0#32 1#32 t)
      fun r => iprop(⌜r = ⟨Scf.iv 0#32 1#32 t, k1_pay49, k1_pay50, k1_pay51, k1_pay52, k1_pay53, k1_pay54, k1_pay55, k1_pay56, k1_pay57, k1_pay58, k1_pay59, k1_pay60, k1_pay61⟩⌝
        ∗ slotAt d i arg3 arg4 arg6 fT fL fo arg10 arg14 arg18 arg23.sem (q 3) N H (4 * t.val + 3) ∗ slotGot d i arg3 arg4 arg6 fT fL fo arg7 arg11 arg15 arg20.sem (q 0) b ∗ owesW d i O W) := by
  simp only [k1_part5_eq_skeleton]; unfold k1_part5_skel; dsimp only
  iintro ⟨#Hmw, H3, H0, HO⟩
  iapply (slot_refill' d i arg3 arg4 arg6 fT fL fo arg10 arg14 arg18 arg23.sem (q 3) N H (cond1_iff t) (k1_off2 t) (k1_off2_eq t) hc10 hc14 hc18) $$ [H3]
  · iexact H3
  iintro H3
  iapply (slot_take2 d i arg3 arg4 arg6 fT fL fo arg7 arg11 arg15 arg20.sem (q 0) N H b hc7 hc11) $$ [H0 HO]
  · isplitr; · iexact Hmw
    isplitl [H0] <;> iassumption
  iintro ⟨H0, HO⟩
  iapply (slot_take3 d i arg3 arg4 arg6 fT fL fo arg7 arg11 arg15 arg20.sem (q 0) N H b hc15 hN0) $$ [H0 HO]
  · isplitr; · iexact Hmw
    isplitl [H0] <;> iassumption
  iintro ⟨H0, HO⟩
  sl_exec
  sl_step
  isplitr
  · ipureintro; rfl
  isplitl [H3]; · iexact H3
  isplitl [H0] <;> iassumption

theorem part6_spec (b : Fin 128) (hg : ∀ c, g 0 c = rowVal (bagA d i arg3 arg6 fT fo b) (bagB d i arg3 arg6 fT fo b) (bagC d i arg4 arg6 fL fo b) c) :
    iprop(slotGot d i arg3 arg4 arg6 fT fL fo arg7 arg11 arg15 arg20.sem (q 0) b ∗ staged d i arg19 g 0)
      ⊢ wp frame (wpE (defs₀ (F := F)) 𝒱₀ (tileT d i) none) Set.univ (k1_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (k1_pay49 (F := F)) (k1_pay50 (F := F)) (k1_pay51 (F := F)) (k1_pay52 (F := F)) (k1_pay53 (F := F)) (k1_pay54 (F := F)) (k1_pay55 (F := F)) (k1_pay56 (F := F)) (k1_pay57 (F := F)) (k1_pay58 (F := F)) (k1_pay59 (F := F)) (k1_pay60 (F := F)) (k1_pay61 (F := F)))
      fun r => iprop(⌜r = ⟨(vAcc (bagA d i arg3 arg6 fT fo b) 64 50), (vAcc (bagA d i arg3 arg6 fT fo b) 80 50), (vAcc (bagA d i arg3 arg6 fT fo b) 96 50), (vAcc (bagA d i arg3 arg6 fT fo b) 112 50), (vAcc (bagB d i arg3 arg6 fT fo b) 0 50), (vAcc (bagB d i arg3 arg6 fT fo b) 16 50), (vAcc (bagB d i arg3 arg6 fT fo b) 32 50), (vAcc (bagB d i arg3 arg6 fT fo b) 48 50), (vAcc (bagB d i arg3 arg6 fT fo b) 64 50), (vAcc (bagB d i arg3 arg6 fT fo b) 80 50), (vAcc (bagB d i arg3 arg6 fT fo b) 96 50), (vAcc (bagB d i arg3 arg6 fT fo b) 112 50), (vAcc (bagC d i arg4 arg6 fL fo b) 0 50), (vAcc (bagC d i arg4 arg6 fL fo b) 16 50), (vAcc (bagC d i arg4 arg6 fL fo b) 32 50), k1_pay80⟩⌝ ∗ slotF d i arg3 arg4 arg6 fT fL fo arg7 arg11 arg15 arg20.sem (q 0) ∗ staged d i arg19 g 64) := by
  simp only [k1_part6_eq_skeleton]; unfold k1_part6_skel staged
  iintro ⟨H0, ⟨%fs, %hs, Hst⟩⟩
  iapply (slot_sums d i arg3 arg4 arg6 fT fL fo arg7 arg11 arg15 arg20.sem (q 0) k1_t2_loop k1_t2_ok (by decide) _ b
    (fun fA fB fC t acc => t2_step i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 _ _ _ _ _ _ _ _ _ _ _ _ _ fA fB fC t acc) (fun _ _ _ => rfl)) $$ [H0]
  · iexact H0
  iintro H0
  unfold sums
  sl_exec
  sl_step
  isplitr
  · ipureintro; rfl
  isplitl [H0]; · iexact H0
  iexists _
  isplitr
  swap; · iexact Hst
  ipureintro
  exact (upTo_cons _ _ _ _ 0 48 rfl (pay_A hg 48 (by omega)) (upTo_cons _ _ _ _ 0 32 rfl (pay_A hg 32 (by omega)) (upTo_cons _ _ _ _ 0 16 rfl (pay_A hg 16 (by omega)) (upTo_cons _ _ _ _ 0 0 rfl (pay_A hg 0 (by omega)) hs))))

theorem part10_spec (b : Fin 128) (hg : ∀ c, g 1 c = rowVal (bagA d i arg3 arg6 fT fo b) (bagB d i arg3 arg6 fT fo b) (bagC d i arg4 arg6 fL fo b) c) (hc16 : Cred N arg16) (hN0 : 0 < N) :
    iprop(iprop(MayWaits (tileT d i) (default : HIx 1) O ∗ slotLast d i arg3 arg4 arg6 fT fL fo arg8 arg12 arg16 arg21.sem (q 1) N H b) ∗ staged d i arg19 g 304 ∗ owesW d i O W)
      ⊢ wp frame (wpE (defs₀ (F := F)) 𝒱₀ (tileT d i) none) Set.univ (k1_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1)
      fun r => iprop(⌜r = ⟨(vAcc (bagA d i arg3 arg6 fT fo b) 32 50), (vAcc (bagA d i arg3 arg6 fT fo b) 48 50), (vAcc (bagA d i arg3 arg6 fT fo b) 64 50), (vAcc (bagA d i arg3 arg6 fT fo b) 80 50), (vAcc (bagA d i arg3 arg6 fT fo b) 96 50), (vAcc (bagA d i arg3 arg6 fT fo b) 112 50), (vAcc (bagB d i arg3 arg6 fT fo b) 0 50), (vAcc (bagB d i arg3 arg6 fT fo b) 16 50), (vAcc (bagB d i arg3 arg6 fT fo b) 32 50), (vAcc (bagB d i arg3 arg6 fT fo b) 48 50), (vAcc (bagB d i arg3 arg6 fT fo b) 64 50), (vAcc (bagB d i arg3 arg6 fT fo b) 80 50), (vAcc (bagB d i arg3 arg6 fT fo b) 96 50), (vAcc (bagB d i arg3 arg6 fT fo b) 112 50), (vAcc (bagC d i arg4 arg6 fL fo b) 0 50), (vAcc (bagC d i arg4 arg6 fL fo b) 16 50), (vAcc (bagC d i arg4 arg6 fL fo b) 32 50), k1_pay126 (vAcc (bagA d i arg3 arg6 fT fo b) 16 50)⟩⌝ ∗ slotF d i arg3 arg4 arg6 fT fL fo arg8 arg12 arg16 arg21.sem (q 1) ∗ staged d i arg19 g 320 ∗ owesW d i O W) := by
  simp only [k1_part10_eq_skeleton]; unfold k1_part10_skel staged
  iintro ⟨⟨#Hmw, H0⟩, ⟨%fs, %hs, Hst⟩, HO⟩
  iapply (slot_take3 d i arg3 arg4 arg6 fT fL fo arg8 arg12 arg16 arg21.sem (q 1) N H b hc16 hN0) $$ [H0 HO]
  · isplitr; · iexact Hmw
    isplitl [H0] <;> iassumption
  iintro ⟨H0, HO⟩
  iapply (slot_sums d i arg3 arg4 arg6 fT fL fo arg8 arg12 arg16 arg21.sem (q 1) k1_t3_loop k1_t3_ok (by decide) _ b
    (fun fA fB fC t acc => by rw [t3_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F))]; exact t2_step i d arg2 harg2 arg3 harg3 arg4 harg4 arg5 harg5 arg6 harg6 arg8 harg8 arg7 harg7 arg9 harg9 arg10 harg10 arg12 harg12 arg11 harg11 arg13 harg13 arg14 harg14 arg16 harg16 arg15 harg15 arg17 harg17 arg18 harg18 arg19 harg19 arg20 arg21 arg22 arg23 v31_r0 v633_r1 (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) fA fB fC t acc) (fun _ _ _ => rfl)) $$ [H0]
  · iexact H0
  iintro H0
  unfold sums
  sl_exec
  sl_step
  isplitr
  · ipureintro; rfl
  isplitl [H0]; · iexact H0
  isplitr [HO]
  swap; · iexact HO
  iexists _
  isplitr
  swap; · iexact Hst
  ipureintro
  exact (upTo_cons _ _ _ _ 1 0 rfl (pay_A hg 0 (by omega)) hs)

theorem part9_spec (hg : ∀ c, g 0 c = rowVal X Y Z c) (b : Fin 128) (hc7 : Cred N arg7) (hc11 : Cred N arg11) (hc15 : Cred N arg15) (hc8 : Cred N arg8) (hc12 : Cred N arg12) (hc16 : Cred N arg16) (a : BitVec 32) :
    iprop(MayWaits (tileT d i) (default : HIx 1) O ∗ staged d i arg19 g 256 ∗ slotF d i arg3 arg4 arg6 fT fL fo arg7 arg11 arg15 arg20.sem (q 0) ∗ slotAt d i arg3 arg4 arg6 fT fL fo arg8 arg12 arg16 arg21.sem (q 1) N H b.val ∗ owesW d i O W)
      ⊢ wp frame (wpE (defs₀ (F := F)) 𝒱₀ (tileT d i) none) Set.univ (k1_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 t a (vAcc Z 0 50) (vAcc Z 16 50) (vAcc Z 32 50) (k1_pay94 (F := F)))
      fun r => iprop(⌜r = ⟨⟩⌝ ∗ slotAt d i arg3 arg4 arg6 fT fL fo arg7 arg11 arg15 arg20.sem (q 0) N H (4 * t.val + 4) ∗ slotLast d i arg3 arg4 arg6 fT fL fo arg8 arg12 arg16 arg21.sem (q 1) N H b ∗ staged d i arg19 g 304 ∗ owesW d i O W) := by
  simp only [k1_part9_eq_skeleton]; unfold k1_part9_skel staged; dsimp only
  iintro ⟨#Hmw, ⟨%fs, %hs, Hst⟩, H0, H1, HO⟩
  sl_exec
  iapply (slot_refill' d i arg3 arg4 arg6 fT fL fo arg7 arg11 arg15 arg20.sem (q 0) N H (cond2_iff t) (k1_off12 t) (k1_off12_eq t) hc7 hc11 hc15) $$ [H0]
  · iexact H0
  iintro H0
  iapply (slot_take2 d i arg3 arg4 arg6 fT fL fo arg8 arg12 arg16 arg21.sem (q 1) N H b hc8 hc12) $$ [H1 HO]
  · isplitr; · iexact Hmw
    isplitl [H1] <;> iassumption
  iintro ⟨H1, HO⟩
  sl_exec
  sl_step
  isplitr
  · ipureintro; trivial
  isplitl [H0]; · iexact H0
  isplitl [H1]; · iexact H1
  isplitr [HO]
  swap; · iexact HO
  iexists _
  isplitr
  swap; · iexact Hst
  ipureintro
  exact (upTo_cons _ _ _ _ 0 288 rfl (pay_C hg 32 (by omega)) (upTo_cons _ _ _ _ 0 272 rfl (pay_C hg 16 (by omega)) (upTo_cons _ _ _ _ 0 256 rfl (pay_C hg 0 (by omega)) hs)))

theorem part14_spec (hN0 : 0 < N) (b : Fin 128) (hc8 : Cred N arg8) (hc12 : Cred N arg12) (hc16 : Cred N arg16) (hc9 : Cred N arg9) (hc13 : Cred N arg13) (hc17 : Cred N arg17) (a : BitVec 32) :
    iprop(MayWaits (tileT d i) (default : HIx 1) O ∗ slotF d i arg3 arg4 arg6 fT fL fo arg8 arg12 arg16 arg21.sem (q 1) ∗ slotAt d i arg3 arg4 arg6 fT fL fo arg9 arg13 arg17 arg22.sem (q 2) N H b.val ∗ owesW d i O W)
      ⊢ wp frame (wpE (defs₀ (F := F)) 𝒱₀ (tileT d i) none) Set.univ (k1_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 t a 3#32)
      fun r => iprop(⌜r = ⟨k1_pay147, k1_pay148, k1_pay149, k1_pay150, k1_pay151, k1_pay152, k1_pay153, k1_pay154, k1_pay155, k1_pay156, k1_pay157, k1_pay158, k1_pay159, k1_pay160, k1_pay161, k1_pay162⟩⌝ ∗ slotAt d i arg3 arg4 arg6 fT fL fo arg8 arg12 arg16 arg21.sem (q 1) N H (4 * t.val + 5) ∗ slotGot d i arg3 arg4 arg6 fT fL fo arg9 arg13 arg17 arg22.sem (q 2) b ∗ owesW d i O W) := by
  simp only [k1_part14_eq_skeleton]; unfold k1_part14_skel; dsimp only
  iintro ⟨#Hmw, H1, H2, HO⟩
  iapply (slot_refill' d i arg3 arg4 arg6 fT fL fo arg8 arg12 arg16 arg21.sem (q 1) N H (cond3_iff t) (k1_off21 t) (k1_off21_eq t) hc8 hc12 hc16) $$ [H1]
  · iexact H1
  iintro H1
  iapply (slot_take2 d i arg3 arg4 arg6 fT fL fo arg9 arg13 arg17 arg22.sem (q 2) N H b hc9 hc13) $$ [H2 HO]
  · isplitr; · iexact Hmw
    isplitl [H2] <;> iassumption
  iintro ⟨H2, HO⟩
  iapply (slot_take3 d i arg3 arg4 arg6 fT fL fo arg9 arg13 arg17 arg22.sem (q 2) N H b hc17 hN0) $$ [H2 HO]
  · isplitr; · iexact Hmw
    isplitl [H2] <;> iassumption
  iintro ⟨H2, HO⟩
  sl_exec
  sl_step
  isplitr
  · ipureintro; rfl
  isplitl [H1]; · iexact H1
  isplitl [H2]; · iexact H2
  iexact HO

theorem part18_spec (hN0 : 0 < N) (hg : ∀ c, g 2 c = rowVal X Y Z c) (b : Fin 128) (hc9 : Cred N arg9) (hc13 : Cred N arg13) (hc17 : Cred N arg17) (hc10 : Cred N arg10) (hc14 : Cred N arg14) (hc18 : Cred N arg18) (a : BitVec 32) :
    iprop(MayWaits (tileT d i) (default : HIx 1) O ∗ staged d i arg19 g 864 ∗ slotF d i arg3 arg4 arg6 fT fL fo arg9 arg13 arg17 arg22.sem (q 2) ∗ slotAt d i arg3 arg4 arg6 fT fL fo arg10 arg14 arg18 arg23.sem (q 3) N H b.val ∗ owesW d i O W)
      ⊢ wp frame (wpE (defs₀ (F := F)) 𝒱₀ (tileT d i) none) Set.univ (k1_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 t a (vAcc Z 16 50) (vAcc Z 32 50) (k1_pay192 (vAcc Z 0 50)))
      fun r => iprop(⌜r = ⟨k1_pay196, k1_pay197, Scalar.ofBits .f32 0x00000000#32⟩⌝ ∗ slotAt d i arg3 arg4 arg6 fT fL fo arg9 arg13 arg17 arg22.sem (q 2) N H (4 * t.val + 6) ∗ slotGot d i arg3 arg4 arg6 fT fL fo arg10 arg14 arg18 arg23.sem (q 3) b ∗ staged d i arg19 g 912 ∗ owesW d i O W) := by
  simp only [k1_part18_eq_skeleton]; unfold k1_part18_skel staged; dsimp only
  iintro ⟨#Hmw, ⟨%fs, %hs, Hst⟩, H2, H3, HO⟩
  sl_exec
  iapply (slot_refill' d i arg3 arg4 arg6 fT fL fo arg9 arg13 arg17 arg22.sem (q 2) N H (cond4_iff t) (k1_off30 t) (k1_off30_eq t) hc9 hc13 hc17) $$ [H2]
  · iexact H2
  iintro H2
  iapply (slot_take2 d i arg3 arg4 arg6 fT fL fo arg10 arg14 arg18 arg23.sem (q 3) N H b hc10 hc14) $$ [H3 HO]
  · isplitr; · iexact Hmw
    isplitl [H3] <;> iassumption
  iintro ⟨H3, HO⟩
  iapply (slot_take3 d i arg3 arg4 arg6 fT fL fo arg10 arg14 arg18 arg23.sem (q 3) N H b hc18 hN0) $$ [H3 HO]
  · isplitr; · iexact Hmw
    isplitl [H3] <;> iassumption
  iintro ⟨H3, HO⟩
  sl_exec
  sl_step
  isplitr
  · ipureintro; rfl
  isplitl [H2]; · iexact H2
  isplitl [H3]; · iexact H3
  isplitr [HO]
  swap; · iexact HO
  iexists _
  isplitr
  swap; · iexact Hst
  ipureintro
  exact (upTo_cons _ _ _ _ 2 288 rfl (pay_C hg 32 (by omega)) (upTo_cons _ _ _ _ 2 272 rfl (pay_C hg 16 (by omega)) (upTo_cons _ _ _ _ 2 256 rfl (pay_C hg 0 (by omega)) hs)))

theorem part15_spec (b : Fin 128) (hg : ∀ c, g 2 c = rowVal (bagA d i arg3 arg6 fT fo b) (bagB d i arg3 arg6 fT fo b) (bagC d i arg4 arg6 fL fo b) c) :
    iprop(slotGot d i arg3 arg4 arg6 fT fL fo arg9 arg13 arg17 arg22.sem (q 2) b ∗ staged d i arg19 g 608)
      ⊢ wp frame (wpE (defs₀ (F := F)) 𝒱₀ (tileT d i) none) Set.univ (k1_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (k1_pay147 (F := F)) (k1_pay148 (F := F)) (k1_pay149 (F := F)) (k1_pay150 (F := F)) (k1_pay151 (F := F)) (k1_pay152 (F := F)) (k1_pay153 (F := F)) (k1_pay154 (F := F)) (k1_pay155 (F := F)) (k1_pay156 (F := F)) (k1_pay157 (F := F)) (k1_pay158 (F := F)) (k1_pay159 (F := F)) (k1_pay160 (F := F)) (k1_pay161 (F := F)) (k1_pay162 (F := F)))
      fun r => iprop(⌜r = ⟨(vAcc (bagA d i arg3 arg6 fT fo b) 80 50), (vAcc (bagA d i arg3 arg6 fT fo b) 96 50), (vAcc (bagA d i arg3 arg6 fT fo b) 112 50), (vAcc (bagB d i arg3 arg6 fT fo b) 0 50), (vAcc (bagB d i arg3 arg6 fT fo b) 16 50), (vAcc (bagB d i arg3 arg6 fT fo b) 32 50), (vAcc (bagB d i arg3 arg6 fT fo b) 48 50), (vAcc (bagB d i arg3 arg6 fT fo b) 64 50), (vAcc (bagB d i arg3 arg6 fT fo b) 80 50), (vAcc (bagB d i arg3 arg6 fT fo b) 96 50), (vAcc (bagB d i arg3 arg6 fT fo b) 112 50), (vAcc (bagC d i arg4 arg6 fL fo b) 0 50), (vAcc (bagC d i arg4 arg6 fL fo b) 16 50), (vAcc (bagC d i arg4 arg6 fL fo b) 32 50), k1_pay178 (vAcc (bagA d i arg3 arg6 fT fo b) 64 50)⟩⌝ ∗ slotF d i arg3 arg4 arg6 fT fL fo arg9 arg13 arg17 arg22.sem (q 2) ∗ staged d i arg19 g 672) := by
  simp only [k1_part15_eq_skeleton]; unfold k1_part15_skel staged
  iintro ⟨H0, ⟨%fs, %hs, Hst⟩⟩
  iapply (slot_sums d i arg3 arg4 arg6 fT fL fo arg9 arg13 arg17 arg22.sem (q 2) k1_t4_loop k1_t4_ok (by decide) _ b
    (fun fA fB fC t acc => by rw [t4_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (k1_pay147 (F := F)) (k1_pay148 (F := F)) (k1_pay149 (F := F)) (k1_pay150 (F := F)) (k1_pay151 (F := F)) (k1_pay152 (F := F)) (k1_pay153 (F := F)) (k1_pay154 (F := F)) (k1_pay155 (F := F)) (k1_pay156 (F := F)) (k1_pay157 (F := F)) (k1_pay158 (F := F)) (k1_pay159 (F := F)) (k1_pay160 (F := F)) (k1_pay161 (F := F)) (k1_pay162 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F))]; exact t2_step i d arg2 harg2 arg3 harg3 arg4 harg4 arg5 harg5 arg6 harg6 arg9 harg9 arg8 harg8 arg7 harg7 arg10 harg10 arg13 harg13 arg12 harg12 arg11 harg11 arg14 harg14 arg17 harg17 arg16 harg16 arg15 harg15 arg18 harg18 arg19 harg19 arg20 arg21 arg22 arg23 v31_r0 v633_r1 (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) fA fB fC t acc) (fun _ _ _ => rfl)) $$ [H0]
  · iexact H0
  iintro H0
  unfold sums
  sl_exec
  sl_step
  isplitr
  · ipureintro; rfl
  isplitl [H0]; · iexact H0
  iexists _
  isplitr
  swap; · iexact Hst
  ipureintro
  exact (upTo_cons _ _ _ _ 2 48 rfl (pay_A hg 48 (by omega)) (upTo_cons _ _ _ _ 2 32 rfl (pay_A hg 32 (by omega)) (upTo_cons _ _ _ _ 2 16 rfl (pay_A hg 16 (by omega)) (upTo_cons _ _ _ _ 2 0 rfl (pay_A hg 0 (by omega)) hs))))

theorem part19_spec (b : Fin 128) (hg : ∀ c, g 3 c = rowVal (bagA d i arg3 arg6 fT fo b) (bagB d i arg3 arg6 fT fo b) (bagC d i arg4 arg6 fL fo b) c) :
    iprop(slotGot d i arg3 arg4 arg6 fT fL fo arg10 arg14 arg18 arg23.sem (q 3) b ∗ staged d i arg19 g 912)
      ⊢ wp frame (wpE (defs₀ (F := F)) 𝒱₀ (tileT d i) none) Set.univ (k1_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (k1_pay196 (F := F)) (k1_pay197 (F := F)) (Scalar.ofBits .f32 0x00000000#32))
      fun r => iprop(⌜r = ⟨(vAcc (bagA d i arg3 arg6 fT fo b) 32 50), (vAcc (bagA d i arg3 arg6 fT fo b) 48 50), (vAcc (bagA d i arg3 arg6 fT fo b) 64 50), (vAcc (bagA d i arg3 arg6 fT fo b) 80 50), (vAcc (bagA d i arg3 arg6 fT fo b) 96 50), (vAcc (bagA d i arg3 arg6 fT fo b) 112 50), (vAcc (bagB d i arg3 arg6 fT fo b) 0 50), (vAcc (bagB d i arg3 arg6 fT fo b) 16 50), (vAcc (bagB d i arg3 arg6 fT fo b) 32 50), (vAcc (bagB d i arg3 arg6 fT fo b) 48 50), (vAcc (bagB d i arg3 arg6 fT fo b) 64 50), (vAcc (bagB d i arg3 arg6 fT fo b) 80 50), (vAcc (bagB d i arg3 arg6 fT fo b) 96 50), (vAcc (bagB d i arg3 arg6 fT fo b) 112 50), (vAcc (bagC d i arg4 arg6 fL fo b) 0 50), (vAcc (bagC d i arg4 arg6 fL fo b) 16 50), (vAcc (bagC d i arg4 arg6 fL fo b) 32 50), lenC⟩⌝ ∗ slotF d i arg3 arg4 arg6 fT fL fo arg10 arg14 arg18 arg23.sem (q 3) ∗ staged d i arg19 g 944) := by
  simp only [k1_part19_eq_skeleton]; unfold k1_part19_skel staged
  iintro ⟨H0, ⟨%fs, %hs, Hst⟩⟩
  iapply (slot_sums d i arg3 arg4 arg6 fT fL fo arg10 arg14 arg18 arg23.sem (q 3) k1_t5_loop k1_t5_ok (by decide) _ b
    (fun fA fB fC t acc => by rw [t5_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 (k1_pay196 (F := F)) (k1_pay197 (F := F)) (Scalar.ofBits .f32 0x00000000#32) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F))]; exact t2_step i d arg2 harg2 arg3 harg3 arg4 harg4 arg5 harg5 arg6 harg6 arg10 harg10 arg8 harg8 arg9 harg9 arg7 harg7 arg14 harg14 arg12 harg12 arg13 harg13 arg11 harg11 arg18 harg18 arg16 harg16 arg17 harg17 arg15 harg15 arg19 harg19 arg20 arg21 arg22 arg23 v31_r0 v633_r1 (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) (k1_pay49 (F := F)) fA fB fC t acc) (fun _ _ _ => rfl)) $$ [H0]
  · iexact H0
  iintro H0
  unfold sums
  sl_exec
  sl_step
  isplitr
  · ipureintro; rfl
  isplitl [H0]; · iexact H0
  iexists _
  isplitr
  swap; · iexact Hst
  ipureintro
  exact (upTo_cons _ _ _ _ 3 16 rfl (pay_A hg 16 (by omega)) (upTo_cons _ _ _ _ 3 0 rfl (pay_A hg 0 (by omega)) hs))

/-- The last stores of row 3, the copy of the stage to the result and its wait. -/
theorem part22_spec (v2 a : BitVec 32) (G : ℕ → ℕ → F .f32) (hg : ∀ c, g 3 c = rowVal X Y Z c) (hG : ∀ r c, r < 4 → g r c = G (4 * t.val + r) c) :
    iprop(MayWaits (tileT d i) (default : HIx 1) O ∗ staged d i arg19 g 1136 ∗ (∃ f, ⌜Done d i arg5 G (4 * t.val) f⌝ ∗ arg5.view.loc (tileT d i) ↦[blk d i arg5]{fullShare} f) ∗ semVal (tileT d i, .dma v633_r1.sem) 0 ∗ owesW d i O W)
      ⊢ wp frame (wpE (defs₀ (F := F)) 𝒱₀ (tileT d i) none) Set.univ (k1_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 v2 t a (vAcc Y 96 50) (vAcc Y 112 50) (vAcc Z 0 50) (vAcc Z 16 50) (vAcc Z 32 50) lenC >>= fun _ =>
          Prog.lift (.waitDma2 v633_r1.sem arg19 (outRows i arg5 t) harg19.wordExact (View.wordExact_bits rfl)) >>= fun _ => (pure ⟨⟩ : Prog (TpuEff nD τ sig (Elt F) Λ₀ (tileT d i).2) Unit))
      fun _ => iprop((∃ fs, arg19.view.loc (tileT d i) ↦[arg19.view.set]{fullShare} fs) ∗ (∃ f, ⌜Done d i arg5 G (4 * (t.val + 1)) f⌝ ∗ arg5.view.loc (tileT d i) ↦[blk d i arg5]{fullShare} f) ∗ semVal (tileT d i, .dma v633_r1.sem) 0 ∗ owesW d i O W) := by
  simp only [k1_part22_eq_skeleton]; unfold k1_part22_skel staged owesW
  iintro ⟨#Hmw, ⟨%fs, %hs, Hst⟩, ⟨%f, %hf, Hout⟩, Hsem, ⟨%W₁, %hW₁, HO⟩⟩
  ihave Hsp := (out_open d i arg5 t f) $$ Hout
  icases Hsp with ⟨Hrow, Hrest⟩
  sl_exec
  ihave Hout := (out_land d i arg5 t f _) $$ [Hrow Hrest]
  · isplitl [Hrow]; · iexact Hrow
    iexact Hrest
  sl_step
  isplitl [Hst]; · iexists _; iexact Hst
  isplitl [Hout]
  · iexists _
    isplitr
    swap; · iexact Hout
    ipureintro
    refine out_done d i arg5 t G f _ hf fun r c => ?_
    refine Eq.trans (upTo_read (v := arg19.view) (g := g) ?_ r c) (hG _ _ r.isLt)
    exact (upTo_cons _ _ _ _ 3 288 rfl (pay_C hg 32 (by omega)) (upTo_cons _ _ _ _ 3 272 rfl (pay_C hg 16 (by omega)) (upTo_cons _ _ _ _ 3 256 rfl (pay_C hg 0 (by omega)) (upTo_cons _ _ _ _ 3 240 rfl (pay_B hg 112 (by omega)) (upTo_cons _ _ _ _ 3 224 rfl (pay_B hg 96 (by omega)) hs)))))
  isplitl [Hsem]; · iexact Hsem
  iexists _
  isplitr
  swap; · iexact HO
  ipureintro; exact waits_insert _ hW₁

end

end Cert.KernelIdeal.Pool

end
-- ==== Proof.KI.Trip.lean ====
/-
  One trip of the tile's outer loop: four bags summed and written, the ring moved on by four.
-/
module

public import proofs.«01_k».proof.Proof.KI.Parts
public import Idealize.ShloMosaic.Lib.Pointwise.Index
public import Idealize.ShloMosaic.Lib.Pointwise.Reshape
public import Idealize.ShloMosaic.Lib.Pipeline.Value

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

open Idealize.ShloMosaic.SparseCore (enqueueIndirectGather waitIndirectGather)
open Idealize.ShloMosaic.Transfers (MayWaits)

/-- Run one window, then the rest. -/
theorem cps {thr : Thread nD τ} {α β : Type} {P P' : sProp (MM F)} {v : α} {prog : Prog (TpuEff nD τ sig (Elt F) Λ₀ thr.2) α}
    {kk : α → Prog (TpuEff nD τ sig (Elt F) Λ₀ thr.2) β} {Q : β → sProp (MM F)}
    (h : P ⊢ wp frame (wpE (defs₀ (F := F)) 𝒱₀ thr none) Set.univ prog (fun r => iprop(⌜r = v⌝ ∗ P'))) :
    P ⊢ iprop((P' -∗ wp frame (wpE (defs₀ (F := F)) 𝒱₀ thr none) Set.univ (kk v) Q)
      -∗ wp frame (wpE (defs₀ (F := F)) 𝒱₀ thr none) Set.univ (prog >>= kk) Q) := by
  rw [wp_bind]
  iintro H Hk
  ihave Hw := h $$ H
  iapply wp_wand $$ Hw
  iintro %a ⟨%e, HP⟩
  subst e
  iapply Hk
  iexact HP

section
variable (i : grid1.Coords) (d : Dev nD) (arg3 : Memref sig .scVector .hbm S1000000x300 .f32) (arg4 : Memref sig .scVector .hbm S1000000x128 .f32) (arg5 : Memref sig .scVector .hbm S4096x304 .f32) (arg6 : Memref sig .scVector .vmem S128x50 .i32) (arg7 : Memref sig .scVector .vmem S50x128 .f32) (arg8 : Memref sig .scVector .vmem S50x128 .f32) (arg9 : Memref sig .scVector .vmem S50x128 .f32) (arg10 : Memref sig .scVector .vmem S50x128 .f32) (arg11 : Memref sig .scVector .vmem S50x128 .f32) (arg12 : Memref sig .scVector .vmem S50x128 .f32) (arg13 : Memref sig .scVector .vmem S50x128 .f32) (arg14 : Memref sig .scVector .vmem S50x128 .f32) (arg15 : Memref sig .scVector .vmem S50x128 .f32) (arg16 : Memref sig .scVector .vmem S50x128 .f32) (arg17 : Memref sig .scVector .vmem S50x128 .f32) (arg18 : Memref sig .scVector .vmem S50x128 .f32) (arg19 : Memref sig .scVector .vmem S4x304 .f32) (arg20 : DmaSems sig S_) (arg21 : DmaSems sig S_) (arg22 : DmaSems sig S_) (arg23 : DmaSems sig S_) (v633_r1 : DmaSems sig S_)
  (fT : Buf (Elt F) (arg3.view.loc (tileT d i))) (fL : Buf (Elt F) (arg4.view.loc (tileT d i))) (fo : Buf (Elt F) (arg6.view.loc (tileT d i)))
  (q : Fin 4 → Fin 6 → PosShare TreeShare) (N : ℕ) (H : ∀ x, (arg6.view.read (Elt F) fo x).toNat < 1000000)
  (O : CellTallies nD τ sig (HIx 1)) (W : Waits sig (HIx 1))

/-- What holds of the tile before trip `n` of its outer loop: bags `4 n`, `4 n + 1`, `4 n + 2` in flight (or past the end),
    slot 3 free, the first `4 n` rows of its block written. -/
def ringInv (n : ℕ) : sProp (MM F) :=
  iprop(slotAt d i arg3 arg4 arg6 fT fL fo arg7 arg11 arg15 arg20.sem (q 0) N H (4 * n + 0) ∗ slotAt d i arg3 arg4 arg6 fT fL fo arg8 arg12 arg16 arg21.sem (q 1) N H (4 * n + 1) ∗ slotAt d i arg3 arg4 arg6 fT fL fo arg9 arg13 arg17 arg22.sem (q 2) N H (4 * n + 2) ∗ slotF d i arg3 arg4 arg6 fT fL fo arg10 arg14 arg18 arg23.sem (q 3)
    ∗ (∃ fs, arg19.view.loc (tileT d i) ↦[arg19.view.set]{fullShare} fs)
    ∗ (∃ f, ⌜Done d i arg5 (bagVal d i arg3 arg4 arg6 fT fL fo) (4 * n) f⌝ ∗ arg5.view.loc (tileT d i) ↦[blk d i arg5]{fullShare} f)
    ∗ semVal (tileT d i, .dma v633_r1.sem) 0 ∗ owesW d i O W)

end

theorem toWp {thr : Thread nD τ} {β : Type} {P : sProp (MM F)} {prog : Prog (TpuEff nD τ sig (Elt F) Λ₀ thr.2) β} {Q Q' : β → sProp (MM F)}
    (h : P ⊢ wp frame (wpE (defs₀ (F := F)) 𝒱₀ thr none) Set.univ prog Q) :
    P ⊢ iprop((∀ a, Q a -∗ Q' a) -∗ wp frame (wpE (defs₀ (F := F)) 𝒱₀ thr none) Set.univ prog Q') := h.trans (wp_wand _ _ _)

set_option maxHeartbeats 4000000 in
theorem trip (i : grid1.Coords) (d : Dev nD) (arg2 : Memref sig .scVector .hbm S4096x50 .i32) (harg2 : arg2.IsWhole) (arg3 : Memref sig .scVector .hbm S1000000x300 .f32) (harg3 : arg3.IsWhole) (arg4 : Memref sig .scVector .hbm S1000000x128 .f32) (harg4 : arg4.IsWhole) (arg5 : Memref sig .scVector .hbm S4096x304 .f32) (harg5 : arg5.IsWhole) (arg6 : Memref sig .scVector .vmem S128x50 .i32) (harg6 : arg6.IsWhole) (arg7 : Memref sig .scVector .vmem S50x128 .f32) (harg7 : arg7.IsWhole) (arg8 : Memref sig .scVector .vmem S50x128 .f32) (harg8 : arg8.IsWhole) (arg9 : Memref sig .scVector .vmem S50x128 .f32) (harg9 : arg9.IsWhole) (arg10 : Memref sig .scVector .vmem S50x128 .f32) (harg10 : arg10.IsWhole) (arg11 : Memref sig .scVector .vmem S50x128 .f32) (harg11 : arg11.IsWhole) (arg12 : Memref sig .scVector .vmem S50x128 .f32) (harg12 : arg12.IsWhole) (arg13 : Memref sig .scVector .vmem S50x128 .f32) (harg13 : arg13.IsWhole) (arg14 : Memref sig .scVector .vmem S50x128 .f32) (harg14 : arg14.IsWhole) (arg15 : Memref sig .scVector .vmem S50x128 .f32) (harg15 : arg15.IsWhole) (arg16 : Memref sig .scVector .vmem S50x128 .f32) (harg16 : arg16.IsWhole) (arg17 : Memref sig .scVector .vmem S50x128 .f32) (harg17 : arg17.IsWhole) (arg18 : Memref sig .scVector .vmem S50x128 .f32) (harg18 : arg18.IsWhole) (arg19 : Memref sig .scVector .vmem S4x304 .f32) (harg19 : arg19.IsWhole) (arg20 : DmaSems sig S_) (arg21 : DmaSems sig S_) (arg22 : DmaSems sig S_) (arg23 : DmaSems sig S_) (v31_r0 : DmaSems sig S_) (v633_r1 : DmaSems sig S_)
  (fT : Buf (Elt F) (arg3.view.loc (tileT d i))) (fL : Buf (Elt F) (arg4.view.loc (tileT d i))) (fo : Buf (Elt F) (arg6.view.loc (tileT d i)))
  (q : Fin 4 → Fin 6 → PosShare TreeShare) (N : ℕ) (H : ∀ x, (arg6.view.read (Elt F) fo x).toNat < 1000000)
  (O : CellTallies nD τ sig (HIx 1)) (W : Waits sig (HIx 1)) (hN0 : 0 < N) (hc7 : Cred N arg7) (hc11 : Cred N arg11) (hc15 : Cred N arg15) (hc8 : Cred N arg8) (hc12 : Cred N arg12) (hc16 : Cred N arg16) (hc9 : Cred N arg9) (hc13 : Cred N arg13) (hc17 : Cred N arg17) (hc10 : Cred N arg10) (hc14 : Cred N arg14) (hc18 : Cred N arg18)
  (v2 : BitVec 32) (t : Fin k1_t1_loop.trips) (acc : Unit) :
  iprop(MayWaits (tileT d i) (default : HIx 1) O ∗ ringInv i d arg3 arg4 arg5 arg6 arg7 arg8 arg9 arg10 arg11 arg12 arg13 arg14 arg15 arg16 arg17 arg18 arg19 arg20 arg21 arg22 arg23 v633_r1 fT fL fo q N H O W t.val)
    ⊢ wp frame (wpE (defs₀ (F := F)) 𝒱₀ (tileT d i) none) Set.univ (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 v2 t acc) fun _ => ringInv i d arg3 arg4 arg5 arg6 arg7 arg8 arg9 arg10 arg11 arg12 arg13 arg14 arg15 arg16 arg17 arg18 arg19 arg20 arg21 arg22 arg23 v633_r1 fT fL fo q N H O W (t.val + 1) := by
  have ht : t.val < 32 := t.isLt
  let g : ℕ → ℕ → F .f32 := fun r c => bagVal d i arg3 arg4 arg6 fT fL fo (4 * t.val + r) c
  let b0 : Fin 128 := Fin.ofNat 128 (4 * t.val + 0)
  let b1 : Fin 128 := Fin.ofNat 128 (4 * t.val + 1)
  let b2 : Fin 128 := Fin.ofNat 128 (4 * t.val + 2)
  let b3 : Fin 128 := Fin.ofNat 128 (4 * t.val + 3)
  have e0 : 4 * t.val + 0 = b0.val := (Nat.mod_eq_of_lt (show 4 * t.val + 0 < 128 by omega)).symm
  have e1 : 4 * t.val + 1 = b1.val := (Nat.mod_eq_of_lt (show 4 * t.val + 1 < 128 by omega)).symm
  have e2 : 4 * t.val + 2 = b2.val := (Nat.mod_eq_of_lt (show 4 * t.val + 2 < 128 by omega)).symm
  have e3 : 4 * t.val + 3 = b3.val := (Nat.mod_eq_of_lt (show 4 * t.val + 3 < 128 by omega)).symm
  have hg0 : ∀ c, g 0 c = rowVal (bagA d i arg3 arg6 fT fo b0) (bagB d i arg3 arg6 fT fo b0) (bagC d i arg4 arg6 fL fo b0) c := fun _ => rfl
  have hg1 : ∀ c, g 1 c = rowVal (bagA d i arg3 arg6 fT fo b1) (bagB d i arg3 arg6 fT fo b1) (bagC d i arg4 arg6 fL fo b1) c := fun _ => rfl
  have hg2 : ∀ c, g 2 c = rowVal (bagA d i arg3 arg6 fT fo b2) (bagB d i arg3 arg6 fT fo b2) (bagC d i arg4 arg6 fL fo b2) c := fun _ => rfl
  have hg3 : ∀ c, g 3 c = rowVal (bagA d i arg3 arg6 fT fo b3) (bagB d i arg3 arg6 fT fo b3) (bagC d i arg4 arg6 fL fo b3) c := fun _ => rfl
  unfold ringInv
  rw [e0, e1, e2]
  iintro ⟨#Hmw, H0, H1, H2, H3, ⟨%fs, Hst⟩, Hout, Hsem, HO⟩
  ihave Hst := (show (arg19.view.loc (tileT d i) ↦[arg19.view.set]{fullShare} fs : sProp (MM F)) ⊢ staged d i arg19 g 0 from by
    unfold staged
    iintro Hst
    iexists fs
    isplitr
    · ipureintro; intro r c h; exact absurd h (Nat.not_lt_zero _)
    iexact Hst) $$ Hst
  unfold k1_t1_body
  dsimp only
  iapply (cps (part5_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 fT fL fo q N H O W t hN0 b0 hc7 hc11 hc15 hc10 hc14 hc18)) $$ [H3 H0 HO]
  · isplitr; · iexact Hmw
    isplitl [H3]; · iexact H3
    isplitl [H0]; · iexact H0
    iexact HO
  iintro ⟨H3, H0, HO⟩
  dsimp only
  iapply (cps (part6_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 fT fL fo q g b0 hg0)) $$ [H0 Hst]
  · isplitl [H0] <;> iassumption
  iintro ⟨H0, Hst⟩
  dsimp only
  iapply (cps (part7_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 g _ _ _ hg0)) $$ [Hst]
  · iexact Hst
  iintro Hst
  dsimp only
  iapply (cps (part8_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 g _ _ _ hg0)) $$ [Hst]
  · iexact Hst
  iintro Hst
  dsimp only
  iapply (cps (part9_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 fT fL fo q N H O W t g _ _ _ hg0 b1 hc7 hc11 hc15 hc8 hc12 hc16 _)) $$ [Hst H0 H1 HO]
  · isplitr; · iexact Hmw
    isplitl [Hst]; · iexact Hst
    isplitl [H0]; · iexact H0
    isplitl [H1]; · iexact H1
    iexact HO
  iintro ⟨H0, H1, Hst, HO⟩
  dsimp only
  iapply (cps (part10_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 fT fL fo q N H O W g b1 hg1 hc16 hN0)) $$ [H1 Hst HO]
  · isplitl [H1]
    · isplitr; · iexact Hmw
      iexact H1
    isplitl [Hst] <;> iassumption
  iintro ⟨H1, Hst, HO⟩
  dsimp only
  iapply (cps (part11_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 g _ _ _ hg1)) $$ [Hst]
  · iexact Hst
  iintro Hst
  dsimp only
  iapply (cps (part12_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 g _ _ _ hg1)) $$ [Hst]
  · iexact Hst
  iintro Hst
  dsimp only
  iapply (cps (part13_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 g _ _ _ _ hg1)) $$ [Hst]
  · iexact Hst
  iintro Hst
  dsimp only
  iapply (cps (part14_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 fT fL fo q N H O W t hN0 b2 hc8 hc12 hc16 hc9 hc13 hc17 _)) $$ [H1 H2 HO]
  · isplitr; · iexact Hmw
    isplitl [H1]; · iexact H1
    isplitl [H2]; · iexact H2
    iexact HO
  iintro ⟨H1, H2, HO⟩
  dsimp only
  iapply (cps (part15_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 fT fL fo q g b2 hg2)) $$ [H2 Hst]
  · isplitl [H2] <;> iassumption
  iintro ⟨H2, Hst⟩
  dsimp only
  iapply (cps (part16_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 g _ _ _ hg2)) $$ [Hst]
  · iexact Hst
  iintro Hst
  dsimp only
  iapply (cps (part17_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 g _ _ _ hg2)) $$ [Hst]
  · iexact Hst
  iintro Hst
  dsimp only
  rw [e3]
  iapply (cps (part18_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 fT fL fo q N H O W t g _ _ _ hN0 hg2 b3 hc9 hc13 hc17 hc10 hc14 hc18 _)) $$ [Hst H2 H3 HO]
  · isplitr; · iexact Hmw
    isplitl [Hst]; · iexact Hst
    isplitl [H2]; · iexact H2
    isplitl [H3]; · iexact H3
    iexact HO
  iintro ⟨H2, H3, Hst, HO⟩
  dsimp only
  iapply (cps (part19_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 fT fL fo q g b3 hg3)) $$ [H3 Hst]
  · isplitl [H3] <;> iassumption
  iintro ⟨H3, Hst⟩
  dsimp only
  iapply (cps (part20_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 g _ _ _ hg3)) $$ [Hst]
  · iexact Hst
  iintro Hst
  dsimp only
  iapply (cps (part21_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 g _ _ _ hg3)) $$ [Hst]
  · iexact Hst
  iintro Hst
  dsimp only
  iapply (toWp (part22_spec i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 O W t g _ _ _ v2 _ (bagVal d i arg3 arg4 arg6 fT fL fo) hg3 (fun _ _ _ => rfl))) $$ [Hst Hout Hsem HO]
  · isplitr; · iexact Hmw
    isplitl [Hst]; · iexact Hst
    isplitl [Hout]; · iexact Hout
    isplitl [Hsem]; · iexact Hsem
    iexact HO
  iintro %_ ⟨Hst, Hout, Hsem, HO⟩
  isplitl [H0]; · iexact H0
  isplitl [H1]; · iexact H1
  isplitl [H2]; · iexact H2
  isplitl [H3]; · iexact H3
  isplitl [Hst]; · iexact Hst
  isplitl [Hout]; · iexact Hout
  isplitl [Hsem] <;> iassumption

end Cert.KernelIdeal.Pool

end
-- ==== Proof.KI.Shares.lean ====
/-
  A tile's shares of what it reads, cut into the four slots' and put together again.
-/
module

public import proofs.«01_k».proof.Proof.KI.Parts
public import Idealize.ShloMosaic.Lib.Pointwise.Index
public import Idealize.ShloMosaic.Lib.Pointwise.Reshape
public import Idealize.ShloMosaic.Lib.Pipeline.Value

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

open Idealize.ShloMosaic.Transfers (MayWaits)

/-- A quarter of a share. -/
def quart (q : PosShare TreeShare) : Fin 4 → PosShare TreeShare := ![q.left.left, q.left.right, q.right.left, q.right.right]

theorem pts_quart {ℓ : Loc nD τ sig} (I : Finset (Idx ℓ)) (f : Buf (Elt F) ℓ) (q : PosShare TreeShare) :
    (ℓ ↦[I]{q} f : sProp (MM F)) = iprop((ℓ ↦[I]{quart q 0} f) ∗ (ℓ ↦[I]{quart q 1} f) ∗ (ℓ ↦[I]{quart q 2} f) ∗ ℓ ↦[I]{quart q 3} f) := by
  have h (p : PosShare TreeShare) : (ℓ ↦[I]{p} f : sProp (MM F)) = iprop((ℓ ↦[I]{p.left} f) ∗ ℓ ↦[I]{p.right} f) :=
    BI.Entails.antisymm (pointsTo_share (PosShare.mem_left_op_right p)).1 (pointsTo_share (PosShare.mem_left_op_right p)).2
  have h1 : (ℓ ↦[I]{q} f : sProp (MM F)) ⊢ iprop((ℓ ↦[I]{quart q 0} f) ∗ (ℓ ↦[I]{quart q 1} f) ∗ (ℓ ↦[I]{quart q 2} f) ∗ ℓ ↦[I]{quart q 3} f) := by
    rw [h q, h q.left, h q.right]
    iintro ⟨⟨H0, H1⟩, H2, H3⟩
    isplitl [H0]; · iexact H0
    isplitl [H1]; · iexact H1
    isplitl [H2]; · iexact H2
    iexact H3
  have h2 : (iprop((ℓ ↦[I]{quart q 0} f) ∗ (ℓ ↦[I]{quart q 1} f) ∗ (ℓ ↦[I]{quart q 2} f) ∗ ℓ ↦[I]{quart q 3} f) : sProp (MM F)) ⊢ ℓ ↦[I]{q} f := by
    rw [h q, h q.left, h q.right]
    iintro ⟨H0, H1, H2, H3⟩
    isplitl [H0 H1]
    · isplitl [H0]; · iexact H0
      iexact H1
    isplitl [H2]; · iexact H2
    iexact H3
  exact BI.Entails.antisymm h1 h2

section
variable (d : Dev nD) (i : grid1.Coords)
variable (tab : Memref sig .scVector .hbm S1000000x300 .f32) (tail : Memref sig .scVector .hbm S1000000x128 .f32)
  (idx : Memref sig .scVector .vmem S128x50 .i32)
variable (fT : Buf (Elt F) (tab.view.loc (tileT d i))) (fL : Buf (Elt F) (tail.view.loc (tileT d i))) (fo : Buf (Elt F) (idx.view.loc (tileT d i)))
variable (A B C : Memref sig .scVector .vmem S50x128 .f32) (sem : DmaSem sig)

/-- The shares a slot works with: one of the table twice and of the tail, and three of the fetched indices. -/
def slotShares (p o : PosShare TreeShare) : Fin 6 → PosShare TreeShare := ![p, p, p, quart o 0, quart o 1, quart o 2]

theorem srcA_subset : (srcA tab).view.set ⊆ tab.view.set := View.set_slice_subset _ _
theorem srcC_subset : (srcC tail).view.set ⊆ tail.view.set := View.set_slice_subset _ _

theorem srcB_subset : (srcB tab).view.set ⊆ tab.view.set \ (srcA tab).view.set := by
  intro x hx
  refine Finset.mem_sdiff.mpr ⟨View.set_slice_subset _ _ hx, fun hA => ?_⟩
  change x ∈ (tab.view.slice (Rect.unit (s := S1000000x300) ![0, 128] S1000000x128.size inb_S1000000x300_S1000000x128_0_128)).set at hx
  change x ∈ (tab.view.slice (Rect.unit (s := S1000000x300) ![0, 0] S1000000x128.size inb_S1000000x300_S1000000x128_0_0)).set at hA
  rw [View.set_slice] at hx hA
  obtain ⟨y, hy, rfl⟩ := Finset.mem_map.mp hx
  have hA := (Finset.mem_map' _).mp hA
  rw [Rect.mem_set_unit] at hy hA
  have h1 := hy 1
  have h2 := hA 1
  have h3 : 128 ≤ (y 1).val := h1.1
  have h4 : (y 1).val < 0 + 128 := h2.2
  omega

/-- What a slot's shares leave over. -/
def slotOver (p o : PosShare TreeShare) : sProp (MM F) :=
  iprop((tab.view.loc (tileT d i) ↦[(tab.view.set \ (srcA tab).view.set) \ (srcB tab).view.set]{p} fT)
    ∗ (tail.view.loc (tileT d i) ↦[tail.view.set \ (srcC tail).view.set]{p} fL) ∗ (idx.view.loc (tileT d i) ↦[idx.view.set]{quart o 3} fo))

/-- A slot's part of the tile's shares. -/
def slotPart (p o : PosShare TreeShare) : sProp (MM F) :=
  iprop((tab.view.loc (tileT d i) ↦[tab.view.set]{p} fT) ∗ (tail.view.loc (tileT d i) ↦[tail.view.set]{p} fL) ∗ (idx.view.loc (tileT d i) ↦[idx.view.set]{o} fo)
    ∗ semVal (tileT d i, .dma sem) 0 ∗ anyBuf d i A ∗ anyBuf d i B ∗ anyBuf d i C)

theorem slot_open (p o : PosShare TreeShare) :
    slotPart d i tab tail idx fT fL fo A B C sem p o
      ⊢ iprop(slotF d i tab tail idx fT fL fo A B C sem (slotShares p o) ∗ slotOver d i tab tail idx fT fL fo p o) := by
  unfold slotPart slotF slotFree slotIdle slotOver
  rw [pts_quart _ fo o]
  iintro ⟨HT, HL, ⟨Ho0, Ho1, Ho2, Ho3⟩, Hs, HA, HB, HC⟩
  ihave HT := (pointsTo_split_subset (srcA_subset tab)).1 $$ HT
  icases HT with ⟨HTA, HT⟩
  ihave HT := (pointsTo_split_subset (srcB_subset tab)).1 $$ HT
  icases HT with ⟨HTB, HT⟩
  ihave HL := (pointsTo_split_subset (srcC_subset tail)).1 $$ HL
  icases HL with ⟨HLC, HL⟩
  isplitr [HT HL Ho3]
  · isplitr [HA HB HC]
    · isplitl [HTA]; · iexact HTA
      isplitl [HTB]; · iexact HTB
      isplitl [HLC]; · iexact HLC
      isplitl [Ho0]; · iexact Ho0
      isplitl [Ho1]; · iexact Ho1
      isplitl [Ho2]; · iexact Ho2
      iexact Hs
    isplitl [HA]; · iexact HA
    isplitl [HB]; · iexact HB
    iexact HC
  isplitl [HT]; · iexact HT
  isplitl [HL]; · iexact HL
  iexact Ho3

theorem slot_close (p o : PosShare TreeShare) :
    iprop(slotF d i tab tail idx fT fL fo A B C sem (slotShares p o) ∗ slotOver d i tab tail idx fT fL fo p o)
      ⊢ slotPart d i tab tail idx fT fL fo A B C sem p o := by
  unfold slotPart slotF slotFree slotIdle slotOver
  rw [pts_quart _ fo o]
  iintro ⟨⟨⟨HTA, HTB, HLC, Ho0, Ho1, Ho2, Hs⟩, HA, HB, HC⟩, HT, HL, Ho3⟩
  ihave HT := (pointsTo_split_subset (ℓ := tab.view.loc (tileT d i)) (q := p) (f := fT) (srcB_subset tab)).2 $$ [HTB HT]
  · isplitl [HTB]; · iexact HTB
    iexact HT
  ihave HT := (pointsTo_split_subset (ℓ := tab.view.loc (tileT d i)) (q := p) (f := fT) (srcA_subset tab)).2 $$ [HTA HT]
  · isplitl [HTA]; · iexact HTA
    iexact HT
  ihave HL := (pointsTo_split_subset (ℓ := tail.view.loc (tileT d i)) (q := p) (f := fL) (srcC_subset tail)).2 $$ [HLC HL]
  · isplitl [HLC]; · iexact HLC
    iexact HL
  isplitl [HT]; · iexact HT
  isplitl [HL]; · iexact HL
  isplitl [Ho0 Ho1 Ho2 Ho3]
  · isplitl [Ho0]; · iexact Ho0
    isplitl [Ho1]; · iexact Ho1
    isplitl [Ho2]; · iexact Ho2
    iexact Ho3
  isplitl [Hs]; · iexact Hs
  isplitl [HA]; · iexact HA
  isplitl [HB]; · iexact HB
  iexact HC

end

end Cert.KernelIdeal.Pool

end
-- ==== Proof.KI.Tile.lean ====
/-
  The tile's whole task: its indices fetched, its 128 bags gathered, summed and written.
-/
module

public import proofs.«01_k».proof.Proof.KI.Trip
public import proofs.«01_k».proof.Proof.KI.Shares
public import Idealize.ShloMosaic.Lib.Pointwise.Index
public import Idealize.ShloMosaic.Lib.Pointwise.Reshape
public import Idealize.ShloMosaic.Lib.Pipeline.Value

@[expose] public section

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

open Idealize.ShloMosaic.SparseCore (enqueueIndirectGather waitIndirectGather)
open Idealize.ShloMosaic.Transfers (MayWaits)

section
variable (d : Dev nD) (i : grid1.Coords)
variable (tab : Memref sig .scVector .hbm S1000000x300 .f32) (tail : Memref sig .scVector .hbm S1000000x128 .f32)
  (idx : Memref sig .scVector .vmem S128x50 .i32)
variable (fT : Buf (Elt F) (tab.view.loc (tileT d i))) (fL : Buf (Elt F) (tail.view.loc (tileT d i))) (fo : Buf (Elt F) (idx.view.loc (tileT d i)))
variable (A B C : Memref sig .scVector .vmem S50x128 .f32) (sem : DmaSem sig) (q : Fin 6 → PosShare TreeShare) (N : ℕ)
variable (H : ∀ x, (idx.view.read (Elt F) fo x).toNat < 1000000)
variable {α : Type} {Q : α → sProp (MM F)}

/-- A free slot is given its first bag. -/
theorem slot_fill (b : Fin 128) (off : Fin 2 → ℕ) (hoff : off = ![b.val, 0])
    (hA : Cred N A) (hB : Cred N B) (hC : Cred N C)
    {inb : ∀ a, off a + S1x50.size a ≤ S128x50.size a}
    {hk : (tileT d i).2.kind = .scVector} {hsA : (srcA tab).view.WordExact} {hsB : (srcB tab).view.WordExact} {hsC : (srcC tail).view.WordExact}
    {he : EltTy.f32.bits = 32} {hsp : Space.hbm = .hbm ∨ Space.hbm = .shared} {hr : S1000000x128.StreamRows 0}
    {ko : Prog (TpuEff nD τ sig (Elt F) Λ₀ (tileT d i).2) α} :
    slotF d i tab tail idx fT fL fo A B C sem q ⊢ iprop((slotAt d i tab tail idx fT fL fo A B C sem q N H b.val -∗ wp frame (wpE (defs₀ (F := F)) 𝒱₀ (tileT d i) none) Set.univ ko Q)
      -∗ wp frame (wpE (defs₀ (F := F)) 𝒱₀ (tileT d i) none) Set.univ
          (enqueueIndirectGather hk (srcA tab) A gathers_S1000000x128_S50x128 (listAt idx off inb) rfl sem hsA he hsp hr >>= fun _ =>
              enqueueIndirectGather hk (srcB tab) B gathers_S1000000x128_S50x128 (listAt idx off inb) rfl sem hsB he hsp hr >>= fun _ =>
              enqueueIndirectGather hk (srcC tail) C gathers_S1000000x128_S50x128 (listAt idx off inb) rfl sem hsC he hsp hr >>= fun _ => ko) Q) := by
  have key := slot_refill' d i tab tail idx fT fL fo A B C sem q N H (b := b.val) (p := True) (Iff.intro (fun _ => b.isLt) (fun _ => trivial)) off hoff hA hB hC
    (inb := fun _ => inb) (hk := hk) (hsA := hsA) (hsB := hsB) (hsC := hsC) (he := he) (hsp := hsp) (hr := hr) (ko := ko) (Q := Q)
  rw [dif_pos trivial] at key
  exact key

theorem slotAt_past (b : ℕ) (hb : ¬ b < 128) : slotAt d i tab tail idx fT fL fo A B C sem q N H b = slotF d i tab tail idx fT fL fo A B C sem q := dif_neg hb

end

section
variable (i : grid1.Coords) (d : Dev nD) (arg2 : Memref sig .scVector .hbm S4096x50 .i32) (harg2 : arg2.IsWhole) (arg3 : Memref sig .scVector .hbm S1000000x300 .f32) (harg3 : arg3.IsWhole) (arg4 : Memref sig .scVector .hbm S1000000x128 .f32) (harg4 : arg4.IsWhole) (arg5 : Memref sig .scVector .hbm S4096x304 .f32) (harg5 : arg5.IsWhole) (arg6 : Memref sig .scVector .vmem S128x50 .i32) (harg6 : arg6.IsWhole) (arg7 : Memref sig .scVector .vmem S50x128 .f32) (harg7 : arg7.IsWhole) (arg8 : Memref sig .scVector .vmem S50x128 .f32) (harg8 : arg8.IsWhole) (arg9 : Memref sig .scVector .vmem S50x128 .f32) (harg9 : arg9.IsWhole) (arg10 : Memref sig .scVector .vmem S50x128 .f32) (harg10 : arg10.IsWhole) (arg11 : Memref sig .scVector .vmem S50x128 .f32) (harg11 : arg11.IsWhole) (arg12 : Memref sig .scVector .vmem S50x128 .f32) (harg12 : arg12.IsWhole) (arg13 : Memref sig .scVector .vmem S50x128 .f32) (harg13 : arg13.IsWhole) (arg14 : Memref sig .scVector .vmem S50x128 .f32) (harg14 : arg14.IsWhole) (arg15 : Memref sig .scVector .vmem S50x128 .f32) (harg15 : arg15.IsWhole) (arg16 : Memref sig .scVector .vmem S50x128 .f32) (harg16 : arg16.IsWhole) (arg17 : Memref sig .scVector .vmem S50x128 .f32) (harg17 : arg17.IsWhole) (arg18 : Memref sig .scVector .vmem S50x128 .f32) (harg18 : arg18.IsWhole) (arg19 : Memref sig .scVector .vmem S4x304 .f32) (harg19 : arg19.IsWhole) (arg20 : DmaSems sig S_) (arg21 : DmaSems sig S_) (arg22 : DmaSems sig S_) (arg23 : DmaSems sig S_) (v31_r0 : DmaSems sig S_) (v633_r1 : DmaSems sig S_)
  (fT : Buf (Elt F) (arg3.view.loc (tileT d i))) (fL : Buf (Elt F) (arg4.view.loc (tileT d i)))
  (p : PosShare TreeShare) (N : ℕ)
  (O : CellTallies nD τ sig (HIx 1)) (W : Waits sig (HIx 1))

/-- The gathers of the first three bags, then the outer loop, from four free slots to four free slots. -/
theorem ring_run (fo : Buf (Elt F) (arg6.view.loc (tileT d i))) (H : ∀ x, (arg6.view.read (Elt F) fo x).toNat < 1000000) (hN0 : 0 < N) (hc7 : Cred N arg7) (hc11 : Cred N arg11) (hc15 : Cred N arg15) (hc8 : Cred N arg8) (hc12 : Cred N arg12) (hc16 : Cred N arg16) (hc9 : Cred N arg9) (hc13 : Cred N arg13) (hc17 : Cred N arg17) (hc10 : Cred N arg10) (hc14 : Cred N arg14) (hc18 : Cred N arg18)
    (v2 : BitVec 32) {hst : S1000000x128.StreamRows 0} {Q : PUnit → sProp (MM F)} :
    iprop(MayWaits (tileT d i) (default : HIx 1) O ∗ slotF d i arg3 arg4 arg6 fT fL fo arg7 arg11 arg15 arg20.sem (slotShares (quart p 0) (quart fullShare 0)) ∗ slotF d i arg3 arg4 arg6 fT fL fo arg8 arg12 arg16 arg21.sem (slotShares (quart p 1) (quart fullShare 1)) ∗ slotF d i arg3 arg4 arg6 fT fL fo arg9 arg13 arg17 arg22.sem (slotShares (quart p 2) (quart fullShare 2)) ∗ slotF d i arg3 arg4 arg6 fT fL fo arg10 arg14 arg18 arg23.sem (slotShares (quart p 3) (quart fullShare 3))
        ∗ (∃ fs, arg19.view.loc (tileT d i) ↦[arg19.view.set]{fullShare} fs) ∗ (∃ f, ⌜Done d i arg5 (bagVal d i arg3 arg4 arg6 fT fL fo) 0 f⌝ ∗ arg5.view.loc (tileT d i) ↦[blk d i arg5]{fullShare} f) ∗ semVal (tileT d i, .dma v633_r1.sem) 0 ∗ owesW d i O W)
      ⊢ iprop((iprop(slotF d i arg3 arg4 arg6 fT fL fo arg7 arg11 arg15 arg20.sem (slotShares (quart p 0) (quart fullShare 0)) ∗ slotF d i arg3 arg4 arg6 fT fL fo arg8 arg12 arg16 arg21.sem (slotShares (quart p 1) (quart fullShare 1)) ∗ slotF d i arg3 arg4 arg6 fT fL fo arg9 arg13 arg17 arg22.sem (slotShares (quart p 2) (quart fullShare 2)) ∗ slotF d i arg3 arg4 arg6 fT fL fo arg10 arg14 arg18 arg23.sem (slotShares (quart p 3) (quart fullShare 3))
          ∗ (∃ fs, arg19.view.loc (tileT d i) ↦[arg19.view.set]{fullShare} fs) ∗ (∃ f, ⌜Done d i arg5 (bagVal d i arg3 arg4 arg6 fT fL fo) 128 f⌝ ∗ arg5.view.loc (tileT d i) ↦[blk d i arg5]{fullShare} f) ∗ semVal (tileT d i, .dma v633_r1.sem) 0 ∗ owesW d i O W) -∗ Q ⟨⟩)
        -∗ wp frame (wpE (defs₀ (F := F)) 𝒱₀ (tileT d i) none) Set.univ (
            enqueueIndirectGather rfl (srcA arg3) arg7 gathers_S1000000x128_S50x128 (listAt arg6 ![0, 0] inb_S128x50_S1x50_0_0) rfl arg20.sem (View.wordExact_bits rfl) rfl (Or.inl rfl) hst >>= fun _ =>
            enqueueIndirectGather rfl (srcB arg3) arg11 gathers_S1000000x128_S50x128 (listAt arg6 ![0, 0] inb_S128x50_S1x50_0_0) rfl arg20.sem (View.wordExact_bits rfl) rfl (Or.inl rfl) hst >>= fun _ =>
            enqueueIndirectGather rfl (srcC arg4) arg15 gathers_S1000000x128_S50x128 (listAt arg6 ![0, 0] inb_S128x50_S1x50_0_0) rfl arg20.sem (View.wordExact_bits rfl) rfl (Or.inl rfl) hst >>= fun _ =>
            enqueueIndirectGather rfl (srcA arg3) arg8 gathers_S1000000x128_S50x128 (listAt arg6 ![1, 0] inb_S128x50_S1x50_1_0) rfl arg21.sem (View.wordExact_bits rfl) rfl (Or.inl rfl) hst >>= fun _ =>
            enqueueIndirectGather rfl (srcB arg3) arg12 gathers_S1000000x128_S50x128 (listAt arg6 ![1, 0] inb_S128x50_S1x50_1_0) rfl arg21.sem (View.wordExact_bits rfl) rfl (Or.inl rfl) hst >>= fun _ =>
            enqueueIndirectGather rfl (srcC arg4) arg16 gathers_S1000000x128_S50x128 (listAt arg6 ![1, 0] inb_S128x50_S1x50_1_0) rfl arg21.sem (View.wordExact_bits rfl) rfl (Or.inl rfl) hst >>= fun _ =>
            enqueueIndirectGather rfl (srcA arg3) arg9 gathers_S1000000x128_S50x128 (listAt arg6 ![2, 0] inb_S128x50_S1x50_2_0) rfl arg22.sem (View.wordExact_bits rfl) rfl (Or.inl rfl) hst >>= fun _ =>
            enqueueIndirectGather rfl (srcB arg3) arg13 gathers_S1000000x128_S50x128 (listAt arg6 ![2, 0] inb_S128x50_S1x50_2_0) rfl arg22.sem (View.wordExact_bits rfl) rfl (Or.inl rfl) hst >>= fun _ =>
            enqueueIndirectGather rfl (srcC arg4) arg17 gathers_S1000000x128_S50x128 (listAt arg6 ![2, 0] inb_S128x50_S1x50_2_0) rfl arg22.sem (View.wordExact_bits rfl) rfl (Or.inl rfl) hst >>= fun _ =>
            Scf.Loop.for k1_t1_loop k1_t1_ok ⟨⟩ (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 v2) >>= fun _ => pure ⟨⟩) Q) := by
  iintro ⟨#Hmw, H0, H1, H2, H3, Hst, Hout, Hsem, HO⟩ Hk
  iapply (slot_fill d i arg3 arg4 arg6 fT fL fo arg7 arg11 arg15 arg20.sem (slotShares (quart p 0) (quart fullShare 0)) N H 0 ![0, 0] rfl hc7 hc11 hc15) $$ [H0]
  · iexact H0
  iintro H0
  iapply (slot_fill d i arg3 arg4 arg6 fT fL fo arg8 arg12 arg16 arg21.sem (slotShares (quart p 1) (quart fullShare 1)) N H 1 ![1, 0] rfl hc8 hc12 hc16) $$ [H1]
  · iexact H1
  iintro H1
  iapply (slot_fill d i arg3 arg4 arg6 fT fL fo arg9 arg13 arg17 arg22.sem (slotShares (quart p 2) (quart fullShare 2)) N H 2 ![2, 0] rfl hc9 hc13 hc17) $$ [H2]
  · iexact H2
  iintro H2
  have key := Scf.wp_for_bind frame (wpE (defs₀ (F := F)) 𝒱₀ (tileT d i) none) Set.univ k1_t1_loop.lb k1_t1_loop.ub k1_t1_loop.st k1_t1_ok ()
    (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 v2)
    (fun n _ => iprop(MayWaits (tileT d i) (default : HIx 1) O ∗ ringInv i d arg3 arg4 arg5 arg6 arg7 arg8 arg9 arg10 arg11 arg12 arg13 arg14 arg15 arg16 arg17 arg18 arg19 arg20 arg21 arg22 arg23 v633_r1 fT fL fo (fun k => slotShares (quart p k) (quart fullShare k)) N H O W n))
    (fun t acc => by
      iintro ⟨#Hmw, HI⟩
      iapply (toWp (trip i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 fT fL fo (fun k => slotShares (quart p k) (quart fullShare k)) N H O W hN0 hc7 hc11 hc15 hc8 hc12 hc16 hc9 hc13 hc17 hc10 hc14 hc18 v2 t acc)) $$ [HI]
      · isplitr; · iexact Hmw
        iexact HI
      iintro %_ HI
      isplitr; · iexact Hmw
      iexact HI) (kk := fun _ => (pure ⟨⟩ : Prog (TpuEff nD τ sig (Elt F) Λ₀ (tileT d i).2) PUnit)) (Q := Q)
  iapply key $$ [H0 H1 H2 H3 Hst Hout Hsem HO]
  · isplitr; · iexact Hmw
    unfold ringInv
    isplitl [H0]; · iexact H0
    isplitl [H1]; · iexact H1
    isplitl [H2]; · iexact H2
    isplitl [H3]; · iexact H3
    isplitl [Hst]; · iexact Hst
    isplitl [Hout]; · iexact Hout
    isplitl [Hsem]; · iexact Hsem
    iexact HO
  iintro %_ ⟨-, HI⟩
  rw [show Scf.trips k1_t1_loop.lb k1_t1_loop.ub k1_t1_loop.st = 32 from by decide]
  unfold ringInv
  rw [slotAt_past _ _ _ _ _ _ _ _ _ _ _ _ _ _ _ (4 * 32 + 0) (by decide), slotAt_past _ _ _ _ _ _ _ _ _ _ _ _ _ _ _ (4 * 32 + 1) (by decide),
    slotAt_past _ _ _ _ _ _ _ _ _ _ _ _ _ _ _ (4 * 32 + 2) (by decide)]
  icases HI with ⟨H0, H1, H2, H3, Hst, Hout, Hsem, HO⟩
  sl_step
  iapply Hk
  isplitl [H0]; · iexact H0
  isplitl [H1]; · iexact H1
  isplitl [H2]; · iexact H2
  isplitl [H3]; · iexact H3
  isplitl [Hst]; · iexact Hst
  isplitl [Hout]; · iexact Hout
  isplitl [Hsem]; · iexact Hsem
  iexact HO

/-- The rows of the index array a tile fetches. -/
abbrev idxRows (a2 : Memref sig .scVector .hbm S4096x50 .i32) : Memref sig .scVector .hbm S128x50 .i32 :=
  a2.slice (Rect.unit (s := S4096x50) (k1_off1 i) S128x50.size (k1_off1_inb i)) (fun _ => rfl)

/-- What column `c` of the tile's bag `r` is to hold, from the index array itself. -/
def tileVal (fI : Buf (Elt F) (arg2.view.loc (tileT d i))) (r c : ℕ) : F .f32 :=
  rowVal (gath ((srcA arg3).view.read (Elt F) fT) (fun k => (idxRows i arg2).view.read (Elt F) fI (ix2 (Fin.ofNat 128 r) k)))
    (gath ((srcB arg3).view.read (Elt F) fT) (fun k => (idxRows i arg2).view.read (Elt F) fI (ix2 (Fin.ofNat 128 r) k)))
    (gath ((srcC arg4).view.read (Elt F) fL) (fun k => (idxRows i arg2).view.read (Elt F) fI (ix2 (Fin.ofNat 128 r) k))) c

/-- All that follows the fetch of the indices. -/
theorem tile_rest (fI : Buf (Elt F) (arg2.view.loc (tileT d i))) (fo : Buf (Elt F) (arg6.view.loc (tileT d i)))
    (hfo : arg6.view.read (Elt F) fo = (idxRows i arg2).view.read (Elt F) fI) (HI : ∀ x, ((idxRows i arg2).view.read (Elt F) fI x).toNat < 1000000) (hN0 : 0 < N) (hc7 : Cred N arg7) (hc11 : Cred N arg11) (hc15 : Cred N arg15) (hc8 : Cred N arg8) (hc12 : Cred N arg12) (hc16 : Cred N arg16) (hc9 : Cred N arg9) (hc13 : Cred N arg13) (hc17 : Cred N arg17) (hc10 : Cred N arg10) (hc14 : Cred N arg14) (hc18 : Cred N arg18)
    (v2 : BitVec 32) {hst : S1000000x128.StreamRows 0} {Q : PUnit → sProp (MM F)} :
    iprop(MayWaits (tileT d i) (default : HIx 1) O ∗ (arg3.view.loc (tileT d i) ↦[arg3.view.set]{p} fT) ∗ (arg4.view.loc (tileT d i) ↦[arg4.view.set]{p} fL)
        ∗ (∃ f, arg5.view.loc (tileT d i) ↦[blk d i arg5]{fullShare} f) ∗ (arg6.view.loc (tileT d i) ↦[arg6.view.set]{fullShare} fo)
        ∗ anyBuf d i arg7 ∗ anyBuf d i arg11 ∗ anyBuf d i arg15 ∗ anyBuf d i arg8 ∗ anyBuf d i arg12 ∗ anyBuf d i arg16 ∗ anyBuf d i arg9 ∗ anyBuf d i arg13 ∗ anyBuf d i arg17 ∗ anyBuf d i arg10 ∗ anyBuf d i arg14 ∗ anyBuf d i arg18
        ∗ semVal (tileT d i, .dma arg20.sem) 0 ∗ semVal (tileT d i, .dma arg21.sem) 0 ∗ semVal (tileT d i, .dma arg22.sem) 0 ∗ semVal (tileT d i, .dma arg23.sem) 0
        ∗ (∃ fs, arg19.view.loc (tileT d i) ↦[arg19.view.set]{fullShare} fs) ∗ semVal (tileT d i, .dma v633_r1.sem) 0 ∗ owesW d i O W)
      ⊢ iprop((iprop((arg3.view.loc (tileT d i) ↦[arg3.view.set]{p} fT) ∗ (arg4.view.loc (tileT d i) ↦[arg4.view.set]{p} fL)
        ∗ (∃ f, ⌜Done d i arg5 (tileVal i d arg2 arg3 arg4 fT fL fI) 128 f⌝ ∗ arg5.view.loc (tileT d i) ↦[blk d i arg5]{fullShare} f) ∗ (arg6.view.loc (tileT d i) ↦[arg6.view.set]{fullShare} fo)
        ∗ anyBuf d i arg7 ∗ anyBuf d i arg11 ∗ anyBuf d i arg15 ∗ anyBuf d i arg8 ∗ anyBuf d i arg12 ∗ anyBuf d i arg16 ∗ anyBuf d i arg9 ∗ anyBuf d i arg13 ∗ anyBuf d i arg17 ∗ anyBuf d i arg10 ∗ anyBuf d i arg14 ∗ anyBuf d i arg18
        ∗ semVal (tileT d i, .dma arg20.sem) 0 ∗ semVal (tileT d i, .dma arg21.sem) 0 ∗ semVal (tileT d i, .dma arg22.sem) 0 ∗ semVal (tileT d i, .dma arg23.sem) 0
        ∗ (∃ fs, arg19.view.loc (tileT d i) ↦[arg19.view.set]{fullShare} fs) ∗ semVal (tileT d i, .dma v633_r1.sem) 0 ∗ owesW d i O W) -∗ Q ⟨⟩)
        -∗ wp frame (wpE (defs₀ (F := F)) 𝒱₀ (tileT d i) none) Set.univ (
            enqueueIndirectGather rfl (srcA arg3) arg7 gathers_S1000000x128_S50x128 (listAt arg6 ![0, 0] inb_S128x50_S1x50_0_0) rfl arg20.sem (View.wordExact_bits rfl) rfl (Or.inl rfl) hst >>= fun _ =>
            enqueueIndirectGather rfl (srcB arg3) arg11 gathers_S1000000x128_S50x128 (listAt arg6 ![0, 0] inb_S128x50_S1x50_0_0) rfl arg20.sem (View.wordExact_bits rfl) rfl (Or.inl rfl) hst >>= fun _ =>
            enqueueIndirectGather rfl (srcC arg4) arg15 gathers_S1000000x128_S50x128 (listAt arg6 ![0, 0] inb_S128x50_S1x50_0_0) rfl arg20.sem (View.wordExact_bits rfl) rfl (Or.inl rfl) hst >>= fun _ =>
            enqueueIndirectGather rfl (srcA arg3) arg8 gathers_S1000000x128_S50x128 (listAt arg6 ![1, 0] inb_S128x50_S1x50_1_0) rfl arg21.sem (View.wordExact_bits rfl) rfl (Or.inl rfl) hst >>= fun _ =>
            enqueueIndirectGather rfl (srcB arg3) arg12 gathers_S1000000x128_S50x128 (listAt arg6 ![1, 0] inb_S128x50_S1x50_1_0) rfl arg21.sem (View.wordExact_bits rfl) rfl (Or.inl rfl) hst >>= fun _ =>
            enqueueIndirectGather rfl (srcC arg4) arg16 gathers_S1000000x128_S50x128 (listAt arg6 ![1, 0] inb_S128x50_S1x50_1_0) rfl arg21.sem (View.wordExact_bits rfl) rfl (Or.inl rfl) hst >>= fun _ =>
            enqueueIndirectGather rfl (srcA arg3) arg9 gathers_S1000000x128_S50x128 (listAt arg6 ![2, 0] inb_S128x50_S1x50_2_0) rfl arg22.sem (View.wordExact_bits rfl) rfl (Or.inl rfl) hst >>= fun _ =>
            enqueueIndirectGather rfl (srcB arg3) arg13 gathers_S1000000x128_S50x128 (listAt arg6 ![2, 0] inb_S128x50_S1x50_2_0) rfl arg22.sem (View.wordExact_bits rfl) rfl (Or.inl rfl) hst >>= fun _ =>
            enqueueIndirectGather rfl (srcC arg4) arg17 gathers_S1000000x128_S50x128 (listAt arg6 ![2, 0] inb_S128x50_S1x50_2_0) rfl arg22.sem (View.wordExact_bits rfl) rfl (Or.inl rfl) hst >>= fun _ =>
            Scf.Loop.for k1_t1_loop k1_t1_ok ⟨⟩ (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 v2) >>= fun _ => pure ⟨⟩) Q) := by
  have H : ∀ x, (arg6.view.read (Elt F) fo x).toNat < 1000000 := by rw [hfo]; exact HI
  have hg : (bagVal d i arg3 arg4 arg6 fT fL fo) = (tileVal i d arg2 arg3 arg4 fT fL fI) := by
    funext r c
    unfold bagVal tileVal lst
    rw [hfo]
  rw [pts_quart _ fT p, pts_quart _ fL p, pts_quart _ fo fullShare]
  iintro ⟨#Hmw, ⟨T0, T1, T2, T3⟩, ⟨L0, L1, L2, L3⟩, ⟨%f, Hout⟩, ⟨I0, I1, I2, I3⟩, B7, B11, B15, B8, B12, B16, B9, B13, B17, B10, B14, B18, S0, S1, S2, S3, Hst, Hsem, HO⟩ Hk
  ihave P0 := (show iprop((arg3.view.loc (tileT d i) ↦[arg3.view.set]{quart p 0} fT) ∗ (arg4.view.loc (tileT d i) ↦[arg4.view.set]{quart p 0} fL)
      ∗ (arg6.view.loc (tileT d i) ↦[arg6.view.set]{quart fullShare 0} fo) ∗ semVal (tileT d i, .dma arg20.sem) 0 ∗ anyBuf d i arg7 ∗ anyBuf d i arg11 ∗ anyBuf d i arg15)
      ⊢ _ from slot_open d i arg3 arg4 arg6 fT fL fo arg7 arg11 arg15 arg20.sem (quart p 0) (quart fullShare 0)) $$ [T0 L0 I0 S0 B7 B11 B15]
  · isplitl [T0]; · iexact T0
    isplitl [L0]; · iexact L0
    isplitl [I0]; · iexact I0
    isplitl [S0]; · iexact S0
    isplitl [B7]; · iexact B7
    isplitl [B11] <;> iassumption
  icases P0 with ⟨P0, R0⟩
  ihave P1 := (show iprop((arg3.view.loc (tileT d i) ↦[arg3.view.set]{quart p 1} fT) ∗ (arg4.view.loc (tileT d i) ↦[arg4.view.set]{quart p 1} fL)
      ∗ (arg6.view.loc (tileT d i) ↦[arg6.view.set]{quart fullShare 1} fo) ∗ semVal (tileT d i, .dma arg21.sem) 0 ∗ anyBuf d i arg8 ∗ anyBuf d i arg12 ∗ anyBuf d i arg16)
      ⊢ _ from slot_open d i arg3 arg4 arg6 fT fL fo arg8 arg12 arg16 arg21.sem (quart p 1) (quart fullShare 1)) $$ [T1 L1 I1 S1 B8 B12 B16]
  · isplitl [T1]; · iexact T1
    isplitl [L1]; · iexact L1
    isplitl [I1]; · iexact I1
    isplitl [S1]; · iexact S1
    isplitl [B8]; · iexact B8
    isplitl [B12] <;> iassumption
  icases P1 with ⟨P1, R1⟩
  ihave P2 := (show iprop((arg3.view.loc (tileT d i) ↦[arg3.view.set]{quart p 2} fT) ∗ (arg4.view.loc (tileT d i) ↦[arg4.view.set]{quart p 2} fL)
      ∗ (arg6.view.loc (tileT d i) ↦[arg6.view.set]{quart fullShare 2} fo) ∗ semVal (tileT d i, .dma arg22.sem) 0 ∗ anyBuf d i arg9 ∗ anyBuf d i arg13 ∗ anyBuf d i arg17)
      ⊢ _ from slot_open d i arg3 arg4 arg6 fT fL fo arg9 arg13 arg17 arg22.sem (quart p 2) (quart fullShare 2)) $$ [T2 L2 I2 S2 B9 B13 B17]
  · isplitl [T2]; · iexact T2
    isplitl [L2]; · iexact L2
    isplitl [I2]; · iexact I2
    isplitl [S2]; · iexact S2
    isplitl [B9]; · iexact B9
    isplitl [B13] <;> iassumption
  icases P2 with ⟨P2, R2⟩
  ihave P3 := (show iprop((arg3.view.loc (tileT d i) ↦[arg3.view.set]{quart p 3} fT) ∗ (arg4.view.loc (tileT d i) ↦[arg4.view.set]{quart p 3} fL)
      ∗ (arg6.view.loc (tileT d i) ↦[arg6.view.set]{quart fullShare 3} fo) ∗ semVal (tileT d i, .dma arg23.sem) 0 ∗ anyBuf d i arg10 ∗ anyBuf d i arg14 ∗ anyBuf d i arg18)
      ⊢ _ from slot_open d i arg3 arg4 arg6 fT fL fo arg10 arg14 arg18 arg23.sem (quart p 3) (quart fullShare 3)) $$ [T3 L3 I3 S3 B10 B14 B18]
  · isplitl [T3]; · iexact T3
    isplitl [L3]; · iexact L3
    isplitl [I3]; · iexact I3
    isplitl [S3]; · iexact S3
    isplitl [B10]; · iexact B10
    isplitl [B14] <;> iassumption
  icases P3 with ⟨P3, R3⟩
  iapply (ring_run i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 fT fL p N O W fo H hN0 hc7 hc11 hc15 hc8 hc12 hc16 hc9 hc13 hc17 hc10 hc14 hc18 v2 (hst := hst) (Q := Q)) $$ [P0 P1 P2 P3 Hst Hout Hsem HO]
  · isplitr; · iexact Hmw
    isplitl [P0]; · iexact P0
    isplitl [P1]; · iexact P1
    isplitl [P2]; · iexact P2
    isplitl [P3]; · iexact P3
    isplitl [Hst]; · iexact Hst
    isplitl [Hout]
    · iexists f
      isplitr
      · ipureintro; intro r c h; exact absurd h (Nat.not_lt_zero _)
      iexact Hout
    isplitl [Hsem] <;> iassumption
  iintro ⟨P0, P1, P2, P3, Hst, Hout, Hsem, HO⟩
  ihave P0 := (show _ ⊢ iprop((arg3.view.loc (tileT d i) ↦[arg3.view.set]{quart p 0} fT) ∗ (arg4.view.loc (tileT d i) ↦[arg4.view.set]{quart p 0} fL)
      ∗ (arg6.view.loc (tileT d i) ↦[arg6.view.set]{quart fullShare 0} fo) ∗ semVal (tileT d i, .dma arg20.sem) 0 ∗ anyBuf d i arg7 ∗ anyBuf d i arg11 ∗ anyBuf d i arg15)
      from slot_close d i arg3 arg4 arg6 fT fL fo arg7 arg11 arg15 arg20.sem (quart p 0) (quart fullShare 0)) $$ [P0 R0]
  · isplitl [P0] <;> iassumption
  icases P0 with ⟨T0, L0, I0, S0, B7, B11, B15⟩
  ihave P1 := (show _ ⊢ iprop((arg3.view.loc (tileT d i) ↦[arg3.view.set]{quart p 1} fT) ∗ (arg4.view.loc (tileT d i) ↦[arg4.view.set]{quart p 1} fL)
      ∗ (arg6.view.loc (tileT d i) ↦[arg6.view.set]{quart fullShare 1} fo) ∗ semVal (tileT d i, .dma arg21.sem) 0 ∗ anyBuf d i arg8 ∗ anyBuf d i arg12 ∗ anyBuf d i arg16)
      from slot_close d i arg3 arg4 arg6 fT fL fo arg8 arg12 arg16 arg21.sem (quart p 1) (quart fullShare 1)) $$ [P1 R1]
  · isplitl [P1] <;> iassumption
  icases P1 with ⟨T1, L1, I1, S1, B8, B12, B16⟩
  ihave P2 := (show _ ⊢ iprop((arg3.view.loc (tileT d i) ↦[arg3.view.set]{quart p 2} fT) ∗ (arg4.view.loc (tileT d i) ↦[arg4.view.set]{quart p 2} fL)
      ∗ (arg6.view.loc (tileT d i) ↦[arg6.view.set]{quart fullShare 2} fo) ∗ semVal (tileT d i, .dma arg22.sem) 0 ∗ anyBuf d i arg9 ∗ anyBuf d i arg13 ∗ anyBuf d i arg17)
      from slot_close d i arg3 arg4 arg6 fT fL fo arg9 arg13 arg17 arg22.sem (quart p 2) (quart fullShare 2)) $$ [P2 R2]
  · isplitl [P2] <;> iassumption
  icases P2 with ⟨T2, L2, I2, S2, B9, B13, B17⟩
  ihave P3 := (show _ ⊢ iprop((arg3.view.loc (tileT d i) ↦[arg3.view.set]{quart p 3} fT) ∗ (arg4.view.loc (tileT d i) ↦[arg4.view.set]{quart p 3} fL)
      ∗ (arg6.view.loc (tileT d i) ↦[arg6.view.set]{quart fullShare 3} fo) ∗ semVal (tileT d i, .dma arg23.sem) 0 ∗ anyBuf d i arg10 ∗ anyBuf d i arg14 ∗ anyBuf d i arg18)
      from slot_close d i arg3 arg4 arg6 fT fL fo arg10 arg14 arg18 arg23.sem (quart p 3) (quart fullShare 3)) $$ [P3 R3]
  · isplitl [P3] <;> iassumption
  icases P3 with ⟨T3, L3, I3, S3, B10, B14, B18⟩
  rw [hg]
  iapply Hk
  isplitl [T0 T1 T2 T3]
  · isplitl [T0]; · iexact T0
    isplitl [T1]; · iexact T1
    isplitl [T2]; · iexact T2
    iexact T3
  isplitl [L0 L1 L2 L3]
  · isplitl [L0]; · iexact L0
    isplitl [L1]; · iexact L1
    isplitl [L2]; · iexact L2
    iexact L3
  isplitl [Hout]; · iexact Hout
  isplitl [I0 I1 I2 I3]
  · isplitl [I0]; · iexact I0
    isplitl [I1]; · iexact I1
    isplitl [I2]; · iexact I2
    iexact I3
  isplitl [B7]; · iexact B7
  isplitl [B11]; · iexact B11
  isplitl [B15]; · iexact B15
  isplitl [B8]; · iexact B8
  isplitl [B12]; · iexact B12
  isplitl [B16]; · iexact B16
  isplitl [B9]; · iexact B9
  isplitl [B13]; · iexact B13
  isplitl [B17]; · iexact B17
  isplitl [B10]; · iexact B10
  isplitl [B14]; · iexact B14
  isplitl [B18]; · iexact B18
  isplitl [S0]; · iexact S0
  isplitl [S1]; · iexact S1
  isplitl [S2]; · iexact S2
  isplitl [S3]; · iexact S3
  isplitl [Hst]; · iexact Hst
  isplitl [Hsem]; · iexact Hsem
  iexact HO

set_option maxHeartbeats 4000000 in
/-- The tile's task. -/
theorem tile_task (fI : Buf (Elt F) (arg2.view.loc (tileT d i)))
    (HI : ∀ x, ((idxRows i arg2).view.read (Elt F) fI x).toNat < 1000000) (hN0 : 0 < N) (hc7 : Cred N arg7) (hc11 : Cred N arg11) (hc15 : Cred N arg15) (hc8 : Cred N arg8) (hc12 : Cred N arg12) (hc16 : Cred N arg16) (hc9 : Cred N arg9) (hc13 : Cred N arg13) (hc17 : Cred N arg17) (hc10 : Cred N arg10) (hc14 : Cred N arg14) (hc18 : Cred N arg18) :
    iprop(MayWaits (tileT d i) (default : HIx 1) O ∗ ((idxRows i arg2).view.loc (tileT d i) ↦[(idxRows i arg2).view.set]{fullShare} fI) ∗ semVal (tileT d i, .dma v31_r0.sem) 0
        ∗ (arg3.view.loc (tileT d i) ↦[arg3.view.set]{p} fT) ∗ (arg4.view.loc (tileT d i) ↦[arg4.view.set]{p} fL)
        ∗ (∃ f, arg5.view.loc (tileT d i) ↦[blk d i arg5]{fullShare} f) ∗ (∃ fo, arg6.view.loc (tileT d i) ↦[arg6.view.set]{fullShare} fo)
        ∗ anyBuf d i arg7 ∗ anyBuf d i arg11 ∗ anyBuf d i arg15 ∗ anyBuf d i arg8 ∗ anyBuf d i arg12 ∗ anyBuf d i arg16 ∗ anyBuf d i arg9 ∗ anyBuf d i arg13 ∗ anyBuf d i arg17 ∗ anyBuf d i arg10 ∗ anyBuf d i arg14 ∗ anyBuf d i arg18
        ∗ semVal (tileT d i, .dma arg20.sem) 0 ∗ semVal (tileT d i, .dma arg21.sem) 0 ∗ semVal (tileT d i, .dma arg22.sem) 0 ∗ semVal (tileT d i, .dma arg23.sem) 0
        ∗ (∃ fs, arg19.view.loc (tileT d i) ↦[arg19.view.set]{fullShare} fs) ∗ semVal (tileT d i, .dma v633_r1.sem) 0 ∗ owesW d i O W)
      ⊢ wp frame (wpE (defs₀ (F := F)) 𝒱₀ (tileT d i) none) Set.univ (cc1__pool_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1)
        fun _ => iprop(((idxRows i arg2).view.loc (tileT d i) ↦[(idxRows i arg2).view.set]{fullShare} fI) ∗ semVal (tileT d i, .dma v31_r0.sem) 0
        ∗ (arg3.view.loc (tileT d i) ↦[arg3.view.set]{p} fT) ∗ (arg4.view.loc (tileT d i) ↦[arg4.view.set]{p} fL)
        ∗ (∃ f, ⌜Done d i arg5 (tileVal i d arg2 arg3 arg4 fT fL fI) 128 f⌝ ∗ arg5.view.loc (tileT d i) ↦[blk d i arg5]{fullShare} f) ∗ (∃ fo, arg6.view.loc (tileT d i) ↦[arg6.view.set]{fullShare} fo)
        ∗ anyBuf d i arg7 ∗ anyBuf d i arg11 ∗ anyBuf d i arg15 ∗ anyBuf d i arg8 ∗ anyBuf d i arg12 ∗ anyBuf d i arg16 ∗ anyBuf d i arg9 ∗ anyBuf d i arg13 ∗ anyBuf d i arg17 ∗ anyBuf d i arg10 ∗ anyBuf d i arg14 ∗ anyBuf d i arg18
        ∗ semVal (tileT d i, .dma arg20.sem) 0 ∗ semVal (tileT d i, .dma arg21.sem) 0 ∗ semVal (tileT d i, .dma arg22.sem) 0 ∗ semVal (tileT d i, .dma arg23.sem) 0
        ∗ (∃ fs, arg19.view.loc (tileT d i) ↦[arg19.view.set]{fullShare} fs) ∗ semVal (tileT d i, .dma v633_r1.sem) 0 ∗ owesW d i O W) := by
  simp only [cc1__pool_body_eq_skeleton]; unfold cc1__pool_body_skel
  simp only [k1_part23_eq_skeleton]; unfold k1_part23_skel owesW
  dsimp only
  simp only [bind_assoc, pure_bind]
  iintro ⟨#Hmw, HI, Hs31, HT, HL, Hout, ⟨%f6, H6⟩, B7, B11, B15, B8, B12, B16, B9, B13, B17, B10, B14, B18, S0, S1, S2, S3, Hst, Hsem, ⟨%W₁, %hW₁, HO⟩⟩
  ihave HI := (show _ ⊢ ((idxRows i arg2).view.loc (tileT d i) ↦[(idxRows i arg2).view.set]{fullShare} fI) from .rfl) $$ HI
  sl_exec
  simp only [bind_assoc, pure_bind]
  iapply (tile_rest i d arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 arg22 arg23 v31_r0 v633_r1 fT fL p N O W fI _ (View.read_writes_whole _ _ _) HI hN0 hc7 hc11 hc15 hc8 hc12 hc16 hc9 hc13 hc17 hc10 hc14 hc18 _) $$ [HT HL Hout H6 B7 B11 B15 B8 B12 B16 B9 B13 B17 B10 B14 B18 S0 S1 S2 S3 Hst Hsem HO]
  · isplitr; · iexact Hmw
    isplitl [HT]; · iexact HT
    isplitl [HL]; · iexact HL
    isplitl [Hout]; · iexact Hout
    isplitl [H6]; · iexact H6
    isplitl [B7]; · iexact B7
    isplitl [B11]; · iexact B11
    isplitl [B15]; · iexact B15
    isplitl [B8]; · iexact B8
    isplitl [B12]; · iexact B12
    isplitl [B16]; · iexact B16
    isplitl [B9]; · iexact B9
    isplitl [B13]; · iexact B13
    isplitl [B17]; · iexact B17
    isplitl [B10]; · iexact B10
    isplitl [B14]; · iexact B14
    isplitl [B18]; · iexact B18
    isplitl [S0]; · iexact S0
    isplitl [S1]; · iexact S1
    isplitl [S2]; · iexact S2
    isplitl [S3]; · iexact S3
    isplitl [Hst]; · iexact Hst
    isplitl [Hsem]; · iexact Hsem
    unfold owesW
    iexists _
    isplitr
    swap; · iexact HO
    ipureintro; exact waits_insert _ hW₁
  iintro ⟨HT, HL, Hout, H6, B7, B11, B15, B8, B12, B16, B9, B13, B17, B10, B14, B18, S0, S1, S2, S3, Hst, Hsem, HO⟩
  isplitl [HI]; · iexact HI
  isplitl [Hs31]; · iexact Hs31
  isplitl [HT]; · iexact HT
  isplitl [HL]; · iexact HL
  isplitl [Hout]; · iexact Hout
  isplitl [H6]; · iexists _; iexact H6
  unfold owesW
  isplitl [B7]; · iexact B7
  isplitl [B11]; · iexact B11
  isplitl [B15]; · iexact B15
  isplitl [B8]; · iexact B8
  isplitl [B12]; · iexact B12
  isplitl [B16]; · iexact B16
  isplitl [B9]; · iexact B9
  isplitl [B13]; · iexact B13
  isplitl [B17]; · iexact B17
  isplitl [B10]; · iexact B10
  isplitl [B14]; · iexact B14
  isplitl [B18]; · iexact B18
  isplitl [S0]; · iexact S0
  isplitl [S1]; · iexact S1
  isplitl [S2]; · iexact S2
  isplitl [S3]; · iexact S3
  isplitl [Hst]; · iexact Hst
  isplitl [Hsem]; · iexact Hsem
  iexact HO

end

end Cert.KernelIdeal.Pool

end
-- ==== Proof.KI.Pay.lean ====
/-
  What the pooling call hands its tiles and has back of them, and each tile's task run on them: a tile is handed its rows of
  the indices, a share of the table and of the table's tail, and its block of the result; it brings the block back holding
  the pooled rows.
-/
module

public import proofs.«01_k».proof.Proof.KI.Regions
public import proofs.«01_k».proof.Proof.KI.Tile
public import Idealize.ShloMosaic.Lib.ShareLeaves

@[expose] public section

noncomputable section

namespace Cert.KernelIdeal.Pool

open Cert.KernelIdeal Cert.KernelIdeal.Gen

open Idealize.ShloMosaic Idealize.ShloMosaic.TcCoe Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

/-! ## The operands -/

abbrev iLoc (d : Dev nD) : Loc nD τ sig := (SparseCore.T d).loc main_arg0
abbrev tLoc (d : Dev nD) : Loc nD τ sig := (SparseCore.T d).loc main_arg1
abbrev lLoc (d : Dev nD) : Loc nD τ sig := (SparseCore.T d).loc main_v0
abbrev oLoc (d : Dev nD) : Loc nD τ sig := (SparseCore.T d).loc main_v1

abbrev iV : Memref sig .scVector .hbm S4096x50 .i32 := Memref.whole main_arg0_scv
abbrev tV : Memref sig .scVector .hbm S1000000x300 .f32 := Memref.whole main_arg1_scv
abbrev lV : Memref sig .scVector .hbm S1000000x128 .f32 := Memref.whole main_v0_scv
abbrev oV : Memref sig .scVector .hbm S4096x304 .f32 := Memref.whole main_v1_scv

theorem nCore_zero : (K (F := F)).nCore 0 = 2 := rfl
theorem nSub_zero : (K (F := F)).nSub 0 = 16 := rfl

/-- The tile of a core and a subcore. -/
def tileAt (c : Fin (grid1.bound 0)) (s : Fin (grid1.bound 1)) : grid1.Coords :=
  fun | 0 => c | 1 => s | ⟨_ + 2, h⟩ => absurd h (Nat.not_lt.2 (Nat.le_add_left _ _))

/-- The tile whose block a row of the result lies in. -/
def tileOf (a : Fin 4096) : grid1.Coords :=
  tileAt ⟨a.val / 128 % 2, Nat.mod_lt _ (by omega)⟩ ⟨a.val / 256, by have := a.isLt; show _ < 16; omega⟩

/-- A tile's share of what all tiles read. -/
def shr (i : grid1.Coords) : PosShare TreeShare := leaf 4 (leaf 1 fullShare ⟨(i 0).val, (i 0).isLt⟩) ⟨(i 1).val, (i 1).isLt⟩

variable (m : (ℓ : Loc nD τ sig) → Buf (Elt F) ℓ) (ρ : Dev nD → PrngReg)

/-- The buffers as launched. -/
def V0 (c : Dev nD) (b : Ref sig .tc) : Buf (Elt F) ((c : Thread nD τ).loc b) := m ((c : Thread nD τ).loc b)

/-- The table's tail, as the first call leaves it. -/
def fL (d : Dev nD) : Buf (Elt F) (lLoc d) := Tail.out ((K (F := F)).Otc d 0) 0 (V0 m) d

/-- The pooled rows. -/
def pooled (d : Dev nD) : Buf (Elt F) (oLoc d) := fun j =>
  tileVal (tileOf (j 0)) d iV tV lV (m (tLoc d)) (fL m d) (m (iLoc d)) ((j 0).val % 128) (j 1).val

/-- What a tile is handed. -/
def goP (d : Dev nD) (i : grid1.Coords) : sProp 𝕄 :=
  iprop(((idxRows i iV).view.loc (tileT d i) ↦[(idxRows i iV).view.set]{fullShare} m (iLoc d))
    ∗ ((tV).view.loc (tileT d i) ↦[(tV).view.set]{shr i} m (tLoc d)) ∗ ((lV).view.loc (tileT d i) ↦[(lV).view.set]{shr i} fL m d)
    ∗ ((oV).view.loc (tileT d i) ↦[blk d i oV]{fullShare} m (oLoc d)))

/-- What a tile brings back. -/
def tdP (d : Dev nD) (i : grid1.Coords) : sProp 𝕄 :=
  iprop(((idxRows i iV).view.loc (tileT d i) ↦[(idxRows i iV).view.set]{fullShare} m (iLoc d))
    ∗ ((tV).view.loc (tileT d i) ↦[(tV).view.set]{shr i} m (tLoc d)) ∗ ((lV).view.loc (tileT d i) ↦[(lV).view.set]{shr i} fL m d)
    ∗ ((oV).view.loc (tileT d i) ↦[blk d i oV]{fullShare} pooled m d))

abbrev ti (c : Fin ((K (F := F)).nCore 0)) (s : Fin ((K (F := F)).nSub 0)) : grid1.Coords := tileAt (Fin.cast nCore_zero c) (Fin.cast nSub_zero s)

def P : (K (F := F)).Pay (nD := nD) (Val := Elt F) (Name := ℕ) (U := UU) where
  st := fun q d c => match q with | 0 => bigSep Finset.univ fun s : Fin ((K (F := F)).nSub 0) => goP m d (ti c s)
  dn := fun q d c => match q with | 0 => bigSep Finset.univ fun s : Fin ((K (F := F)).nSub 0) => tdP m d (ti c s)
  go := fun q d c s => match q with | 0 => goP m d (ti c s)
  td := fun q d c s => match q with | 0 => tdP m d (ti c s)
  x := fun _ _ => iprop(emp)

instance goP_storable (d : Dev nD) (i : grid1.Coords) : BI.Storable (upEmb : UEmb _ 𝕄) (goP m d i) := by unfold goP; infer_instance
instance tdP_storable (d : Dev nD) (i : grid1.Coords) : BI.Storable (upEmb : UEmb _ 𝕄) (tdP m d i) := by unfold tdP; infer_instance

instance P_storable : (P (F := F) m).IsStorable where
  st q d c := match q with
    | 0 => (inferInstance : BI.Storable (upEmb : UEmb _ 𝕄) (bigSep Finset.univ fun s : Fin ((K (F := F)).nSub 0) => goP m d (ti c s)))
  dn q d c := match q with
    | 0 => (inferInstance : BI.Storable (upEmb : UEmb _ 𝕄) (bigSep Finset.univ fun s : Fin ((K (F := F)).nSub 0) => tdP m d (ti c s)))
  go q d c s := match q with | 0 => goP_storable m d (ti c s)
  td q d c s := match q with | 0 => tdP_storable m d (ti c s)

/-- Every index is a row of the table. -/
def PreOK : Prop := ∀ (d : Dev nD) (j : S4096x50.Idx), (m (iLoc d) j : BitVec 32).toNat < 1000000

/-! ## A tile's own buffers and semaphores -/

section Own

variable (d : Dev nD) (i : grid1.Coords)

def scrs : Finset (Ref sig .scVector) :=
  {cc1_scratch0, cc1_scratch1, cc1_scratch2, cc1_scratch3, cc1_scratch4, cc1_scratch5, cc1_scratch6, cc1_scratch7, cc1_scratch8, cc1_scratch9, cc1_scratch10, cc1_scratch11, cc1_scratch12, cc1_scratch13}

def sms : Finset (SemLoc sig) :=
  {.dma cc1_scratch14.sem, .dma cc1_scratch15.sem, .dma cc1_scratch16.sem, .dma cc1_scratch17.sem, .dma cc1_scoped0.sem, .dma cc1_scoped1.sem}

def scrD : Finset (DevRef τ sig) :=
  scrs.map ⟨fun r => (Proc.scVector ((i 0).castLE hcore1) ((i 1).castLE hsub1)).devRef r, Proc.devRef_injective _⟩

def smD : Finset (GSem nD τ sig) := sms.map ⟨fun s => (tileT d i, s), fun _ _ h => (Prod.mk.inj h).2⟩

abbrev scr (r : Ref sig .scVector) : sProp 𝕄 := iprop(∃ f, (tileT d i).loc r ↦{fullShare} f)

theorem bigSep_scrs (Φ : Ref sig .scVector → sProp 𝕄) :
    bigSep scrs Φ = iprop(Φ cc1_scratch0 ∗ Φ cc1_scratch1 ∗ Φ cc1_scratch2 ∗ Φ cc1_scratch3 ∗ Φ cc1_scratch4 ∗ Φ cc1_scratch5 ∗ Φ cc1_scratch6 ∗ Φ cc1_scratch7 ∗ Φ cc1_scratch8 ∗ Φ cc1_scratch9 ∗ Φ cc1_scratch10 ∗ Φ cc1_scratch11 ∗ Φ cc1_scratch12 ∗ Φ cc1_scratch13) := by
  unfold scrs
  iterate 13 rw [SparseCore.bigSep_insert' (by decide)]
  rw [bigSep_singleton]

theorem bigSep_sms (Φ : SemLoc sig → sProp 𝕄) :
    bigSep sms Φ = iprop(Φ (.dma cc1_scratch14.sem) ∗ Φ (.dma cc1_scratch15.sem) ∗ Φ (.dma cc1_scratch16.sem) ∗ Φ (.dma cc1_scratch17.sem) ∗ Φ (.dma cc1_scoped0.sem) ∗ Φ (.dma cc1_scoped1.sem)) := by
  unfold sms
  iterate 5 rw [SparseCore.bigSep_insert' (by decide)]
  rw [bigSep_singleton]

theorem ownBufs_V :
    (ownBufs (tileT d i) : sProp 𝕄)
      = iprop((scr d i cc1_scratch0 ∗ scr d i cc1_scratch1 ∗ scr d i cc1_scratch2 ∗ scr d i cc1_scratch3 ∗ scr d i cc1_scratch4 ∗ scr d i cc1_scratch5 ∗ scr d i cc1_scratch6 ∗ scr d i cc1_scratch7 ∗ scr d i cc1_scratch8 ∗ scr d i cc1_scratch9 ∗ scr d i cc1_scratch10 ∗ scr d i cc1_scratch11 ∗ scr d i cc1_scratch12 ∗ scr d i cc1_scratch13)
          ∗ bigSep (ownRefs (τ := τ) (.scVector ((i 0).castLE hcore1) ((i 1).castLE hsub1)) \ scrD i) fun b => iprop(∃ f, ((d, b) : Loc nD τ sig) ↦{fullShare} f)) := by
  unfold SparseCore.Cfg.ownBufs
  have hs : scrD i ⊆ ownRefs (τ := τ) (.scVector ((i 0).castLE hcore1) ((i 1).castLE hsub1)) := by
    intro b hb
    obtain ⟨r, hr, rfl⟩ := Finset.mem_map.mp hb
    refine SparseCore.Cfg.mem_ownRefs_of_owner (p := Proc.scVector ((i 0).castLE hcore1) ((i 1).castLE hsub1)) ?_
    revert hr; unfold scrs
    simp only [Finset.mem_insert, Finset.mem_singleton]
    rintro (rfl | rfl | rfl | rfl | rfl | rfl | rfl | rfl | rfl | rfl | rfl | rfl | rfl | rfl) <;> rfl
  refine (bigSep_sdiff_split hs).trans ?_
  congr 1
  exact (bigSep_map _).trans (bigSep_scrs _)

theorem ownSems0_V :
    (ownSems0 (tileT d i) : sProp 𝕄)
      = iprop((semVal (tileT d i, .dma cc1_scratch14.sem) 0 ∗ semVal (tileT d i, .dma cc1_scratch15.sem) 0 ∗ semVal (tileT d i, .dma cc1_scratch16.sem) 0 ∗ semVal (tileT d i, .dma cc1_scratch17.sem) 0 ∗ semVal (tileT d i, .dma cc1_scoped0.sem) 0 ∗ semVal (tileT d i, .dma cc1_scoped1.sem) 0)
          ∗ bigSep (ownCells (tileT d i) \ smD d i) fun g => semVal g 0) := by
  unfold SparseCore.Cfg.ownSems0
  have hs : smD d i ⊆ ownCells (tileT d i) := by
    intro g hg
    obtain ⟨s, hs, rfl⟩ := Finset.mem_map.mp hg
    refine mem_ownCells.mpr ⟨rfl, ?_⟩
    have key : ∀ s ∈ sms, s.isScoped .scVector = true := by decide
    exact key s hs
  refine (bigSep_sdiff_split hs).trans ?_
  congr 1
  exact (bigSep_map _).trans (bigSep_sms _)

end Own

/-! ## What one row of a scratch buffer is worth on a semaphore -/

abbrev NN : ℕ := ((Memref.whole cc1_scratch1).slice (S50x128.rowRect gathers_S1000000x128_S50x128.axis' ⟨0, by decide⟩) (S50x128.stride_rowRect gathers_S1000000x128_S50x128.axis' ⟨0, by decide⟩)).view.dmaCredit

theorem NN_pos : 0 < NN := by decide
theorem cred1 : Cred NN (Memref.whole cc1_scratch1) := by unfold Cred; decide
theorem cred2 : Cred NN (Memref.whole cc1_scratch2) := by unfold Cred; decide
theorem cred3 : Cred NN (Memref.whole cc1_scratch3) := by unfold Cred; decide
theorem cred4 : Cred NN (Memref.whole cc1_scratch4) := by unfold Cred; decide
theorem cred5 : Cred NN (Memref.whole cc1_scratch5) := by unfold Cred; decide
theorem cred6 : Cred NN (Memref.whole cc1_scratch6) := by unfold Cred; decide
theorem cred7 : Cred NN (Memref.whole cc1_scratch7) := by unfold Cred; decide
theorem cred8 : Cred NN (Memref.whole cc1_scratch8) := by unfold Cred; decide
theorem cred9 : Cred NN (Memref.whole cc1_scratch9) := by unfold Cred; decide
theorem cred10 : Cred NN (Memref.whole cc1_scratch10) := by unfold Cred; decide
theorem cred11 : Cred NN (Memref.whole cc1_scratch11) := by unfold Cred; decide
theorem cred12 : Cred NN (Memref.whole cc1_scratch12) := by unfold Cred; decide

/-! ## A tile's task -/

/-- The tile's block, brought back, is the pooled rows' block. -/
theorem out_congr (d : Dev nD) (i : grid1.Coords) (f : Buf (Elt F) (oLoc d))
    (hf : Done d i oV (tileVal i d iV tV lV (m (tLoc d)) (fL m d) (m (iLoc d))) 128 f) :
    ((oV).view.loc (tileT d i) ↦[blk d i oV]{fullShare} f : sProp 𝕄) = ((oV).view.loc (tileT d i) ↦[blk d i oV]{fullShare} pooled m d) := by
  refine pointsTo_congr fun j hj => ?_
  have h0 : (i 0).val < 2 := (i 0).isLt
  have h1 : (i 1).val < 16 := (i 1).isLt
  obtain ⟨y, -, rfl⟩ := Finset.mem_map.mp hj
  have hy0 : (y 0).val < 128 := (y 0).isLt
  have hj0 : ((((oV).view.slice (blkRect i)).emb y) 0).val = base i + (y 0).val := by
    show base i + 1 * (y 0).val = _; omega
  have hj1 : ((((oV).view.slice (blkRect i)).emb y) 1).val = (y 1).val := by
    show 0 + 1 * (y 1).val = _; omega
  have ht : tileOf ((((oV).view.slice (blkRect i)).emb y) 0) = i := by
    funext a
    match a with
    | 0 => refine Fin.ext ?_; show ((((oV).view.slice (blkRect i)).emb y) 0).val / 128 % 2 = _; rw [hj0]; unfold base; omega
    | 1 => refine Fin.ext ?_; show ((((oV).view.slice (blkRect i)).emb y) 0).val / 256 = _; rw [hj0]; unfold base; omega
  have hd := hf (y 0) (y 1) hy0
  unfold pooled
  rw [ht, hj0, hj1, show (base i + (y 0).val) % 128 = (y 0).val by unfold base; omega]
  refine Eq.trans ?_ hd
  rw [View.read_whole]
  congr 1
  funext a
  match a with
  | 0 => refine Fin.ext ?_; rw [hj0]; show _ = (base i + (y 0).val) % 4096; have := base_le i; omega
  | 1 => exact Fin.ext hj1

theorem inb_of_pre (hpre : PreOK m) (d : Dev nD) (i : grid1.Coords) :
    ∀ x, ((idxRows i iV).view.read (Elt F) (m (iLoc d)) x : BitVec 32).toNat < 1000000 := by
  intro x
  rw [show ∀ j, (idxRows i iV).view.read (Elt F) (m (iLoc d)) j = m (iLoc d) ((idxRows i iV).view.emb j) from fun j => (View.read_apply _ _).trans (cast_eq _ _)]
  exact hpre d _

theorem scr_any (d : Dev nD) (i : grid1.Coords) (r : Ref sig .scVector) :
    scr (F := F) d i r = iprop(∃ f, (Memref.whole r).view.loc (tileT d i) ↦[(Memref.whole r).view.set]{fullShare} f) := by
  unfold scr
  rw [show (Memref.whole r).view.set = Finset.univ from View.set_whole _]

set_option maxHeartbeats 4000000 in
theorem tile_body (hpre : PreOK m) (d : Dev nD) (i : grid1.Coords) (O : CellTallies nD τ sig (HIx 1)) (W : Waits sig (HIx 1)) (hO : ∀ g, O g none = 0) :
    iprop(levAts (K (F := F)).L (K (F := F)).lev ∗ emp ∗ goP m d i
        ∗ scopedBufs (tileT d i) ∗ scopedSems0 (tileT d i) ∗ owes (tileT d i) O W)
      ⊢ wp frame (wpE (defs₀ (F := F)) 𝒱₀ (tileT d i) none) Set.univ
          (cc1__pool_body i (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scoped0 cc1_scoped1)
          fun _ => iprop(tdP m d i ∗ scopedBufs (tileT d i) ∗ scopedSems0 (tileT d i)
            ∗ ∃ W', ⌜∀ p ∈ W', p ∈ W ∨ p.2 = none⌝ ∗ owes (tileT d i) O W') := by
  rw [(K (F := F)).scopedBufs_V facts d _ _, SparseCore.Cfg.scopedSems0_V (Val := Elt F) d _ _, ownSems0_V, ownBufs_V]
  simp only [scr_any]
  unfold goP tdP
  iintro ⟨#Hlv, -, ⟨HI, HT, HL, HO'⟩, ⟨⟨B0, B1, B2, B3, B4, B5, B6, B7, B8, B9, B10, B11, B12, B13⟩, Hbufs⟩, ⟨⟨S14, S15, S16, S17, S0, S1⟩, Hsems⟩, HO⟩
  ihave #Hmw := (show levAts (K (F := F)).L (K (F := F)).lev ⊢ Transfers.MayWaits (tileT d i) (default : HIx 1) O from
    (K (F := F)).mayWaits_none (thr := tileT d i) hO) $$ Hlv
  iapply (wp_wand_r _ _ _)
  isplitl [HI HT HL HO' B0 B1 B2 B3 B4 B5 B6 B7 B8 B9 B10 B11 B12 B13 S14 S15 S16 S17 S0 S1 HO]
  · iapply (tile_task i d iV (Memref.isWhole_whole _) tV (Memref.isWhole_whole _) lV (Memref.isWhole_whole _) oV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scoped0 cc1_scoped1
      (m (tLoc d)) (fL m d) (shr i) NN O W (m (iLoc d)) (inb_of_pre m hpre d i) NN_pos cred1 cred5 cred9 cred2 cred6 cred10 cred3 cred7 cred11 cred4 cred8 cred12)
    unfold anyBuf owesW
    isplitr; · iexact Hmw
    isplitl [HI]; · iexact HI
    isplitl [S0]; · iexact S0
    isplitl [HT]; · iexact HT
    isplitl [HL]; · iexact HL
    isplitl [HO']; · iexists _; iexact HO'
    isplitl [B0]; · iexact B0
    isplitl [B1]; · iexact B1
    isplitl [B5]; · iexact B5
    isplitl [B9]; · iexact B9
    isplitl [B2]; · iexact B2
    isplitl [B6]; · iexact B6
    isplitl [B10]; · iexact B10
    isplitl [B3]; · iexact B3
    isplitl [B7]; · iexact B7
    isplitl [B11]; · iexact B11
    isplitl [B4]; · iexact B4
    isplitl [B8]; · iexact B8
    isplitl [B12]; · iexact B12
    isplitl [S14]; · iexact S14
    isplitl [S15]; · iexact S15
    isplitl [S16]; · iexact S16
    isplitl [S17]; · iexact S17
    isplitl [B13]; · iexact B13
    isplitl [S1]; · iexact S1
    iexists W; isplitr; · ipureintro; exact fun p hp => Or.inl hp
    iexact HO
  unfold anyBuf owesW
  iintro %_ ⟨HI, S0, HT, HL, ⟨%f, %hf, HO'⟩, B0, B1, B5, B9, B2, B6, B10, B3, B7, B11, B4, B8, B12, S14, S15, S16, S17, B13, S1, HO⟩
  isplitl [HI HT HL HO']
  · isplitl [HI]; · iexact HI
    isplitl [HT]; · iexact HT
    isplitl [HL]; · iexact HL
    rw [← out_congr m d i f hf]
    iexact HO'
  isplitl [B0 B1 B2 B3 B4 B5 B6 B7 B8 B9 B10 B11 B12 B13 Hbufs]
  · isplitr [Hbufs]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      iexact B13
    iexact Hbufs
  isplitl [S14 S15 S16 S17 S0 S1 Hsems]
  · isplitr [Hsems]
    · isplitl [S14]; · iexact S14
      isplitl [S15]; · iexact S15
      isplitl [S16]; · iexact S16
      isplitl [S17]; · iexact S17
      isplitl [S0]; · iexact S0
      iexact S1
    iexact Hsems
  iexact HO

/-! ## The obligation of the call -/

theorem defs₀_vector (c : Fin τ.nSC) (s : Fin τ.nSub) :
    defs₀ (F := F) (.scVector c s) 1 ()
      = SparseCore.onTile hcore1 hsub1 (fun c s => cc1__pool_body (tileAt c s)
          (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) (Memref.whole cc1_scratch11) (Memref.isWhole_whole _) (Memref.whole cc1_scratch12) (Memref.isWhole_whole _) (Memref.whole cc1_scratch13) (Memref.isWhole_whole _) cc1_scratch14 cc1_scratch15 cc1_scratch16 cc1_scratch17 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hpre d (tileAt ⟨_, hci.1⟩ ⟨_, hci.2⟩) O W hO).trans (wp_mono frame _ _ fun _ => obl_post)

theorem vecSplit : (K (F := F)).VecSplit' (P m) 0 := by
  intro d c
  show (bigSep Finset.univ fun s : Fin ((K (F := F)).nSub 0) => goP m d (ti c s)) ⊢ |={Set.univ}=> iprop(
      (bigSep Finset.univ fun s : Fin ((K (F := F)).nSub 0) => goP m d (ti c s))
      ∗ ((bigSep Finset.univ fun s : Fin ((K (F := F)).nSub 0) => tdP m d (ti c s)) -∗ bigSep Finset.univ fun s : Fin ((K (F := F)).nSub 0) => tdP m d (ti c s)))
  iintro H; imodintro
  isplitl [H]; · iexact H
  iintro H; iexact H

end Cert.KernelIdeal.Pool

end
-- ==== Proof.KI.Deal.lean ====
/-
  The four buffers the pooling call works on, dealt to the tiles and put together again.
-/
module

public import proofs.«01_k».proof.Proof.KI.Pay
public import Idealize.ShloMosaic.Lib.Pipeline.ValueKit.Geometry

@[expose] public section

noncomputable section

namespace Cert.KernelIdeal.Pool

open Cert.KernelIdeal Cert.KernelIdeal.Gen

open Idealize.ShloMosaic Idealize.ShloMosaic.TcCoe Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

variable (m : (ℓ : Loc nD τ sig) → Buf (Elt F) ℓ)

/-! ## The rows of a tile -/

/-- The indices' elements a tile is handed. -/
abbrev iSet (d : Dev nD) (p : Fin 2 × Fin 16) : Finset (Idx (iLoc d)) := (idxRows (tileAt p.1 p.2) iV).view.set
/-- The result's elements a tile is handed. -/
abbrev oSet (d : Dev nD) (p : Fin 2 × Fin 16) : Finset (Idx (oLoc d)) := blk d (tileAt p.1 p.2) oV

theorem mem_iSet (d : Dev nD) (p : Fin 2 × Fin 16) (j : S4096x50.Idx) :
    j ∈ iSet d p ↔ 256 * p.2.val + 128 * p.1.val ≤ (j 0).val ∧ (j 0).val < 256 * p.2.val + 128 * p.1.val + 128 := by
  refine ValueKit.mem_set_slice_whole_iff main_arg0_scv _ j (Rect.mem_set_unit.trans ?_)
  have e0 : k1_off1 (tileAt p.1 p.2) 0 = 256 * p.2.val + 128 * p.1.val := congrFun (k1_off1_eq (tileAt p.1 p.2)) 0
  have e1 : k1_off1 (tileAt p.1 p.2) 1 = 0 := congrFun (k1_off1_eq (tileAt p.1 p.2)) 1
  have hj : (j 1).val < 50 := (j 1).isLt
  constructor
  · intro h
    have h0 : k1_off1 (tileAt p.1 p.2) 0 ≤ (j 0).val ∧ (j 0).val < k1_off1 (tileAt p.1 p.2) 0 + 128 := h 0
    omega
  · intro h a
    match a with
    | ⟨0, _⟩ => show k1_off1 (tileAt p.1 p.2) 0 ≤ (j 0).val ∧ (j 0).val < k1_off1 (tileAt p.1 p.2) 0 + 128; omega
    | ⟨1, _⟩ => show k1_off1 (tileAt p.1 p.2) 1 ≤ (j 1).val ∧ (j 1).val < k1_off1 (tileAt p.1 p.2) 1 + 50; omega

theorem mem_oSet (d : Dev nD) (p : Fin 2 × Fin 16) (j : S4096x304.Idx) :
    j ∈ oSet d p ↔ 256 * p.2.val + 128 * p.1.val ≤ (j 0).val ∧ (j 0).val < 256 * p.2.val + 128 * p.1.val + 128 := by
  refine ValueKit.mem_set_slice_whole_iff main_v1_scv _ j (Rect.mem_set_unit.trans ?_)
  have hj : (j 1).val < 304 := (j 1).isLt
  constructor
  · intro h; exact h 0
  · intro h a
    match a with
    | ⟨0, _⟩ => exact h
    | ⟨1, _⟩ => show 0 ≤ (j 1).val ∧ (j 1).val < 0 + 304; omega

/-- The tile, as a pair, of a row. -/
def pairOf (a : Fin 4096) : Fin 2 × Fin 16 := (⟨a.val / 128 % 2, Nat.mod_lt _ (by omega)⟩, ⟨a.val / 256, by have := a.isLt; omega⟩)

theorem pair_mem (a : Fin 4096) : 256 * (pairOf a).2.val + 128 * (pairOf a).1.val ≤ a.val ∧ a.val < 256 * (pairOf a).2.val + 128 * (pairOf a).1.val + 128 := by
  show 256 * (a.val / 256) + 128 * (a.val / 128 % 2) ≤ a.val ∧ a.val < 256 * (a.val / 256) + 128 * (a.val / 128 % 2) + 128
  omega

theorem pair_ne {p q : Fin 2 × Fin 16} (h : p ≠ q) {n : ℕ} (hp : 256 * p.2.val + 128 * p.1.val ≤ n ∧ n < 256 * p.2.val + 128 * p.1.val + 128)
    (hq : 256 * q.2.val + 128 * q.1.val ≤ n ∧ n < 256 * q.2.val + 128 * q.1.val + 128) : False := by
  have h1 := p.1.isLt; have h2 := q.1.isLt
  exact h (Prod.ext (Fin.ext (by omega)) (Fin.ext (by omega)))

/-- Elements dealt by their rows: the tiles' parts are the whole. -/
theorem rows_deal {ℓ : Loc nD τ sig} (I : Fin 2 × Fin 16 → Finset (Idx ℓ)) (row : Idx ℓ → Fin 4096)
    (hI : ∀ p j, j ∈ I p ↔ 256 * p.2.val + 128 * p.1.val ≤ (row j).val ∧ (row j).val < 256 * p.2.val + 128 * p.1.val + 128) (f : Buf (Elt F) ℓ) :
    (bigSep Finset.univ fun c : Fin 2 => bigSep Finset.univ fun s : Fin 16 => (ℓ ↦[I (c, s)]{fullShare} f : sProp 𝕄)) = (ℓ ↦{fullShare} f) := by
  rw [← bigSep_univ_prod (fun p : Fin 2 × Fin 16 => (ℓ ↦[I p]{fullShare} f : sProp 𝕄)), ← pointsTo_biUnion Finset.univ (ℓ := ℓ) I]
  · congr 1
    exact Finset.eq_univ_of_forall fun j => Finset.mem_biUnion.mpr ⟨pairOf (row j), Finset.mem_univ _, (hI _ j).mpr (pair_mem (row j))⟩
  · intro p _ q _ hpq
    exact Finset.disjoint_left.mpr fun j hp hq => pair_ne hpq ((hI p j).mp hp) ((hI q j).mp hq)

theorem idx_deal (d : Dev nD) (f : Buf (Elt F) (iLoc d)) :
    (bigSep Finset.univ fun c : Fin 2 => bigSep Finset.univ fun s : Fin 16 => (iLoc d ↦[iSet d (c, s)]{fullShare} f : sProp 𝕄))
      = (iLoc d ↦{fullShare} f) :=
  rows_deal (iSet d) (fun (j : S4096x50.Idx) => j 0) (fun p j => mem_iSet d p j) f

theorem out_deal (d : Dev nD) (f : Buf (Elt F) (oLoc d)) :
    (bigSep Finset.univ fun c : Fin 2 => bigSep Finset.univ fun s : Fin 16 => (oLoc d ↦[oSet d (c, s)]{fullShare} f : sProp 𝕄))
      = (oLoc d ↦{fullShare} f) :=
  rows_deal (oSet d) (fun (j : S4096x304.Idx) => j 0) (fun p j => mem_oSet d p j) f

/-- What all tiles read, a share to each. -/
theorem share_deal {ℓ : Loc nD τ sig} (f : Buf (Elt F) ℓ) :
    (bigSep Finset.univ fun c : Fin 2 => bigSep Finset.univ fun s : Fin 16 => (ℓ ↦{leaf 4 (leaf 1 fullShare c) s} f : sProp 𝕄))
      = (ℓ ↦{fullShare} f) := by
  rw [pointsTo_leaves Finset.univ f 1 fullShare]
  exact bigSep_congr fun c _ => (pointsTo_leaves Finset.univ f 4 _).symm

/-! ## The four buffers -/

/-- The four buffers whole, the result at given contents. -/
def whole4 (d : Dev nD) (fO : Buf (Elt F) (oLoc d)) : sProp 𝕄 :=
  iprop((iLoc d ↦{fullShare} m (iLoc d)) ∗ (tLoc d ↦{fullShare} m (tLoc d)) ∗ (lLoc d ↦{fullShare} fL m d) ∗ (oLoc d ↦{fullShare} fO))

theorem tset : (tV).view.set = Finset.univ := View.set_whole _
theorem lset : (lV).view.set = Finset.univ := View.set_whole _

theorem deal (d : Dev nD) (fO : Buf (Elt F) (oLoc d)) :
    (bigSep Finset.univ fun c : Fin 2 => bigSep Finset.univ fun s : Fin 16 => (iprop((iLoc d ↦[iSet d (c, s)]{fullShare} m (iLoc d))
      ∗ (tLoc d ↦{leaf 4 (leaf 1 fullShare c) s} m (tLoc d)) ∗ (lLoc d ↦{leaf 4 (leaf 1 fullShare c) s} fL m d)
      ∗ (oLoc d ↦[oSet d (c, s)]{fullShare} fO)) : sProp 𝕄)) = whole4 m d fO := by
  simp only [bigSep_sep']
  rw [idx_deal, share_deal, share_deal, out_deal]
  rfl

theorem st_eq (d : Dev nD) : (bigSep Finset.univ fun c : Fin ((K (F := F)).nCore 0) => (P m).st 0 d c) = whole4 m d (m (oLoc d)) := by
  refine Eq.trans ?_ (deal m d (m (oLoc d)))
  refine bigSep_congr fun c _ => ?_
  show (bigSep Finset.univ fun s : Fin ((K (F := F)).nSub 0) => goP m d (ti c s)) = _
  refine bigSep_congr fun s _ => ?_
  show goP m d _ = _
  unfold goP
  rw [tset, lset]
  rfl

theorem dn_eq (d : Dev nD) : (bigSep Finset.univ fun c : Fin ((K (F := F)).nCore 0) => (P m).dn 0 d c) = whole4 m d (pooled m d) := by
  refine Eq.trans ?_ (deal m d (pooled m d))
  refine bigSep_congr fun c _ => ?_
  show (bigSep Finset.univ fun s : Fin ((K (F := F)).nSub 0) => tdP m d (ti c s)) = _
  refine bigSep_congr fun s _ => ?_
  show tdP m d _ = _
  unfold tdP
  rw [tset, lset]
  rfl

end Cert.KernelIdeal.Pool

end
-- ==== Proof.KI.Main.lean ====
/-
  The whole program: the table's tail taken, the pooling call, the host's padding and reshaping, and the dense layers; and
  what every buffer holds at its end.
-/
module

public import proofs.«01_k».proof.Proof.KI.Deal

@[expose] public section

noncomputable section

namespace Cert.KernelIdeal.Pool

open Cert.KernelIdeal Cert.KernelIdeal.Gen

open Idealize.ShloMosaic Idealize.ShloMosaic.TcCoe Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

open Idealize.ShloMosaic.StableHlo (held)

variable (m : (ℓ : Loc nD τ sig) → Buf (Elt F) ℓ) (ρ : Dev nD → PrngReg)

/-! ## The buffers along the program -/

abbrev r (b : Ref sig .tc) : DevRef τ sig := Proc.devRef .tc b

abbrev opC : HloOp τ sig (Elt F) := StableHlo.nullary main_c (constantI S_ 32 0#32)
abbrev opS : HloOp τ sig (Elt F) := StableHlo.TRef.unary (.of main_c) main_call0.v0 (sitofp .f32)
abbrev opP : HloOp τ sig (Elt F) :=
  StableHlo.TRef.binary (.of main_arg2 : StableHlo.TRef sig ⟨S300x128, .f32⟩) main_call0.v0 main_call0.v1 (fun x v => pad S304x128 ![0, 0] ![4, 0] ![0, 0] x v pads_S300x128_S304x128_040_000 h_S_)
abbrev op3 : HloOp τ sig (Elt F) := StableHlo.reshape main_arg3 main_v3 (rfl : (.f32 : EltTy) = .f32) shapeCasts_S128_S1x128
abbrev op4 : HloOp τ sig (Elt F) := StableHlo.reshape main_arg5 main_v4 (rfl : (.f32 : EltTy) = .f32) shapeCasts_S64_S1x64
abbrev op5 : HloOp τ sig (Elt F) := StableHlo.reshape main_arg7 main_v5 (rfl : (.f32 : EltTy) = .f32) shapeCasts_S16_S1x16
abbrev op6 : HloOp τ sig (Elt F) := StableHlo.reshape main_arg9 main_v6 (rfl : (.f32 : EltTy) = .f32) shapeCasts_S1_S1x1

/-- As launched. -/
def W0 (c : Dev nD) : Valuation τ sig (Elt F) := fun b => m (c, b)
/-- After the first call, made on device `d`. -/
def W1 (d c : Dev nD) : Valuation τ sig (Elt F) := Function.update (W0 m c) (r main_v0) (Tail.out ((K (F := F)).Otc d 0) 0 (V0 m) c)
/-- After the pooling call. -/
def W2 (c : Dev nD) : Valuation τ sig (Elt F) := Function.update (W1 m c c) (r main_v1) (pooled m c)
/-- After the host's operations. -/
def W3 (c : Dev nD) : Valuation τ sig (Elt F) :=
  op6.result (op5.result (op4.result (op3.result (opP.result (opS.result (opC.result (W2 m c)))))))
/-- The buffers the last call finds. -/
def V3 (c : Dev nD) (b : Ref sig .tc) : Buf (Elt F) ((c : Thread nD τ).loc b) := W3 m c (r b)
/-- After the last call, made on device `d`. -/
def W4 (d c : Dev nD) : Valuation τ sig (Elt F) := Function.update (W3 m c) (r main_v7) (Mlp.out ((K (F := F)).Otc d 1) 8 (V3 m) c)

theorem r_ne {a b : Ref sig .tc} (h : a ≠ b) : r a ≠ r b := fun e => h (Proc.devRef_injective _ e)

/-- What the host's operations write. -/
def hostOuts : Finset (DevRef τ sig) := {r main_c, r main_call0_v0, r main_v2, r main_v3, r main_v4, r main_v5, r main_v6}

theorem W3_of_not_mem (c : Dev nD) (b : DevRef τ sig) (h : b ∉ hostOuts) : W3 m c b = W2 m c b := by
  simp only [hostOuts, Finset.mem_insert, Finset.mem_singleton, not_or] at h
  obtain ⟨h1, h2, h3, h4, h5, h6, h7⟩ := h
  unfold W3
  rw [op6.result_of_not_mem _ (show b ∉ ({r main_v6} : Finset (DevRef τ sig)) from fun e => h7 (Finset.mem_singleton.mp e)),
    op5.result_of_not_mem _ (show b ∉ ({r main_v5} : Finset (DevRef τ sig)) from fun e => h6 (Finset.mem_singleton.mp e)),
    op4.result_of_not_mem _ (show b ∉ ({r main_v4} : Finset (DevRef τ sig)) from fun e => h5 (Finset.mem_singleton.mp e)),
    op3.result_of_not_mem _ (show b ∉ ({r main_v3} : Finset (DevRef τ sig)) from fun e => h4 (Finset.mem_singleton.mp e)),
    opP.result_of_not_mem _ (show b ∉ ({r main_v2} : Finset (DevRef τ sig)) from fun e => h3 (Finset.mem_singleton.mp e)),
    opS.result_of_not_mem _ (show b ∉ ({r main_call0_v0} : Finset (DevRef τ sig)) from fun e => h2 (Finset.mem_singleton.mp e)),
    opC.result_of_not_mem _ (show b ∉ ({r main_c} : Finset (DevRef τ sig)) from fun e => h1 (Finset.mem_singleton.mp e))]

/-- What the program writes. -/
def outs : Finset (DevRef τ sig) := {r main_v7, r main_v1, r main_v0} ∪ hostOuts

theorem W4_of_not_mem (d c : Dev nD) (b : DevRef τ sig) (h : b ∉ outs) : W4 m d c b = m (c, b) := by
  simp only [outs, Finset.mem_union, Finset.mem_insert, Finset.mem_singleton, not_or] at h
  obtain ⟨⟨h7, h1, h0⟩, hh⟩ := h
  unfold W4
  rw [Function.update_of_ne h7, W3_of_not_mem m c b hh]
  unfold W2
  rw [Function.update_of_ne h1]
  unfold W1
  rw [Function.update_of_ne h0]
  rfl

theorem W4_arg (d c : Dev nD) (b : Ref sig .tc) (h : r b ∉ outs) : W4 m d c (r b) = m ((c.tc : Thread nD τ).loc b) := W4_of_not_mem m d c (r b) h

/-! ## A region of the program -/

/-- The pipelines' rounds among the resources. -/
abbrev EP : Emb (URounds (GSem nD τ sig) Unit) (MM F) := (Emb.inl : Emb (URounds (GSem nD τ sig) Unit) (URounds (GSem nD τ sig) Unit × Counters)).trans embR

section Region

variable [∀ e, Nonempty (Elt F e)]

theorem region_run {p : Fin 2} {pdats : (p : Fin 2) → (c : Dev nD) → Pipeline.Dat τ (Elt F) (HIx 1) ℕ UU ℕ (Pipeline.pin (pcfgs (F := F)) adm p) c}
    (R : Pipeline.RegionSeg (pcfgs (F := F)) adm pdats (none : HIx 1) defs₀ 𝒱₀ (K (F := F)).L (K (F := F)).lev p) (d : Dev nD) (Φ : PUnit → sProp 𝕄) :
    iprop(boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d
        ∗ ((boundary (SparseCore.T d) ∗ R.post d) -∗ Φ ⟨⟩))
      ⊢ wp frame (wpE ((K (F := F)).defs (D (F := F))) 𝒱 (SparseCore.T d) none) Set.univ
          (Prog.lift (.customCall (SparseCore.inner (Pipeline.entry p)) ())) Φ := by
  iintro ⟨Hb, Hpre, Hlev, Hg, Ht, Hk⟩
  iapply ((K (F := F)).wp_liftProg (D (F := F)) 𝒱 (SparseCore.T d) Set.univ none (.op (.customCall (Pipeline.entry p) ()) .ret) Φ)
  iapply (Pipeline.RegionSeg.wp (pcfgs (F := F)) adm pdats (none : HIx 1) cellOf_inj EP defs₀ 𝒱₀ (K (F := F)).L (K (F := F)).lev R d
    none (fun _ h => nomatch h) .ret Φ)
  isplitl [Hk]
  · iintro H
    rw [wp_ret]; imodintro
    iapply Hk; iexact H
  isplitl [Hb]; · iexact Hb
  isplitl [Hpre]; · iexact Hpre
  isplitl [Hlev]; · iexact Hlev
  isplitl [Hg]; · iexact Hg
  iexact Ht

theorem Otc_none (d : Dev nD) (n : ℕ) (g : GSem nD τ sig) : (K (F := F)).Otc d n g none = 0 := by
  by_contra h
  have h1 := (K (F := F)).lev_of_Otc_pos (Nat.pos_of_ne_zero h)
  rw [(K (F := F)).lev_none] at h1
  omega

end Region

/-! ## The four buffers of the pooling call among the rest -/

/-- The pooling call's buffers. -/
def four : Finset (DevRef τ sig) := {r main_arg0, r main_arg1, r main_v0, r main_v1}

theorem four_sub : four ⊆ Pipeline.ucRefs τ sig := by
  intro b hb
  have key : ∀ a : Ref sig .tc, ¬ (r a).isScoped → r a ∈ Pipeline.ucRefs τ sig := fun a h => Finset.mem_filter.mpr ⟨StableHlo.devRef_mem_tcRefs a, h⟩
  simp only [four, Finset.mem_insert, Finset.mem_singleton] at hb
  rcases hb with rfl | rfl | rfl | rfl <;> exact key _ (by decide)

theorem held_four (d : Dev nD) (W : Valuation τ sig (Elt F)) :
    (held (SparseCore.T d) four W : sProp 𝕄)
      = iprop((iLoc d ↦{fullShare} W (r main_arg0)) ∗ (tLoc d ↦{fullShare} W (r main_arg1)) ∗ (lLoc d ↦{fullShare} W (r main_v0)) ∗ (oLoc d ↦{fullShare} W (r main_v1))) := by
  unfold held four
  rw [SparseCore.bigSep_insert' (by decide), SparseCore.bigSep_insert' (by decide), SparseCore.bigSep_insert' (by decide), bigSep_singleton]

theorem held_W1 (d : Dev nD) : (held (SparseCore.T d) four (W1 m d d) : sProp 𝕄) = whole4 m d (m (oLoc d)) := by
  rw [held_four]
  unfold W1 whole4
  rw [Function.update_of_ne (r_ne (show main_arg0 ≠ main_v0 by decide)), Function.update_of_ne (r_ne (show main_arg1 ≠ main_v0 by decide)),
    Function.update_self, Function.update_of_ne (r_ne (show main_v1 ≠ main_v0 by decide))]
  rfl

theorem held_W2 (d : Dev nD) : (held (SparseCore.T d) four (W2 m d) : sProp 𝕄) = whole4 m d (pooled m d) := by
  rw [held_four]
  unfold W2 W1 whole4
  rw [Function.update_of_ne (r_ne (show main_arg0 ≠ main_v1 by decide)), Function.update_of_ne (r_ne (show main_arg1 ≠ main_v1 by decide)),
    Function.update_of_ne (r_ne (show main_v0 ≠ main_v1 by decide)), Function.update_self,
    Function.update_of_ne (r_ne (show main_arg0 ≠ main_v0 by decide)), Function.update_of_ne (r_ne (show main_arg1 ≠ main_v0 by decide)),
    Function.update_self]
  rfl

theorem held_rest (d : Dev nD) :
    (held (SparseCore.T d) (Pipeline.ucRefs τ sig \ four) (W1 m d d) : sProp 𝕄) = held (SparseCore.T d) (Pipeline.ucRefs τ sig \ four) (W2 m d) := by
  refine StableHlo.held_congr _ fun b hb => ?_
  have hb : b ≠ r main_v1 := fun e => (Finset.mem_sdiff.mp hb).2 (e ▸ show r main_v1 ∈ four by decide)
  unfold W2
  rw [Function.update_of_ne hb]

/-! ## The launch's resources -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What a device's TensorCore holds for its two regions. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀ G
  iintro Hu
  ihave H := (ownU_pair _ _) $$ Hu
  icases H with ⟨HH, HR⟩
  ihave HR := (own_pair_emb embR _ _) $$ HR
  icases HR with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## The program on the TensorCore -/

section Main

variable [∀ e, Nonempty (Elt F e)]

/-- What the program leaves: every buffer at its final contents. -/
abbrev FIN (d : Dev nD) : sProp 𝕄 := held (SparseCore.T d) (Pipeline.ucRefs τ sig) (W4 m d d)

/-- The first call's region. -/
def reg0 (d : Dev nD) := Tail.reg ((K (F := F)).Otc d 0) 0 (V0 m) (fun c b => W1 m d c (r b)) (Otc_none d 0)
  (fun c => Function.update_self (r main_v0) _ _) (fun c b h => Function.update_of_ne (r_ne h) _ _)

/-- The last call's region. -/
def reg1 (d : Dev nD) := Mlp.reg ((K (F := F)).Otc d 1) 8 (V3 m) (fun c b => W4 m d c (r b)) (Otc_none d 1)
  (fun c => Function.update_self (r main_v7) _ _) (fun c b h => Function.update_of_ne (r_ne h) _ _)

theorem held_W3 (d : Dev nD) :
    (held (SparseCore.T d) (Pipeline.ucRefs τ sig)
      ((op6 (F := F)).result ((op5 (F := F)).result ((op4 (F := F)).result ((op3 (F := F)).result ((opP (F := F)).result
        ((opS (F := F)).result ((opC (F := F)).result (W2 m d)))))))) : sProp 𝕄) = unscopedBufs d (V3 m d) :=
  (Pipeline.unscopedBufs_held d (W3 m d)).symm

theorem run0 (d : Dev nD) (Φ : PUnit → sProp 𝕄) :
    iprop(boundary (SparseCore.T d) ∗ (unscopedBufs d (V0 m d) ∗ owesLe d ((K (F := F)).Otc d 0) 0) ∗ levAts (K (F := F)).L (K (F := F)).lev
        ∗ Pipeline.cellsGhost (Pipeline.pin (pcfgs (F := F)) adm) EP 0 d ∗ Pipeline.toksInit (Pipeline.pin (pcfgs (F := F)) adm) EP 0 d
        ∗ ((boundary (SparseCore.T d) ∗ (unscopedBufs d (fun b => W1 m d d (r b)) ∗ owesLe d ((K (F := F)).Otc d 0) 0)) -∗ Φ ⟨⟩))
      ⊢ wp frame (wpE ((K (F := F)).defs (D (F := F))) 𝒱 (SparseCore.T d) none) Set.univ
          (Prog.lift (.customCall (SparseCore.inner (Pipeline.entry 0)) ())) Φ :=
  region_run (reg0 m d) d Φ

theorem run1 (d : Dev nD) (Φ : PUnit → sProp 𝕄) :
    iprop(boundary (SparseCore.T d) ∗ (unscopedBufs d (V3 m d) ∗ owesLe d ((K (F := F)).Otc d 1) 8) ∗ levAts (K (F := F)).L (K (F := F)).lev
        ∗ Pipeline.cellsGhost (Pipeline.pin (pcfgs (F := F)) adm) EP 1 d ∗ Pipeline.toksInit (Pipeline.pin (pcfgs (F := F)) adm) EP 1 d
        ∗ ((boundary (SparseCore.T d) ∗ (unscopedBufs d (fun b => W4 m d d (r b)) ∗ owesLe d ((K (F := F)).Otc d 1) 8)) -∗ Φ ⟨⟩))
      ⊢ wp frame (wpE ((K (F := F)).defs (D (F := F))) 𝒱 (SparseCore.T d) none) Set.univ
          (Prog.lift (.customCall (SparseCore.inner (Pipeline.entry 1)) ())) Φ :=
  region_run (reg1 m d) d Φ

set_option maxRecDepth 16384 in
set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  simp only [main, fn_pad.body, wp_bind, wp_pure]
  rw [bigSep_W0, bigSep_W0]
  iintro ⟨#Hctx, Hst, ⟨Hb, Hub, Hts, -⟩, ⟨Hg0, Hg1⟩, Ht0, Ht1⟩
  ihave #Hlev := (SparseCore.Cfg.ctx_levAts (K := K (F := F)) (EH := EH) (P := P m) κ) $$ Hctx
  unfold SparseCore.Cfg.tcSt
  icases Hst with ⟨HO, Hst⟩
  iapply (run0 m d _)
  isplitl [Hb]; · iexact Hb
  isplitl [Hub HO]
  · isplitl [Hub]; · iexact Hub
    iexact HO
  isplitr; · iexact Hlev
  isplitl [Hg0]; · iexact Hg0
  isplitl [Ht0]; · iexact Ht0
  iintro ⟨Hb, Hub, HO⟩
  ihave Hh := (Entails.of_eq (Pipeline.unscopedBufs_held d (W1 m d d))) $$ Hub
  ihave Hh := (Entails.of_eq (StableHlo.held_sub_split (SparseCore.T d) four_sub (W1 m d d))) $$ Hh
  icases Hh with ⟨H4, Hrest⟩
  iapply ((K (F := F)).wp_run (D (F := F)) 𝒱 (EH := EH) (P := P m) κ d 0) $$ [Hst HO H4 Hrest Hb Hts Hg1 Ht1]
  isplitr; · iexact Hctx
  isplitl [Hst HO]
  · unfold SparseCore.Cfg.tcSt
    isplitl [HO]; · iexact HO
    iexact Hst
  isplitl [H4]
  · rw [st_eq, ← held_W1]; iexact H4
  iintro ⟨Hst, Hdn⟩
  ihave H4 := (Entails.of_eq ((dn_eq m d).trans (held_W2 m d).symm)) $$ Hdn
  ihave Hrest := (Entails.of_eq (held_rest m d)) $$ Hrest
  ihave Hh := (Entails.of_eq (StableHlo.held_sub_split (SparseCore.T d) four_sub (W2 m d)).symm) $$ [H4 Hrest]
  · isplitl [H4]; · iexact H4
    iexact Hrest
  iapply (StableHlo.wp_hlo_within 𝒱 (SparseCore.T d) none Set.univ (op := opC) (Pipeline.sub_ucRefs _ (StableHlo.nullary_bufs_sub ..)) (V := W2 m d)) $$ [Hb Hh]
  · isplitl [Hb] <;> iassumption
  iintro ⟨Hb, Hh⟩; rw [wp_ret]; imodintro
  iapply (StableHlo.wp_hlo_within 𝒱 (SparseCore.T d) none Set.univ (op := opS) (Pipeline.sub_ucRefs _ (StableHlo.unary_bufs_sub ..))) $$ [Hb Hh]
  · isplitl [Hb] <;> iassumption
  iintro ⟨Hb, Hh⟩; rw [wp_ret]; imodintro
  iapply (StableHlo.wp_hlo_within 𝒱 (SparseCore.T d) none Set.univ (op := opP) (Pipeline.sub_ucRefs _ (StableHlo.binary_bufs_sub ..))) $$ [Hb Hh]
  · isplitl [Hb] <;> iassumption
  iintro ⟨Hb, Hh⟩; rw [wp_ret]; imodintro
  imodintro
  iapply (StableHlo.wp_hlo_within 𝒱 (SparseCore.T d) none Set.univ (op := op3) (Pipeline.sub_ucRefs _ (StableHlo.reshape_bufs_sub ..))) $$ [Hb Hh]
  · isplitl [Hb] <;> iassumption
  iintro ⟨Hb, Hh⟩; rw [wp_ret]; imodintro
  iapply (StableHlo.wp_hlo_within 𝒱 (SparseCore.T d) none Set.univ (op := op4) (Pipeline.sub_ucRefs _ (StableHlo.reshape_bufs_sub ..))) $$ [Hb Hh]
  · isplitl [Hb] <;> iassumption
  iintro ⟨Hb, Hh⟩; rw [wp_ret]; imodintro
  iapply (StableHlo.wp_hlo_within 𝒱 (SparseCore.T d) none Set.univ (op := op5) (Pipeline.sub_ucRefs _ (StableHlo.reshape_bufs_sub ..))) $$ [Hb Hh]
  · isplitl [Hb] <;> iassumption
  iintro ⟨Hb, Hh⟩; rw [wp_ret]; imodintro
  iapply (StableHlo.wp_hlo_within 𝒱 (SparseCore.T d) none Set.univ (op := op6) (Pipeline.sub_ucRefs _ (StableHlo.reshape_bufs_sub ..))) $$ [Hb Hh]
  · isplitl [Hb] <;> iassumption
  iintro ⟨Hb, Hh⟩; rw [wp_ret]; imodintro
  ihave Hub := (Entails.of_eq (held_W3 m d)) $$ Hh
  unfold SparseCore.Cfg.tcSt
  icases Hst with ⟨HO, Hst⟩
  iapply (run1 m d _)
  isplitl [Hb]; · iexact Hb
  isplitl [Hub HO]
  · isplitl [Hub]; · iexact Hub
    iexact HO
  isplitr; · iexact Hlev
  isplitl [Hg1]; · iexact Hg1
  isplitl [Ht1]; · iexact Ht1
  iintro ⟨Hb, Hub, HO⟩
  ihave Hh := (Entails.of_eq (Pipeline.unscopedBufs_held d (W4 m d d))) $$ Hub
  imodintro
  isplitl [HO Hst]
  · isplitl [HO]; · iexact HO
    iexact Hst
  isplitl [Hh]; · iexact Hh
  isplitl [Hb] <;> iassumption

def fq (d : Dev nD) (s' : Phys nD τ sig (Elt F)) : Prop := ∀ b ∈ Pipeline.ucRefs τ sig, s'.mem.mem (d, b) = W4 m d d b

theorem hfin (d : Dev nD) (s' : Phys nD τ sig (Elt F)) : iprop(FIN m d ∗ SI s') ⊢ (⌜fq m d s'⌝ : sProp 𝕄) := by
  have key : ∀ b ∈ Pipeline.ucRefs τ sig, iprop(FIN m d ∗ SI s') ⊢ (⌜s'.mem.mem (d, b) = W4 m d d b⌝ : sProp 𝕄) := by
    intro b hb
    have e : (FIN m d : sProp 𝕄) ⊢ ((d, b) : Loc nD τ sig) ↦{fullShare} W4 m d d b :=
      bigSep_elim (Φ := fun b => (((SparseCore.T d).1, b) ↦{fullShare} W4 m d d b : sProp 𝕄)) hb
    iintro ⟨H, HSI⟩
    ihave H := e $$ H
    ihave H := (SI_pointsTo_agree (st := s') (ℓ := (d, b)) (I := Finset.univ) (q := fullShare) (f := W4 m d d b)) $$ [HSI H]
    · isplitl [HSI] <;> iassumption
    icases H with %h
    ipureintro; exact funext fun i => h i (Finset.mem_univ i)
  refine BIBase.Entails.trans (forall_intro fun b => ?_) (pure_forall (φ := fun b => b ∈ Pipeline.ucRefs τ sig → s'.mem.mem (d, b) = W4 m d d b)).mpr
  by_cases hb : b ∈ Pipeline.ucRefs τ sig
  · exact (key b hb).trans (Laws.pure_mono fun h _ => h)
  · exact BIClass.pure_intro fun h => absurd h hb

/-! ## The program's run -/

def QC : PUnit × MemSt nD τ sig (Elt F) → Prop :=
  fun r => (∀ c : Dev nD, ∀ b ∈ Pipeline.ucRefs τ sig, r.2.mem (c, b) = W4 m c c b) ∧ r.2.sem = fun _ => 0

theorem run_main (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

/-- A buffer's final contents, read off the run. -/
theorem QC_at {m : (ℓ : Loc nD τ sig) → Buf (Elt F) ℓ} {x : PUnit × MemSt nD τ sig (Elt F)} (h : QC m x) (c : Dev nD) (b : Ref sig .tc) (hb : ¬ (r b).isScoped) :
    x.2.mem ((c.tc : Thread nD τ).loc b) = W4 m c c (r b) :=
  h.1 c (r b) (Finset.mem_filter.mpr ⟨StableHlo.devRef_mem_tcRefs b, hb⟩)

/-- An argument's, which are its contents at launch. -/
theorem QC_arg {m : (ℓ : Loc nD τ sig) → Buf (Elt F) ℓ} {x : PUnit × MemSt nD τ sig (Elt F)} (h : QC m x) (c : Dev nD) (b : Ref sig .tc) (hb : ¬ (r b).isScoped)
    (hn : r b ∉ outs) : x.2.mem ((c.tc : Thread nD τ).loc b) = m ((c.tc : Thread nD τ).loc b) :=
  (QC_at h c b hb).trans (W4_arg m c c b hn)

end Main

end Cert.KernelIdeal.Pool

end
-- ==== Proof.KI.Frame.lean ====
/-
  The kernel over the extended reals: from a memory whose indices are rows of the table it runs to its end, leaves its
  arguments as they were, and every semaphore at zero.
-/
module

public import proofs.«01_k».proof.Defs
public import proofs.«01_k».proof.Proof.KI.Main
public import proofs.«01_k».proof.Proof.Gen.Pre_in_vocab
public import proofs.«01_k».proof.Proof.Index

@[expose] public section

noncomputable section

namespace Cert.KernelIdeal.Pool

open Cert.KernelIdeal Cert.KernelIdeal.Gen
open Idealize.ShloMosaic Idealize.ShloMosaic.TcCoe Idealize.SL.Sem

/-- The precondition, read as a bound on every index. -/
theorem ok_of_pre (m : (ℓ : Loc nD τ sig) → Buf (Elt Ideal) ℓ) (h : Cert.Pre_KernelIdeal m) : PreOK (F := Ideal) m := by
  intro d j
  have e := congrFun (h d) j
  simp only [Pre_in_vocab.fn, andi, cmpi, broadcastInDim, constantI] at e
  exact Index.lt_of_checks _ e

theorem frame : Cert.quiescent_KernelIdeal := fun m ρ hpre =>
  (θ_run Cert.KernelIdeal.defs _ _).mono (fun _ h => ⟨fun c => ⟨QC_arg h c main_arg0 (by decide) (by decide),
    QC_arg h c main_arg1 (by decide) (by decide),
    QC_arg h c main_arg2 (by decide) (by decide),
    QC_arg h c main_arg3 (by decide) (by decide),
    QC_arg h c main_arg4 (by decide) (by decide),
    QC_arg h c main_arg5 (by decide) (by decide),
    QC_arg h c main_arg6 (by decide) (by decide),
    QC_arg h c main_arg7 (by decide) (by decide),
    QC_arg h c main_arg8 (by decide) (by decide),
    QC_arg h c main_arg9 (by decide) (by decide)⟩, h.2⟩)
    (run_main (F := Ideal) m ρ (ok_of_pre m hpre))

end Cert.KernelIdeal.Pool

end
-- ==== Proof.Claims.lean ====
/-
  The reference's runs, and what the kernel's reading over the extended reals keeps of the kernel.
-/
module

public import proofs.«01_k».proof.Defs
public import proofs.«01_k».proof.Proof.KI.Frame
public import proofs.«01_k».proof.Proof.Gen.ReferenceIdeal.Run
public import Idealize.ShloMosaic.Lib.Quiescent

@[expose] public section

noncomputable section

namespace Cert.Proof.Claims

open Idealize.ShloMosaic Idealize.ShloMosaic.TcCoe Idealize.SL.Sem
open Cert.ReferenceIdeal.Gen

/-- The reference runs to its end from any memory, and leaves its arguments as they were. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_in_vocab := fun m ρ _ => frame_ri m ρ trivial

/-- The one constant named: a fiftieth. -/
theorem preserves : Cert.preserves_Kernel_KernelIdeal :=
  IdealRules.named_const.statement Cert.KernelIdeal.κ "inv_len" .f32 0x3CA3D70A#32 ((50⁻¹ : ℝ) : EReal) rfl

end Cert.Proof.Claims

end
-- ==== Proof.Alg.Tail.lean ====
/-
  The table's tail, as the first kernel leaves it: the table's last 44 columns, then zeros.
-/
module

public import proofs.«01_k».proof.Proof.KI.Regions
public import Idealize.ShloMosaic.Lib.Pointwise

@[expose] public section

noncomputable section

namespace Cert.KernelIdeal.Pool.Tail

open Cert.KernelIdeal Cert.KernelIdeal.Gen
open Idealize.ShloMosaic Idealize.ShloMosaic.TcCoe
open Idealize.ShloMosaic.SparseCore.Cfg (HIx)

/-- The tail of a table. -/
def tailOf (T : (⟨2, ![1000000, 300]⟩ : Shape).Idx → EReal) : (⟨2, ![1000000, 128]⟩ : Shape).Idx → EReal := fun x =>
  if h : (x 1).val < 44 then T (ix2 (x 0 : Fin 1000000) ⟨256 + (x 1).val, by omega⟩) else 0

set_option maxRecDepth 16384 in
/-- What the kernel computes of its argument, at an index. -/
theorem pay_apply (X : S4000x128.Idx → Ideal .f32) (x : S4000x128.Idx) :
    k0_pay1 (F := Ideal) X x = if (x 1).val < 44 then X x else (0 : EReal) := by
  unfold k0_pay1
  by_cases h : (x 1).val < 44
  · rw [if_pos h]
    pointwise
    rw [dif_pos h]
  · rw [if_neg h]
    pointwise
    rw [dif_neg h]

theorem coords_val : ∀ t : Fin grid0.N, (grid0.coords t 0).val = t.val := by decide +kernel

variable (O : CellTallies nD τ sig (HIx 1)) (b : ℕ)
variable (V : (c : Dev nD) → (b : Ref sig .tc) → Buf (Elt Ideal) ((c : Thread nD τ).loc b))

theorem tr0 (t : Fin grid0.N) : cc0_transform_0 (grid0.coords t) 0 = t.val := by
  have hi : (grid0.coords t 0).val < 250 := (grid0.coords t 0).isLt
  show (BitVec.ofNat 32 (grid0.coords t 0).val).toNat = _
  rw [BitVec.toNat_ofNat, ← coords_val t]; omega

theorem tr1 (t : Fin grid0.N) : cc0_transform_1 (grid0.coords t) 0 = t.val := by
  have hi : (grid0.coords t 0).val < 250 := (grid0.coords t 0).isLt
  show (BitVec.ofNat 32 (grid0.coords t 0).val).toNat = _
  rw [BitVec.toNat_ofNat, ← coords_val t]; omega

theorem stg_apply (c : Dev nD) (t : Fin grid0.N) (x : S4000x128.Idx) (h : (x 1).val < 44) (r : Fin 1000000) (hr : r.val = t.val * 4000 + (x 0).val) :
    stg V c t x = V c main_arg1 (ix2 r ⟨256 + (x 1).val, by omega⟩) := by
  unfold stg Pipeline.Window.fill
  rw [dif_pos (moved_of_lt _ x h)]
  rw [View.read_apply]
  refine (cast_eq _ _).trans (congrArg (V c main_arg1) (funext fun a => Fin.ext ?_))
  match a with
  | ⟨0, _⟩ =>
    show cc0_transform_0 (grid0.coords t) 0 * 4000 + 1 * (x 0).val = r.val
    rw [tr0, hr]; omega
  | ⟨1, _⟩ =>
    show 2 * 128 + 1 * (x 1).val = 256 + (x 1).val
    omega

theorem emb0 (t : Fin grid0.N) (x : S4000x128.Idx) : (((cfg0.win 1).blk t).view.emb x 0).val = t.val * 4000 + (x 0).val := by
  show cc0_transform_1 (grid0.coords t) 0 * 4000 + 1 * (x 0).val = _
  rw [tr1]; omega

theorem emb1 (t : Fin grid0.N) (x : S4000x128.Idx) : (((cfg0.win 1).blk t).view.emb x 1).val = (x 1).val := by
  show 0 * 128 + 1 * (x 1).val = _
  omega

theorem out_eq (c : Dev nD) : out O b V c = tailOf (V c main_arg1) := by
  unfold out
  refine (dat O b V c).arrAt_eq_of_cover 1 (tailOf (V c main_arg1)) (fun t _ => funext fun x => ?_) fun i => ?_
  · have e0 := emb0 t x
    have e1 := emb1 t x
    rw [View.read_apply]
    refine Eq.trans ?_ (cast_eq _ _).symm
    refine (pay_apply (stg V c t) x).trans ?_
    unfold tailOf
    by_cases h : (x 1).val < 44
    · rw [if_pos h, dif_pos (e1.trans_lt h), stg_apply V c t x h _ e0]
      refine congrArg (V c main_arg1) (congrArg (ix2 _) (Fin.ext ?_))
      show 256 + (x 1).val = 256 + _
      rw [e1]
    · rw [if_neg h, dif_neg (fun h' => h (e1.symm.trans_lt h'))]
  · have hi0 : (i 0).val < 1000000 := (i 0).isLt
    have hi1 : (i 1).val < 128 := (i 1).isLt
    have ht : (i 0).val / 4000 < grid0.N := by rw [N_0]; omega
    obtain ⟨t, ht⟩ : ∃ t : Fin grid0.N, t.val = (i 0).val / 4000 := ⟨⟨_, ht⟩, rfl⟩
    refine ⟨t, flush0_1 t, ?_⟩
    have hm := ((cfg0.win 1).blk t).view.emb_mem_set (ix2 (⟨(i 0).val % 4000, by omega⟩ : Fin 4000) (⟨(i 1).val, hi1⟩ : Fin 128))
    have e : ((cfg0.win 1).blk t).view.emb (ix2 (⟨(i 0).val % 4000, by omega⟩ : Fin 4000) (⟨(i 1).val, hi1⟩ : Fin 128)) = i := funext fun a => Fin.ext (by
      match a with
      | ⟨0, _⟩ =>
        refine (emb0 t _).trans ?_
        show t.val * 4000 + (i 0).val % 4000 = (i 0).val
        omega
      | ⟨1, _⟩ => exact (emb1 t _).trans rfl)
    rw [e] at hm
    exact hm

end Cert.KernelIdeal.Pool.Tail

end
-- ==== Proof.Alg.Consts.lean ====
/-
  The real number the reference divides by, a bag's length.
-/
module

public import Idealize.ShloMosaic.PureOps.Ideal

@[expose] public section

noncomputable section

namespace Cert.Alg

open Idealize.ShloMosaic

theorem ofBits_50 : Ideal.ofBits .f32 0x42480000#32 = ((50 : ℝ) : EReal) := by
  simp [Ideal.ofBits, Ideal.ieee, -EReal.coe_mul]; norm_num

end Cert.Alg

end
-- ==== Proof.Alg.Mean.lean ====
/-
  The reference's mean of the rows a bag names: where every index is a row of the table, none is wrapped or masked, and
  the mean is the rows' sum times a fiftieth.
-/
module

public import proofs.«01_k».proof.Proof.Gen.ReferenceIdeal
public import proofs.«01_k».proof.Proof.Alg.Consts
public import Idealize.ShloMosaic.Lib.Pointwise

@[expose] public section

noncomputable section

namespace Cert.Alg

open Cert.ReferenceIdeal Cert.ReferenceIdeal.Gen
open Idealize.ShloMosaic

/-- The mean of the rows a bag names, at a column. -/
def meanAt (T : (⟨2, ![1000000, 300]⟩ : Shape).Idx → EReal) (I : (⟨2, ![4096, 50]⟩ : Shape).Idx → BitVec 32) (b : Fin 4096) (j : Fin 300) : EReal :=
  (∑ k : Fin 50, T (ix2 (Fin.ofNat 1000000 (I (ix2 b k)).toNat) j)) * ((50⁻¹ : ℝ) : EReal)

/-- A conjunction of bits that are all set. -/
theorem and_all {α : Type} (l : List α) (f : α → BitVec 1) (h : ∀ a, f a = 1#1) :
    l.foldl (fun r a => IntOp.andi r (f a)) 1#1 = 1#1 := by
  induction l with
  | nil => rfl
  | cons a l ih => rw [List.foldl_cons, h a]; exact ih

variable (T : FVec Ideal S1000000x300 .f32) (I : IVec S4096x50 32)

/-- The indices, those below 0 counted from the end. -/
def wrapped : IVec S4096x50x1 32 :=
  broadcastInDim S4096x50x1 ![0, 1] bcast_S4096x50_S4096x50x1_0_1 (select (cmpi .slt I (broadcastInDim S4096x50 ![] bcast_S_S4096x50 (constantI S_ 32 0#32)))
    (addi I (broadcastInDim S4096x50 ![] bcast_S_S4096x50 (constantI S_ 32 1000000#32))) I)

/-- The rows the indices name, with a bit pattern that is no number where an index is outside the table. -/
def rows : FVec Ideal S4096x50x300 .f32 :=
  select (broadcastInDim S4096x50x300 ![0, 1] bcast_S4096x50_S4096x50x300_0_1
      (Host.reduce IntOp.andi (andi (cmpi .sge (wrapped I) (broadcastInDim S4096x50x1 ![] bcast_S_S4096x50x1 (constantI S_ 32 0#32)))
        (cmpi .sle (wrapped I) (broadcastInDim S4096x50x1 ![0, 1, 2] bcast_S1x1x1_S4096x50x1_0_1_2 (broadcastInDim S1x1x1 ![2] bcast_S1_S1x1x1_2 (constantI S1 32 999999#32)))))
        (constantI S_ 1 1#1) reducesTo_S4096x50x1_S4096x50_d2 h_S_))
    (Host.gather gather_S1000000x300_S4096x50x1_S4096x50x300_2_0_n_n_0_2_1300 T (wrapped I))
    (broadcastInDim S4096x50x300 ![] bcast_S_S4096x50x300 (constant S_ .f32 0x7FC00000#32))

def mean : FVec Ideal S4096x300 .f32 :=
  Host.divf (Host.reduceAdd (rows T I) (constant S_ .f32 0x00000000#32) reducesTo_S4096x50x300_S4096x300_d1 h_S_)
    (broadcastInDim S4096x300 ![] bcast_S_S4096x300 (constant S_ .f32 0x42480000#32))

/-- The reference's layers, of the mean rows. -/
def layers (X : FVec Ideal S4096x300 .f32) (W1 : FVec Ideal S300x128 .f32) (b1 : FVec Ideal S128 .f32) (W2 : FVec Ideal S128x64 .f32) (b2 : FVec Ideal S64 .f32)
    (W3 : FVec Ideal S64x16 .f32) (b3 : FVec Ideal S16 .f32) (W4 : FVec Ideal S16x1 .f32) (b4 : FVec Ideal S1 .f32) : FVec Ideal S4096x1 .f32 :=
  Host.divf (broadcastInDim S4096x1 ![] bcast_S_S4096x1 (constant S_ .f32 0x3F800000#32))
    (addf (broadcastInDim S4096x1 ![] bcast_S_S4096x1 (constant S_ .f32 0x3F800000#32)) (Host.exp (Host.negf
      (addf (Host.dotGeneral dot_S4096x16_S16x1_S4096x1_1_0_0_1_n_n none
        (maximumf (addf (Host.dotGeneral dot_S4096x64_S64x16_S4096x16_1_0_0_1_n_n none
          (maximumf (addf (Host.dotGeneral dot_S4096x128_S128x64_S4096x64_1_0_0_1_n_n none
            (maximumf (addf (Host.dotGeneral dot_S4096x300_S300x128_S4096x128_1_0_0_1_n_n none X W1)
              (broadcastInDim S4096x128 ![0, 1] bcast_S1x128_S4096x128_0_1 (broadcastInDim S1x128 ![1] bcast_S128_S1x128_1 b1)))
              (broadcastInDim S4096x128 ![] bcast_S_S4096x128 (constant S_ .f32 0x00000000#32))) W2)
            (broadcastInDim S4096x64 ![0, 1] bcast_S1x64_S4096x64_0_1 (broadcastInDim S1x64 ![1] bcast_S64_S1x64_1 b2)))
            (broadcastInDim S4096x64 ![] bcast_S_S4096x64 (constant S_ .f32 0x00000000#32))) W3)
          (broadcastInDim S4096x16 ![0, 1] bcast_S1x16_S4096x16_0_1 (broadcastInDim S1x16 ![1] bcast_S16_S1x16_1 b3)))
          (broadcastInDim S4096x16 ![] bcast_S_S4096x16 (constant S_ .f32 0x00000000#32))) W4)
        (broadcastInDim S4096x1 ![0, 1] bcast_S1x1_S4096x1_0_1 (broadcastInDim S1x1 ![1] bcast_S1_S1x1_1 b4))))))

theorem signed (v : BitVec 32) (h : v.toNat < 1000000) : v.toInt = (v.toNat : ℤ) := by
  have hc := BitVec.toInt_eq_toNat_cond v
  split at hc <;> omega

theorem not_neg (v : BitVec 32) (h : v.toNat < 1000000) : IntOp.cmpi .slt v 0#32 = 0#1 := by
  have e : v.slt 0#32 = false := by
    have := signed v h
    simp only [BitVec.slt, BitVec.toInt_zero, decide_eq_false_iff_not]
    omega
  show BitVec.ofBool (v.slt 0#32) = 0#1
  rw [e]; rfl

theorem inside (v : BitVec 32) (h : v.toNat < 1000000) : IntOp.andi (IntOp.cmpi .sge v 0#32) (IntOp.cmpi .sle v 999999#32) = 1#1 := by
  have s := signed v h
  have e0 : (0#32).sle v = true := by
    simp only [BitVec.sle, BitVec.toInt_zero, decide_eq_true_eq]; omega
  have e1 : v.sle 999999#32 = true := by
    have : (999999#32).toInt = 999999 := by decide
    simp only [BitVec.sle, this, decide_eq_true_eq]; omega
  show IntOp.andi (BitVec.ofBool ((0#32).sle v)) (BitVec.ofBool (v.sle 999999#32)) = 1#1
  rw [e0, e1]; rfl

variable (hI : ∀ x, (I x).toNat < 1000000)

include hI

theorem wrapped_apply (x : S4096x50x1.Idx) : wrapped I x = I (ix2 (x 0) (x 1)) := by
  unfold wrapped
  rw [show select (cmpi .slt I (broadcastInDim S4096x50 ![] bcast_S_S4096x50 (constantI S_ 32 0#32)))
    (addi I (broadcastInDim S4096x50 ![] bcast_S_S4096x50 (constantI S_ 32 1000000#32))) I = I from funext fun y => by
      show Scalar.select (IntOp.cmpi .slt (I y) 0#32) _ _ = _
      rw [not_neg _ (hI y)]; rfl]
  exact congrArg I (by
    funext a
    match a with
    | ⟨0, _⟩ => rfl
    | ⟨1, _⟩ => rfl)

theorem mask_apply (y : S4096x50.Idx) :
    Host.reduce IntOp.andi (andi (cmpi .sge (wrapped I) (broadcastInDim S4096x50x1 ![] bcast_S_S4096x50x1 (constantI S_ 32 0#32)))
        (cmpi .sle (wrapped I) (broadcastInDim S4096x50x1 ![0, 1, 2] bcast_S1x1x1_S4096x50x1_0_1_2 (broadcastInDim S1x1x1 ![2] bcast_S1_S1x1x1_2 (constantI S1 32 999999#32)))))
        (constantI S_ 1 1#1) reducesTo_S4096x50x1_S4096x50_d2 h_S_ y = 1#1 := by
  unfold Host.reduce
  refine and_all _ _ fun n => ?_
  show IntOp.andi (IntOp.cmpi .sge (wrapped I _) 0#32) (IntOp.cmpi .sle (wrapped I _) 999999#32) = 1#1
  rw [wrapped_apply I hI]
  exact inside _ (hI _)

theorem gathered (x : S4096x50x300.Idx) :
    Host.gather gather_S1000000x300_S4096x50x1_S4096x50x300_2_0_n_n_0_2_1300 T (wrapped I) x
      = T (ix2 (Fin.ofNat 1000000 (I (ix2 (x 0) (x 1))).toNat) (x 2)) := by
  have hv := hI (ix2 (x 0) (x 1))
  have hs := signed _ hv
  have s0 : gather_S1000000x300_S4096x50x1_S4096x50x300_2_0_n_n_0_2_1300.start x (wrapped I) 0 = (I (ix2 (x 0) (x 1))).toNat := by
    unfold GatherDims.start
    rw [dif_pos (show (0 : Fin 2) ∈ gather_S1000000x300_S4096x50x1_S4096x50x300_2_0_n_n_0_2_1300.startIndexMap from List.mem_singleton.mpr rfl),
      wrapped_apply I hI]
    have e : ∀ v : BitVec 32, v = I (ix2 (x 0) (x 1)) → min v.toInt.toNat 999999 = (I (ix2 (x 0) (x 1))).toNat := fun v e => by
      subst e; omega
    exact e _ rfl
  have s1 : gather_S1000000x300_S4096x50x1_S4096x50x300_2_0_n_n_0_2_1300.start x (wrapped I) 1 = 0 := by
    unfold GatherDims.start
    exact dif_neg (show ¬(1 : Fin 2) ∈ ([0] : List (Fin 2)) by decide)
  have o1 : gather_S1000000x300_S4096x50x1_S4096x50x300_2_0_n_n_0_2_1300.offCoord x 1 = (x 2).val := by
    unfold GatherDims.offCoord
    rw [dif_pos ((GatherDims.mem_sKept _ _).mpr ⟨show ¬(1 : Fin 2) ∈ ([0] : List (Fin 2)) by decide, List.not_mem_nil⟩)]
    rfl
  unfold Host.gather
  refine congrArg T (funext fun a => Fin.ext ?_)
  match a with
  | ⟨0, _⟩ =>
    show GatherDims.start _ x (wrapped I) 0 + GatherDims.batchCoord _ x 0 + GatherDims.offCoord _ x 0 = (I (ix2 (x 0) (x 1))).toNat % 1000000
    rw [s0, GatherDims.batchCoord_eq_zero _ _ _ List.not_mem_nil,
      GatherDims.offCoord_eq_zero _ _ _ (fun h => ((GatherDims.mem_sKept _ _).mp h).1 (List.mem_singleton.mpr rfl))]
    omega
  | ⟨1, _⟩ =>
    show GatherDims.start _ x (wrapped I) 1 + GatherDims.batchCoord _ x 1 + GatherDims.offCoord _ x 1 = (x 2).val
    rw [s1, o1, GatherDims.batchCoord_eq_zero _ _ _ List.not_mem_nil]
    omega

theorem rows_apply (x : S4096x50x300.Idx) : rows T I x = T (ix2 (Fin.ofNat 1000000 (I (ix2 (x 0) (x 1))).toNat) (x 2)) := by
  unfold rows
  show Scalar.select (Host.reduce _ _ _ _ _ _) (Host.gather _ T _ x) _ = _
  rw [mask_apply I hI, gathered T I hI]
  rfl

set_option maxRecDepth 16384 in
theorem mean_apply (j : S4096x300.Idx) : mean T I j = meanAt T I (j 0) (j 1) := by
  unfold mean
  pointwise [ofBits_50]
  rw [Ideal.div_coe (by norm_num), one_div]
  simp only [rows_apply T I hI]
  rfl

end Cert.Alg

end
-- ==== Proof.Alg.Pooled.lean ====
/-
  The pooled rows: in the table's columns the mean of the rows a bag names, past them zeros.
-/
module

public import proofs.«01_k».proof.Proof.KI.Pay
public import proofs.«01_k».proof.Proof.Alg.Tail
public import proofs.«01_k».proof.Proof.Alg.Mean

@[expose] public section

noncomputable section

namespace Cert.KernelIdeal.Pool

open Cert.KernelIdeal Cert.KernelIdeal.Gen
open Idealize.ShloMosaic Idealize.ShloMosaic.TcCoe
open Cert.Alg (meanAt)

/-- The constant the kernel scales by is a fiftieth. -/
theorem lenC_eq : lenC (F := Ideal) = ((50⁻¹ : ℝ) : EReal) := IdealRules.named_const.ideal_named_scalar _ _ _ _ rfl

/-- A running sum over the rows, as a sum. -/
theorem rSum_eq (X : S50x128.Idx → Ideal .f32) (j n : ℕ) :
    rSum (F := Ideal) X j n = ∑ k ∈ Finset.range n, (X (ix2 (Fin.ofNat 50 k) (Fin.ofNat 128 j)) : EReal) := by
  induction n with
  | zero => exact Ideal.ofBits_zero_f32
  | succ n ih => rw [Finset.sum_range_succ, ← ih]; rfl

theorem rSum_gath (X : S1000000x128.Idx → Ideal .f32) (l : Fin 50 → BitVec 32) (j : ℕ) (hj : j < 128) :
    rSum (F := Ideal) (gath X l) j 50 = ∑ k : Fin 50, (X (ix2 (Fin.ofNat 1000000 (l k).toNat) ⟨j, hj⟩) : EReal) := by
  rw [rSum_eq, Finset.sum_range]
  refine Finset.sum_congr rfl fun k _ => ?_
  show X (ix2 (Fin.ofNat 1000000 (l (Fin.ofNat 50 k.val)).toNat) (Fin.ofNat 128 j)) = _
  rw [show Fin.ofNat 50 k.val = k from Fin.ext (Nat.mod_eq_of_lt k.isLt), show Fin.ofNat 128 j = ⟨j, hj⟩ from Fin.ext (Nat.mod_eq_of_lt hj)]

variable (m : (ℓ : Loc nD τ sig) → Buf (Elt Ideal) ℓ) (d : Dev nD)

theorem srcA_apply (r : Fin 1000000) (j : Fin 128) :
    (srcA tV).view.read (Elt Ideal) (m (tLoc d)) (ix2 r j) = m (tLoc d) (ix2 r ⟨j.val, by omega⟩) := by
  rw [View.read_apply]
  refine (cast_eq _ _).trans (congrArg (m (tLoc d)) (funext fun a => Fin.ext ?_))
  match a with
  | ⟨0, _⟩ => show 0 + 1 * r.val = r.val; omega
  | ⟨1, _⟩ => show 0 + 1 * j.val = j.val; omega

theorem srcB_apply (r : Fin 1000000) (j : Fin 128) :
    (srcB tV).view.read (Elt Ideal) (m (tLoc d)) (ix2 r j) = m (tLoc d) (ix2 r ⟨128 + j.val, by omega⟩) := by
  rw [View.read_apply]
  refine (cast_eq _ _).trans (congrArg (m (tLoc d)) (funext fun a => Fin.ext ?_))
  match a with
  | ⟨0, _⟩ => show 0 + 1 * r.val = r.val; omega
  | ⟨1, _⟩ => show 128 + 1 * j.val = 128 + j.val; omega

theorem srcC_apply (f : Buf (Elt Ideal) (lLoc d)) (r : Fin 1000000) (j : Fin 128) :
    (srcC lV).view.read (Elt Ideal) f (ix2 r j) = f (ix2 r j) := by
  rw [View.read_apply]
  refine (cast_eq _ _).trans (congrArg f (funext fun a => Fin.ext ?_))
  match a with
  | ⟨0, _⟩ => show 0 + 1 * r.val = r.val; omega
  | ⟨1, _⟩ => show 0 + 1 * j.val = j.val; omega

/-- The indices a tile reads for a row of its block are the row's. -/
theorem idx_apply (b : Fin 4096) (k : Fin 50) :
    (idxRows (tileOf b) iV).view.read (Elt Ideal) (m (iLoc d)) (ix2 (Fin.ofNat 128 (b.val % 128)) k) = m (iLoc d) (ix2 b k) := by
  have e0 : k1_off1 (tileOf b) 0 = 256 * (b.val / 256) + 128 * (b.val / 128 % 2) := congrFun (k1_off1_eq (tileOf b)) 0
  have e1 : k1_off1 (tileOf b) 1 = 0 := congrFun (k1_off1_eq (tileOf b)) 1
  rw [View.read_apply]
  refine (cast_eq _ _).trans (congrArg (m (iLoc d)) (funext fun a => Fin.ext ?_))
  match a with
  | ⟨0, _⟩ => show k1_off1 (tileOf b) 0 + 1 * (b.val % 128 % 128) = b.val; omega
  | ⟨1, _⟩ => show k1_off1 (tileOf b) 1 + 1 * k.val = k.val; omega

theorem pooled_apply (b : Fin 4096) (j : Fin 304) :
    pooled (F := Ideal) m d (ix2 b j) = if h : j.val < 300 then meanAt (m (tLoc d)) (m (iLoc d)) b ⟨j.val, h⟩ else 0 := by
  have hj := j.isLt
  show tileVal (tileOf b) d iV tV lV (m (tLoc d)) (fL m d) (m (iLoc d)) (b.val % 128) j.val = _
  unfold tileVal
  rw [show (fun k => (idxRows (tileOf b) iV).view.read (Elt Ideal) (m (iLoc d)) (ix2 (Fin.ofNat 128 (b.val % 128)) k)) = fun k => m (iLoc d) (ix2 b k) from
    funext (idx_apply m d b)]
  unfold rowVal
  rw [lenC_eq]
  show (_ : EReal) * _ = _
  by_cases hA : j.val < 128
  · rw [if_pos hA, dif_pos (by omega), rSum_gath _ _ _ hA]
    unfold meanAt
    exact congrArg (fun z : EReal => z * ((50⁻¹ : ℝ) : EReal)) (Finset.sum_congr rfl fun k _ => srcA_apply m d _ _)
  by_cases hB : j.val < 256
  · rw [if_neg hA, if_pos hB, dif_pos (by omega), rSum_gath _ _ _ (by omega)]
    unfold meanAt
    exact congrArg (fun z : EReal => z * ((50⁻¹ : ℝ) : EReal)) (Finset.sum_congr rfl fun k _ =>
      (srcB_apply m d _ _).trans (congrArg (m (tLoc d)) (congrArg (ix2 _) (Fin.ext (show 128 + (j.val - 128) = j.val by omega)))))
  rw [if_neg hA, if_neg hB, rSum_gath _ _ _ (by omega)]
  have hf : fL m d = Tail.tailOf (m (tLoc d)) := Tail.out_eq _ _ _ _
  by_cases hC : j.val < 300
  · rw [dif_pos hC]
    unfold meanAt
    refine congrArg (fun z : EReal => z * ((50⁻¹ : ℝ) : EReal)) (Finset.sum_congr rfl fun k _ => (srcC_apply d _ _ _).trans ?_)
    rw [hf]
    unfold Tail.tailOf
    refine (dif_pos (show j.val - 256 < 44 by omega)).trans ?_
    exact congrArg (m (tLoc d)) (congrArg (ix2 _) (Fin.ext (show 256 + (j.val - 256) = j.val by omega)))
  · rw [dif_neg hC]
    refine Eq.trans (congrArg (fun z : EReal => z * ((50⁻¹ : ℝ) : EReal)) (Finset.sum_eq_zero fun k _ => (srcC_apply d _ _ _).trans ?_)) (zero_mul _)
    rw [hf]
    unfold Tail.tailOf
    exact dif_neg (show ¬ j.val - 256 < 44 by omega)

end Cert.KernelIdeal.Pool

end
-- ==== Proof.Alg.Layers.lean ====
/-
  The second kernel computes the reference's layers: the four columns the pooled rows are padded by meet rows of zeros.
-/
module

public import proofs.«01_k».proof.Proof.Gen.KernelIdeal.Skeleton
public import proofs.«01_k».proof.Proof.Alg.Mean

@[expose] public section

noncomputable section

namespace Cert.Alg

open Cert.KernelIdeal Cert.KernelIdeal.Gen
open Idealize.ShloMosaic

/-- A sum over 304 columns of which the last four are zeros. -/
theorem sum_padded (f : Fin 304 → EReal) (g : Fin 300 → EReal) (h : ∀ k : Fin 304, f k = if h : k.val < 300 then g ⟨k.val, h⟩ else 0) :
    ∑ k, f k = ∑ k, g k := by
  rw [show ∑ k, f k = ∑ k : Fin (300 + 4), f k from rfl, Fin.sum_univ_add]
  rw [show (∑ k : Fin 4, f (Fin.natAdd 300 k)) = 0 from Finset.sum_eq_zero fun k _ => by
    rw [h]; exact dif_neg (by simp)]
  rw [add_zero]
  refine Finset.sum_congr rfl fun k _ => ?_
  rw [h]
  exact dif_pos k.isLt

variable (P : (⟨2, ![4096, 304]⟩ : Shape).Idx → EReal) (W1p : (⟨2, ![304, 128]⟩ : Shape).Idx → EReal) (c1 : FVec Ideal S1x128 .f32) (W2 : FVec Ideal S128x64 .f32) (c2 : FVec Ideal S1x64 .f32)
  (W3 : FVec Ideal S64x16 .f32) (c3 : FVec Ideal S1x16 .f32) (W4 : FVec Ideal S16x1 .f32) (c4 : FVec Ideal S1x1 .f32)
variable (X : (⟨2, ![4096, 300]⟩ : Shape).Idx → EReal) (W1 : (⟨2, ![300, 128]⟩ : Shape).Idx → EReal) (b1 : FVec Ideal ⟨1, ![128]⟩ .f32) (b2 : FVec Ideal ⟨1, ![64]⟩ .f32)
  (b3 : FVec Ideal ⟨1, ![16]⟩ .f32) (b4 : FVec Ideal ⟨1, ![1]⟩ .f32)

set_option maxRecDepth 16384 in
theorem layers_eq (hP : ∀ (b : Fin 4096) (j : Fin 304), P (ix2 b j) = if h : j.val < 300 then X (ix2 b ⟨j.val, h⟩) else 0)
    (hW : ∀ (j : Fin 304) (l : Fin 128), W1p (ix2 j l) = if h : j.val < 300 then W1 (ix2 ⟨j.val, h⟩ l) else 0)
    (h1 : ∀ l : Fin 128, c1 (ix2 0 l) = b1 (ix1 l)) (h2 : ∀ l : Fin 64, c2 (ix2 0 l) = b2 (ix1 l))
    (h3 : ∀ l : Fin 16, c3 (ix2 0 l) = b3 (ix1 l)) (h4 : ∀ l : Fin 1, c4 (ix2 0 l) = b4 (ix1 l)) :
    k2_pay1 P W1p c1 W2 c2 W3 c3 W4 c4 = layers X W1 b1 W2 b2 W3 b3 W4 b4 := by
  have hs : ∀ (b : Fin 4096) (l : Fin 128), ∑ k : Fin 304, P (ix2 b k) * W1p (ix2 k l) = ∑ k : Fin 300, X (ix2 b k) * W1 (ix2 k l) := fun b l =>
    sum_padded _ _ fun k => by
      rw [hP, hW]
      by_cases h : k.val < 300
      · rw [dif_pos h, dif_pos h, dif_pos h]
      · rw [dif_neg h, dif_neg h, dif_neg h, mul_zero]
  have e : matmul dot_S4096x304_S304x128_S4096x128_1_0_0_1_n_n none (shapeCast S4096x304 P shapeCasts_S4096x304_S4096x304 : FVec Ideal S4096x304 .f32)
      (shapeCast S304x128 W1p shapeCasts_S304x128_S304x128 : FVec Ideal S304x128 .f32) (constant S4096x128 .f32 0x00000000#32)
      = Host.dotGeneral (F := Ideal) (φ₁ := .f32) (φ₂ := .f32) Cert.ReferenceIdeal.dot_S4096x300_S300x128_S4096x128_1_0_0_1_n_n none X W1 := by
    funext j
    pointwise
    exact hs (j 0) (j 1)
  unfold k2_pay1 layers
  dsimp only
  rw [e]
  funext j
  pointwise
  simp only [h1, h2, h3, h4]
  rfl

end Cert.Alg

end
-- ==== Proof.Alg.Equal.lean ====
/-
  The kernel and the reference over the extended reals leave the same result: what the last call computes is the
  reference's layers of the mean rows.
-/
module

public import proofs.«01_k».proof.Defs
public import proofs.«01_k».proof.Proof.KI.Frame
public import proofs.«01_k».proof.Proof.Alg.Pooled
public import proofs.«01_k».proof.Proof.Alg.Layers
public import proofs.«01_k».proof.Proof.Gen.ReferenceIdeal.Run
public import Idealize.ShloMosaic.Lib.StableHlo.Run
public import Idealize.ShloMosaic.Lib.KernelVsHost

@[expose] public section

noncomputable section

namespace Cert.KernelIdeal.Pool

open Cert.KernelIdeal Cert.KernelIdeal.Gen
open Idealize.ShloMosaic Idealize.ShloMosaic.TcCoe
open Idealize.ShloMosaic.SparseCore.Cfg (HIx)
open Idealize.SL.Sem
open Cert.Alg

/-! ## The last call's arrays, each staged whole -/

namespace Mlp

variable (O : CellTallies nD τ sig (HIx 1)) (b : ℕ)
variable (V : (c : Dev nD) → (b : Ref sig .tc) → Buf (Elt Ideal) ((c : Thread nD τ).loc b))

theorem stg_eq (c : Dev nD) : stg V c 0 = V c main_v1 ∧ stg V c 1 = V c main_v2 ∧ stg V c 2 = V c main_v3 ∧ stg V c 3 = V c main_arg4
    ∧ stg V c 4 = V c main_v4 ∧ stg V c 5 = V c main_arg6 ∧ stg V c 6 = V c main_v5 ∧ stg V c 7 = V c main_arg8 ∧ stg V c 8 = V c main_v6 := by
  unfold stg
  refine ⟨?_, ?_, ?_, ?_, ?_, ?_, ?_, ?_, ?_⟩ <;>
  · funext x
    rw [View.read_apply]
    refine (cast_eq _ _).trans (congrArg (V c _) (funext fun a => Fin.ext ?_))
    match a with
    | ⟨0, _⟩ => show 0 * _ + 1 * (x 0).val = (x 0).val; omega
    | ⟨1, _⟩ => show 0 * _ + 1 * (x 1).val = (x 1).val; omega

theorem emb_eq (x : S4096x1.Idx) : ((cfg2.win 9).blk t2_0).view.emb x = x := funext fun a => Fin.ext (by
  match a with
  | ⟨0, _⟩ => show 0 * _ + 1 * (x 0).val = (x 0).val; omega
  | ⟨1, _⟩ => show 0 * _ + 1 * (x 1).val = (x 1).val; omega)

theorem out_eq (c : Dev nD) : out O b V c = res V c := by
  unfold out
  refine (dat O b V c).arrAt_eq_of_cover 9 (res V c) (fun t _ => funext fun x => ?_) fun i => ⟨t2_0, flush2_9 _, ?_⟩
  · obtain rfl := fin_N2 t
    rw [View.read_apply]
    refine Eq.trans ?_ (cast_eq _ _).symm
    exact congrArg (res V c) (emb_eq x).symm
  · have hm := ((cfg2.win 9).blk t2_0).view.emb_mem_set i
    rw [show ((cfg2.win 9).blk t2_0).view.emb i = i from emb_eq i] at hm
    exact hm

end Mlp

/-! ## What the host's operations leave -/

variable (m : (ℓ : Loc nD τ sig) → Buf (Elt Ideal) ℓ) (c : Dev nD)

theorem W2_arg (b : Ref sig .tc) (h : r b ∉ outs) : W2 m c (r b) = m ((c.tc : Thread nD τ).loc b) := by
  simp only [outs, Finset.mem_union, Finset.mem_insert, Finset.mem_singleton, not_or] at h
  obtain ⟨⟨-, h1, h0⟩, -⟩ := h
  unfold W2
  rw [Function.update_of_ne h1]
  unfold W1
  rw [Function.update_of_ne h0]
  rfl

theorem V3_arg (b : Ref sig .tc) (h : r b ∉ outs) : V3 m c b = m ((c.tc : Thread nD τ).loc b) :=
  (W3_of_not_mem m c _ fun e => h (Finset.mem_union_right _ e)).trans (W2_arg m c b h)

theorem V3_pooled : V3 m c main_v1 = pooled m c := by
  unfold V3
  rw [W3_of_not_mem m c _ (by decide)]
  exact Function.update_self _ _ _

open Idealize.ShloMosaic.StableHlo in
theorem W3_after : W3 m c = StableHlo.after [opC, opS, opP, op3, op4, op5, op6] (W2 m c) := rfl

open Idealize.ShloMosaic.StableHlo in
set_option maxRecDepth 16384 in
/-- The first layer's weights, padded below by rows of zeros. -/
theorem V3_weights (j : Fin 304) (l : Fin 128) :
    V3 m c main_v2 (ix2 j l) = if h : j.val < 300 then m ((c.tc : Thread nD τ).loc main_arg2) (ix2 ⟨j.val, h⟩ l) else (0 : EReal) := by
  have e : V3 m c main_v2 = pad (s := S300x128) (α := EReal) S304x128 ![0, 0] ![4, 0] ![0, 0] (m ((c.tc : Thread nD τ).loc main_arg2))
      (sitofp (F := Ideal) .f32 (constantI S_ 32 0#32)) pads_S300x128_S304x128_040_000 h_S_ := by
    unfold V3
    rw [W3_after]
    after_results
    rw [W2_arg m c main_arg2 (by decide)]
    rfl
  rw [e]
  by_cases h : j.val < 300
  · rw [dif_pos h]
    refine pad_apply_of_inside _ _ _ _ _ _ _ _ (ix2 (⟨j.val, h⟩ : Fin 300) l) fun a => ?_
    match a with
    | ⟨0, _⟩ => show j.val = 0 + j.val * (0 + 1); omega
    | ⟨1, _⟩ => show l.val = 0 + l.val * (0 + 1); omega
  · rw [dif_neg h]
    refine (pad_apply_of_not_inside _ _ _ _ _ _ _ _ (0 : Fin 2) fun hin => h ?_).trans ?_
    · have h3 : (j.val - 0) / (0 + 1) < 300 := hin.2.2
      omega
    · show (((0#32 : BitVec 32).toInt : ℝ) : EReal) = 0
      simp

open Idealize.ShloMosaic.StableHlo in
/-- The biases, each as one row. -/
theorem V3_biases : (∀ l : Fin 128, V3 m c main_v3 (ix2 0 l) = m ((c.tc : Thread nD τ).loc main_arg3) (ix1 l))
    ∧ (∀ l : Fin 64, V3 m c main_v4 (ix2 0 l) = m ((c.tc : Thread nD τ).loc main_arg5) (ix1 l))
    ∧ (∀ l : Fin 16, V3 m c main_v5 (ix2 0 l) = m ((c.tc : Thread nD τ).loc main_arg7) (ix1 l))
    ∧ (∀ l : Fin 1, V3 m c main_v6 (ix2 0 l) = m ((c.tc : Thread nD τ).loc main_arg9) (ix1 l)) := by
  have key : ∀ {n : ℕ} (x : (⟨1, ![n]⟩ : Shape).Idx → EReal) (h : (⟨1, ![n]⟩ : Shape).ShapeCasts ⟨2, ![1, n]⟩) (l : Fin n),
      shapeCast ⟨2, ![1, n]⟩ x h (ix2 0 l) = x (ix1 l) := fun x h l =>
    (shapeCast_addUnit_apply (n := 1) ![_] x h (ix2 0 l)).trans (congrArg x (funext fun a => by match a with | ⟨0, _⟩ => rfl))
  unfold V3
  rw [W3_after]
  refine ⟨fun l => ?_, fun l => ?_, fun l => ?_, fun l => ?_⟩
  · after_results
    exact (key _ _ l).trans (congrFun (W2_arg m c main_arg3 (by decide)) _)
  · after_results
    exact (key _ _ l).trans (congrFun (W2_arg m c main_arg5 (by decide)) _)
  · after_results
    exact (key _ _ l).trans (congrFun (W2_arg m c main_arg7 (by decide)) _)
  · after_results
    exact (key _ _ l).trans (congrFun (W2_arg m c main_arg9 (by decide)) _)

/-! ## The result -/

/-- The last call's result: the reference's layers of the mean rows. -/
theorem out_layers (h : PreOK m) : W4 m c c (r main_v7) = layers (mean (m (tLoc c)) (m (iLoc c))) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) := by
  obtain ⟨e0, e1, e2, e3, e4, e5, e6, e7, e8⟩ := Mlp.stg_eq (V3 m) c
  obtain ⟨b1, b2, b3, b4⟩ := V3_biases m c
  refine (Function.update_self _ _ _).trans ((Mlp.out_eq _ _ _ c).trans ?_)
  unfold Mlp.res
  rw [e0, e1, e2, e3, e4, e5, e6, e7, e8, V3_pooled, V3_arg m c main_arg4 (by decide), V3_arg m c main_arg6 (by decide), V3_arg m c main_arg8 (by decide)]
  refine layers_eq _ _ _ _ _ _ _ _ _ _ _ _ _ _ _ (fun b j => ?_) (V3_weights m c) b1 b2 b3 b4
  refine (pooled_apply m c b j).trans ?_
  by_cases hj : j.val < 300
  · rw [dif_pos hj, dif_pos hj]
    exact (mean_apply _ _ (h c) (ix2 b ⟨j.val, hj⟩)).symm
  · rw [dif_neg hj, dif_neg hj]

theorem algebraic : Cert.algebraic_KernelIdeal_ReferenceIdeal := by
  intro m g m' g' hpre hagree
  refine ⟨fun c => W4 m c c (r main_v7), (θ_run _ _ _).mono (fun _ h c => ⟨QC_at h c main_v7 (by decide), QC_arg h c main_arg0 (by decide) (by decide),
      QC_arg h c main_arg1 (by decide) (by decide), QC_arg h c main_arg2 (by decide) (by decide), QC_arg h c main_arg3 (by decide) (by decide),
      QC_arg h c main_arg4 (by decide) (by decide), QC_arg h c main_arg5 (by decide) (by decide), QC_arg h c main_arg6 (by decide) (by decide),
      QC_arg h c main_arg7 (by decide) (by decide), QC_arg h c main_arg8 (by decide) (by decide), QC_arg h c main_arg9 (by decide) (by decide)⟩)
      (run_main (F := Ideal) m g (ok_of_pre m hpre)),
    (θ_run _ _ _).mono (fun _ h c => ⟨(h c).1.trans ?_, (h c).2⟩) (Cert.ReferenceIdeal.Value.run (F := Ideal) m' g')⟩
  refine Eq.trans ?_ (out_layers m c (ok_of_pre m hpre)).symm
  obtain ⟨a0, a1, a2, a3, a4, a5, a6, a7, a8, a9⟩ := hagree c
  rw [a0, a1, a2, a3, a4, a5, a6, a7, a8, a9]
  rfl

end Cert.KernelIdeal.Pool

end
-- ==== Proof.lean ====
module

public import proofs.«01_k».proof.Defs
public import proofs.«01_k».proof.Proof.K.Frame
public import proofs.«01_k».proof.Proof.KI.Frame
public import proofs.«01_k».proof.Proof.Claims
public import proofs.«01_k».proof.Proof.Alg.Equal
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_vocab.Gen.facts,
    Cert.Kernel.Pool.frame, Cert.KernelIdeal.Pool.frame, Claims.frame_ri, Claims.frame_ri_pre, Claims.preserves,
    Cert.KernelIdeal.Pool.algebraic⟩

end Cert.Proof

end
